-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v8) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v92) = v0 c
          ∧ r.2.mem ((c.tc : Thread Cert.FfnRefIdeal.nD Cert.FfnRefIdeal.τ).loc Cert.FfnRefIdeal.main_v91) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Proj_ProjIdeal : Prop :=
  True

def algebraic_ProjIdeal_ProjRefIdeal_pre_finite_proj [hProjIdeal : Cert.ProjIdeal.Facts] [hProjRefIdeal : Cert.ProjRefIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_proj m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v200_0)) (v1 : (c : Dev Cert.ProjIdeal.nD) → Buf (Elt Ideal) ((c.tc : Thread Cert.ProjIdeal.nD Cert.ProjIdeal.τ).loc Cert.ProjIdeal.main_v200_1)) (v2 : (c : Dev Cert.ProjIdeal.nD) → Buf (Elt Ideal) ((c.tc : Thread Cert.ProjIdeal.nD Cert.ProjIdeal.τ).loc Cert.ProjIdeal.main_v200_2)) (v3 : (c : Dev Cert.ProjIdeal.nD) → Buf (Elt Ideal) ((c.tc : Thread Cert.ProjIdeal.nD Cert.ProjIdeal.τ).loc Cert.ProjIdeal.main_v200_3)) (v4 : (c : Dev Cert.ProjIdeal.nD) → Buf (Elt Ideal) ((c.tc : Thread Cert.ProjIdeal.nD Cert.ProjIdeal.τ).loc Cert.ProjIdeal.main_v200_4)) (v5 : (c : Dev Cert.ProjIdeal.nD) → Buf (Elt Ideal) ((c.tc : Thread Cert.ProjIdeal.nD Cert.ProjIdeal.τ).loc Cert.ProjIdeal.main_v200_5)) (v6 : (c : Dev Cert.ProjIdeal.nD) → Buf (Elt Ideal) ((c.tc : Thread Cert.ProjIdeal.nD Cert.ProjIdeal.τ).loc Cert.ProjIdeal.main_v200_6)) (v7 : (c : Dev Cert.ProjIdeal.nD) → Buf (Elt Ideal) ((c.tc : Thread Cert.ProjIdeal.nD Cert.ProjIdeal.τ).loc Cert.ProjIdeal.main_v200_7)) (v8 : (c : Dev Cert.ProjIdeal.nD) → Buf (Elt Ideal) ((c.tc : Thread Cert.ProjIdeal.nD Cert.ProjIdeal.τ).loc Cert.ProjIdeal.main_v200_8)) (v9 : (c : Dev Cert.ProjIdeal.nD) → Buf (Elt Ideal) ((c.tc : Thread Cert.ProjIdeal.nD Cert.ProjIdeal.τ).loc Cert.ProjIdeal.main_v200_9)) (v10 : (c : Dev Cert.ProjIdeal.nD) → Buf (Elt Ideal) ((c.tc : Thread Cert.ProjIdeal.nD Cert.ProjIdeal.τ).loc Cert.ProjIdeal.main_v200_10)) (v11 : (c : Dev Cert.ProjIdeal.nD) → Buf (Elt Ideal) ((c.tc : Thread Cert.ProjIdeal.nD Cert.ProjIdeal.τ).loc Cert.ProjIdeal.main_v200_11)) (v12 : (c : Dev Cert.ProjIdeal.nD) → Buf (Elt Ideal) ((c.tc : Thread Cert.ProjIdeal.nD Cert.ProjIdeal.τ).loc Cert.ProjIdeal.main_v200_12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v200_0) = v0 c
          ∧ r.2.mem ((c.tc : Thread Cert.ProjIdeal.nD Cert.ProjIdeal.τ).loc Cert.ProjIdeal.main_v200_1) = v1 c
          ∧ r.2.mem ((c.tc : Thread Cert.ProjIdeal.nD Cert.ProjIdeal.τ).loc Cert.ProjIdeal.main_v200_2) = v2 c
          ∧ r.2.mem ((c.tc : Thread Cert.ProjIdeal.nD Cert.ProjIdeal.τ).loc Cert.ProjIdeal.main_v200_3) = v3 c
          ∧ r.2.mem ((c.tc : Thread Cert.ProjIdeal.nD Cert.ProjIdeal.τ).loc Cert.ProjIdeal.main_v200_4) = v4 c
          ∧ r.2.mem ((c.tc : Thread Cert.ProjIdeal.nD Cert.ProjIdeal.τ).loc Cert.ProjIdeal.main_v200_5) = v5 c
          ∧ r.2.mem ((c.tc : Thread Cert.ProjIdeal.nD Cert.ProjIdeal.τ).loc Cert.ProjIdeal.main_v200_6) = v6 c
          ∧ r.2.mem ((c.tc : Thread Cert.ProjIdeal.nD Cert.ProjIdeal.τ).loc Cert.ProjIdeal.main_v200_7) = v7 c
          ∧ r.2.mem ((c.tc : Thread Cert.ProjIdeal.nD Cert.ProjIdeal.τ).loc Cert.ProjIdeal.main_v200_8) = v8 c
          ∧ r.2.mem ((c.tc : Thread Cert.ProjIdeal.nD Cert.ProjIdeal.τ).loc Cert.ProjIdeal.main_v200_9) = v9 c
          ∧ r.2.mem ((c.tc : Thread Cert.ProjIdeal.nD Cert.ProjIdeal.τ).loc Cert.ProjIdeal.main_v200_10) = v10 c
          ∧ r.2.mem ((c.tc : Thread Cert.ProjIdeal.nD Cert.ProjIdeal.τ).loc Cert.ProjIdeal.main_v200_11) = v11 c
          ∧ r.2.mem ((c.tc : Thread Cert.ProjIdeal.nD Cert.ProjIdeal.τ).loc Cert.ProjIdeal.main_v200_12) = v12 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v330) = v0 c
          ∧ r.2.mem ((c.tc : Thread Cert.ProjRefIdeal.nD Cert.ProjRefIdeal.τ).loc Cert.ProjRefIdeal.main_v331) = v1 c
          ∧ r.2.mem ((c.tc : Thread Cert.ProjRefIdeal.nD Cert.ProjRefIdeal.τ).loc Cert.ProjRefIdeal.main_v332) = v2 c
          ∧ r.2.mem ((c.tc : Thread Cert.ProjRefIdeal.nD Cert.ProjRefIdeal.τ).loc Cert.ProjRefIdeal.main_v333) = v3 c
          ∧ r.2.mem ((c.tc : Thread Cert.ProjRefIdeal.nD Cert.ProjRefIdeal.τ).loc Cert.ProjRefIdeal.main_v334) = v4 c
          ∧ r.2.mem ((c.tc : Thread Cert.ProjRefIdeal.nD Cert.ProjRefIdeal.τ).loc Cert.ProjRefIdeal.main_v335) = v5 c
          ∧ r.2.mem ((c.tc : Thread Cert.ProjRefIdeal.nD Cert.ProjRefIdeal.τ).loc Cert.ProjRefIdeal.main_v336) = v6 c
          ∧ r.2.mem ((c.tc : Thread Cert.ProjRefIdeal.nD Cert.ProjRefIdeal.τ).loc Cert.ProjRefIdeal.main_v337) = v7 c
          ∧ r.2.mem ((c.tc : Thread Cert.ProjRefIdeal.nD Cert.ProjRefIdeal.τ).loc Cert.ProjRefIdeal.main_v338) = v8 c
          ∧ r.2.mem ((c.tc : Thread Cert.ProjRefIdeal.nD Cert.ProjRefIdeal.τ).loc Cert.ProjRefIdeal.main_v339) = v9 c
          ∧ r.2.mem ((c.tc : Thread Cert.ProjRefIdeal.nD Cert.ProjRefIdeal.τ).loc Cert.ProjRefIdeal.main_v340) = v10 c
          ∧ r.2.mem ((c.tc : Thread Cert.ProjRefIdeal.nD Cert.ProjRefIdeal.τ).loc Cert.ProjRefIdeal.main_v341) = v11 c
          ∧ r.2.mem ((c.tc : Thread Cert.ProjRefIdeal.nD Cert.ProjRefIdeal.τ).loc Cert.ProjRefIdeal.main_v342) = v12 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hPre_finite : Cert.Pre_finite.Facts) (hPre_finite_proj : Cert.Pre_finite_proj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal_pre_finite_proj (hProjIdeal := hProjIdeal) (hProjRefIdeal := hProjRefIdeal) (hPre_finite_proj := hPre_finite_proj)
-- ==== Pre_finite.lean ====
abbrev S2x8320x384 : Shape := ⟨3, ![2, 8320, 384]⟩
abbrev S_ : Shape := ⟨0, ![]⟩

class Facts : Prop where
  bcast_S_S2x8320x384 : S_.BroadcastsInDim S2x8320x384 (![] : Fin 0 → Fin S2x8320x384.rank)

variable [Facts]

def fn {F : FTy → Type} [FloatOps F] (main_arg0 : FVec F S2x8320x384 .f32) (main_arg1 : FVec F S2x8320x384 .f32) (main_arg2 : FVec F S2x8320x384 .f32) : IVec S2x8320x384 1 :=
  let main_v0 : FVec F S2x8320x384 .f32 := Host.absf main_arg0
  let main_cst : FVec F S_ .f32 := constant S_ .f32 0x7F800000#32
  let main_v1 : FVec F S2x8320x384 .f32 := broadcastInDim S2x8320x384 ![] bcast_S_S2x8320x384 main_cst
  let main_v2 : IVec S2x8320x384 1 := cmpf .olt main_v0 main_v1
  let main_v3 : FVec F S2x8320x384 .f32 := Host.absf main_arg1
  let main_cst_0 : FVec F S_ .f32 := constant S_ .f32 0x7F800000#32
  let main_v4 : FVec F S2x8320x384 .f32 := broadcastInDim S2x8320x384 ![] bcast_S_S2x8320x384 main_cst_0
  let main_v5 : IVec S2x8320x384 1 := cmpf .olt main_v3 main_v4
  let main_v6 : IVec S2x8320x384 1 := andi main_v2 main_v5
  let main_v7 : FVec F S2x8320x384 .f32 := Host.absf main_arg2
  let main_cst_1 : FVec F S_ .f32 := constant S_ .f32 0x7F800000#32
  let main_v8 : FVec F S2x8320x384 .f32 := broadcastInDim S2x8320x384 ![] bcast_S_S2x8320x384 main_cst_1
  let main_v9 : IVec S2x8320x384 1 := cmpf .olt main_v7 main_v8
  let main_v10 : IVec S2x8320x384 1 := andi main_v6 main_v9
  main_v10
-- ==== Pre_finite_proj.lean ====
abbrev S2x8320x1024 : Shape := ⟨3, ![2, 8320, 1024]⟩
abbrev S1024 : Shape := ⟨1, ![1024]⟩
abbrev S1024x4040 : Shape := ⟨2, ![1024, 4040]⟩
abbrev S64 : Shape := ⟨1, ![64]⟩
abbrev S32 : Shape := ⟨1, ![32]⟩
abbrev S_ : Shape := ⟨0, ![]⟩

class Facts : Prop where
  bcast_S_S2x8320x1024 : S_.BroadcastsInDim S2x8320x1024 (![] : Fin 0 → Fin S2x8320x1024.rank)
  reducesTo_S2x8320x1024_S_d0_1_2 : S2x8320x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4040 : S_.BroadcastsInDim S1024x4040 (![] : Fin 0 → Fin S1024x4040.rank)
  reducesTo_S1024x4040_S_d0_1 : S1024x4040.ReducesTo [0, 1] S_

variable [Facts]

def fn {F : FTy → Type} [FloatOps F] (main_arg0 : FVec F S2x8320x1024 .f32) (main_arg1 : FVec F S1024 .f32) (main_arg2 : FVec F S1024x4040 .f32) (main_arg3 : FVec F S64 .f32) (main_arg4 : FVec F S64 .f32) (main_arg5 : FVec F S32 .f32) (main_arg6 : FVec F S32 .f32) : IVec S_ 1 :=
  let main_v0 : FVec F S2x8320x1024 .f32 := Host.absf main_arg0
  let main_cst : FVec F S_ .f32 := constant S_ .f32 0x7F800000#32
  let main_v1 : FVec F S2x8320x1024 .f32 := broadcastInDim S2x8320x1024 ![] bcast_S_S2x8320x1024 main_cst
  let main_v2 : IVec S2x8320x1024 1 := cmpf .olt main_v0 main_v1
  let main_c : IVec S_ 1 := constantI S_ 1 1#1
  let main_v3 : IVec S_ 1 := (fun x v => Host.reduce IntOp.andi x v reducesTo_S2x8320x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4040 .f32 := Host.absf main_arg2
  let main_cst_2 : FVec F S_ .f32 := constant S_ .f32 0x7F800000#32
  let main_v10 : FVec F S1024x4040 .f32 := broadcastInDim S1024x4040 ![] bcast_S_S1024x4040 main_cst_2
  let main_v11 : IVec S1024x4040 1 := cmpf .olt main_v9 main_v10
  let main_c_3 : IVec S_ 1 := constantI S_ 1 1#1
  let main_v12 : IVec S_ 1 := (fun x v => Host.reduce IntOp.andi x v reducesTo_S1024x4040_S_d0_1 h_S_) main_v11 main_c_3
  let main_v13 : IVec S_ 1 := andi main_v8 main_v12
  main_v13
-- ==== Kernel.lean ====
abbrev S2x8320x384 : Shape := ⟨3, ![2, 8320, 384]⟩
abbrev S6 : Shape := ⟨1, ![6]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S6x1x1 : Shape := ⟨3, ![6, 1, 1]⟩
abbrev S6x128x128 : Shape := ⟨3, ![6, 128, 128]⟩
abbrev S6x1 : Shape := ⟨2, ![6, 1]⟩
abbrev S6x128 : Shape := ⟨2, ![6, 128]⟩
abbrev S1x6x128 : Shape := ⟨3, ![1, 6, 128]⟩
abbrev S2x6x128 : Shape := ⟨3, ![2, 6, 128]⟩
abbrev S1x6 : Shape := ⟨2, ![1, 6]⟩
abbrev S2x6 : Shape := ⟨2, ![2, 6]⟩
abbrev S6x128x1 : Shape := ⟨3, ![6, 128, 1]⟩
abbrev S6x128x64 : Shape := ⟨3, ![6, 128, 64]⟩
abbrev S2x6x128x1 : Shape := ⟨4, ![2, 6, 128, 1]⟩
abbrev S2x6x128x64 : Shape := ⟨4, ![2, 6, 128, 64]⟩
abbrev S2x6x1 : Shape := ⟨3, ![2, 6, 1]⟩
abbrev S2x6x64 : Shape := ⟨3, ![2, 6, 64]⟩
abbrev S2x6x1x64 : Shape := ⟨4, ![2, 6, 1, 64]⟩
abbrev S2x6x64x64 : Shape := ⟨4, ![2, 6, 64, 64]⟩
abbrev S1x128x384 : Shape := ⟨3, ![1, 128, 384]⟩
abbrev S1x6x64x64 : Shape := ⟨4, ![1, 6, 64, 64]⟩
abbrev S6x64x64 : Shape := ⟨3, ![6, 64, 64]⟩
abbrev S128x384 : Shape := ⟨2, ![128, 384]⟩
abbrev S128x64 : Shape := ⟨2, ![128, 64]⟩
abbrev S1x64x64 : Shape := ⟨3, ![1, 64, 64]⟩
abbrev S64x64 : Shape := ⟨2, ![64, 64]⟩
abbrev S1x128x64 : Shape := ⟨3, ![1, 128, 64]⟩
abbrev S1x1x128x64 : Shape := ⟨4, ![1, 1, 128, 64]⟩
abbrev S1x1x1x64 : Shape := ⟨4, ![1, 1, 1, 64]⟩
abbrev S1x64 : Shape := ⟨2, ![1, 64]⟩

abbrev nBuf : Space → Nat
  | .hbm => 107
  | .vmem => 17
  | .smem => 0
  | _ => 0

abbrev bufTy : (tb : Table) → Fin (tcTables nBuf tb) → BufTy
  | .hbm, ⟨0, _⟩ => ⟨S2x8320x384, .f32⟩
  | .hbm, ⟨1, _⟩ => ⟨S2x8320x384, .f32⟩
  | .hbm, ⟨2, _⟩ => ⟨S2x8320x384, .f32⟩
  | .hbm, ⟨3, _⟩ => ⟨S6, .f32⟩
  | .hbm, ⟨4, _⟩ => ⟨S_, .f32⟩
  | .hbm, ⟨5, _⟩ => ⟨S6, .f32⟩
  | .hbm, ⟨6, _⟩ => ⟨S6, .f32⟩
  | .hbm, ⟨7, _⟩ => ⟨S_, .f32⟩
  | .hbm, ⟨8, _⟩ => ⟨S6, .f32⟩
  | .hbm, ⟨9, _⟩ => ⟨S6, .f32⟩
  | .hbm, ⟨10, _⟩ => ⟨S_, .f32⟩
  | .hbm, ⟨11, _⟩ => ⟨S6, .f32⟩
  | .hbm, ⟨12, _⟩ => ⟨S6, .f32⟩
  | .hbm, ⟨13, _⟩ => ⟨S6, .f32⟩
  | .hbm, ⟨14, _⟩ => ⟨S128, .f32⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S6x1x1, .f32⟩
  | .hbm, ⟨28, _⟩ => ⟨S6x128x128, .f32⟩
  | .hbm, ⟨29, _⟩ => ⟨S6x128x128, .f32⟩
  | .hbm, ⟨30, _⟩ => ⟨S6x128x128, .f32⟩
  | .hbm, ⟨31, _⟩ => ⟨S6x128x128, .f32⟩
  | .hbm, ⟨32, _⟩ => ⟨S_, .f32⟩
  | .hbm, ⟨33, _⟩ => ⟨S_, .f32⟩
  | .hbm, ⟨34, _⟩ => ⟨S6x128x128, .i1⟩
  | .hbm, ⟨35, _⟩ => ⟨S6x128x128, .f32⟩
  | .hbm, ⟨36, _⟩ => ⟨S6x128x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S6x1, .f32⟩
  | .hbm, ⟨42, _⟩ => ⟨S6x128, .f32⟩
  | .hbm, ⟨43, _⟩ => ⟨S6x128, .f32⟩
  | .hbm, ⟨44, _⟩ => ⟨S6x128, .f32⟩
  | .hbm, ⟨45, _⟩ => ⟨S6x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S6x1, .f32⟩
  | .hbm, ⟨51, _⟩ => ⟨S6x128, .f32⟩
  | .hbm, ⟨52, _⟩ => ⟨S6x128, .f32⟩
  | .hbm, ⟨53, _⟩ => ⟨S6x128, .f32⟩
  | .hbm, ⟨54, _⟩ => ⟨S6x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .i1⟩
  | .hbm, ⟨59, _⟩ => ⟨S_, .f32⟩
  | .hbm, ⟨60, _⟩ => ⟨S_, .f32⟩
  | .hbm, ⟨61, _⟩ => ⟨S6x128, .i1⟩
  | .hbm, ⟨62, _⟩ => ⟨S6x128, .f32⟩
  | .hbm, ⟨63, _⟩ => ⟨S6x128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S6x1, .f32⟩
  | .hbm, ⟨69, _⟩ => ⟨S6x128, .f32⟩
  | .hbm, ⟨70, _⟩ => ⟨S6x128, .f32⟩
  | .hbm, ⟨71, _⟩ => ⟨S6x128, .f32⟩
  | .hbm, ⟨72, _⟩ => ⟨S6x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .i1⟩
  | .hbm, ⟨77, _⟩ => ⟨S_, .f32⟩
  | .hbm, ⟨78, _⟩ => ⟨S_, .f32⟩
  | .hbm, ⟨79, _⟩ => ⟨S6x128, .i1⟩
  | .hbm, ⟨80, _⟩ => ⟨S6x128, .f32⟩
  | .hbm, ⟨81, _⟩ => ⟨S6x128, .f32⟩
  | .hbm, ⟨82, _⟩ => ⟨S1x6x128, .f32⟩
  | .hbm, ⟨83, _⟩ => ⟨S1x6x128, .f32⟩
  | .hbm, ⟨84, _⟩ => ⟨S2x6x128, .f32⟩
  | .hbm, ⟨85, _⟩ => ⟨S_, .f32⟩
  | .hbm, ⟨86, _⟩ => ⟨S6, .f32⟩
  | .hbm, ⟨87, _⟩ => ⟨S6, .f32⟩
  | .hbm, ⟨88, _⟩ => ⟨S6, .f32⟩
  | .hbm, ⟨89, _⟩ => ⟨S_, .f32⟩
  | .hbm, ⟨90, _⟩ => ⟨S6, .f32⟩
  | .hbm, ⟨91, _⟩ => ⟨S6, .f32⟩
  | .hbm, ⟨92, _⟩ => ⟨S6, .f32⟩
  | .hbm, ⟨93, _⟩ => ⟨S1x6, .f32⟩
  | .hbm, ⟨94, _⟩ => ⟨S1x6, .f32⟩
  | .hbm, ⟨95, _⟩ => ⟨S2x6, .f32⟩
  | .hbm, ⟨96, _⟩ => ⟨S6x128x1, .f32⟩
  | .hbm, ⟨97, _⟩ => ⟨S6x128x64, .f32⟩
  | .hbm, ⟨98, _⟩ => ⟨S2x6x128x1, .f32⟩
  | .hbm, ⟨99, _⟩ => ⟨S2x6x128x64, .f32⟩
  | .hbm, ⟨100, _⟩ => ⟨S2x6x1, .f32⟩
  | .hbm, ⟨101, _⟩ => ⟨S2x6x64, .f32⟩
  | .hbm, ⟨102, _⟩ => ⟨S2x6x1x64, .f32⟩
  | .hbm, ⟨103, _⟩ => ⟨S_, .f32⟩
  | .hbm, ⟨104, _⟩ => ⟨S2x6x64x64, .f32⟩
  | .hbm, ⟨105, _⟩ => ⟨S2x8320x384, .f32⟩
  | .hbm, ⟨106, _⟩ => ⟨S2x6x64x64, .f32⟩
  | .local _ .vmem, ⟨0, _⟩ => ⟨S1x128x384, .f32⟩
  | .local _ .vmem, ⟨1, _⟩ => ⟨S1x128x384, .f32⟩
  | .local _ .vmem, ⟨2, _⟩ => ⟨S1x128x384, .f32⟩
  | .local _ .vmem, ⟨3, _⟩ => ⟨S1x128x384, .f32⟩
  | .local _ .vmem, ⟨4, _⟩ => ⟨S1x128x384, .f32⟩
  | .local _ .vmem, ⟨5, _⟩ => ⟨S1x128x384, .f32⟩
  | .local _ .vmem, ⟨6, _⟩ => ⟨S1x6x64x64, .f32⟩
  | .local _ .vmem, ⟨7, _⟩ => ⟨S1x6x64x64, .f32⟩
  | .local _ .vmem, ⟨8, _⟩ => ⟨S6x128x128, .f32⟩
  | .local _ .vmem, ⟨9, _⟩ => ⟨S6x128x64, .f32⟩
  | .local _ .vmem, ⟨10, _⟩ => ⟨S2x6x128x64, .f32⟩
  | .local _ .vmem, ⟨11, _⟩ => ⟨S2x6x1x64, .f32⟩
  | .local _ .vmem, ⟨12, _⟩ => ⟨S1x128x384, .f32⟩
  | .local _ .vmem, ⟨13, _⟩ => ⟨S1x128x384, .f32⟩
  | .local _ .vmem, ⟨14, _⟩ => ⟨S1x6x64x64, .f32⟩
  | .local _ .vmem, ⟨15, _⟩ => ⟨S1x6x64x64, .f32⟩
  | .local _ .vmem, ⟨16, _⟩ => ⟨S6x64x64, .f32⟩
  | _, _ => ⟨S2x8320x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77_0 : Ref sig .tc := ⟨.hbm, 105, rfl⟩
abbrev main_v77_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 65], ![false, false]⟩

def k0_off1 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v31 : Index := Scalar.indexCast v4
  let c0_20 : Index := 0#32
  let c0_21 : Index := 0#32
  let c0_22 : Index := 0#32
  ![v31.toNat, 0, 0, 0]
def k0_off2 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v36 : Index := Scalar.indexCast v4
  let c0_23 : Index := 0#32
  let c0_24 : Index := 0#32
  let c0_25 : Index := 0#32
  ![v36.toNat, 0, 0, 0]
def k0_off3 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v66 : Index := Scalar.indexCast v4
  let c1_41 : Index := 1#32
  let c0_42 : Index := 0#32
  let c0_43 : Index := 0#32
  ![v66.toNat, 1, 0, 0]
def k0_off4 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v71 : Index := Scalar.indexCast v4
  let c1_44 : Index := 1#32
  let c0_45 : Index := 0#32
  let c0_46 : Index := 0#32
  ![v71.toNat, 1, 0, 0]
def k0_off5 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v101 : Index := Scalar.indexCast v4
  let c2_62 : Index := 2#32
  let c0_63 : Index := 0#32
  let c0_64 : Index := 0#32
  ![v101.toNat, 2, 0, 0]
def k0_off6 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v106 : Index := Scalar.indexCast v4
  let c2_65 : Index := 2#32
  let c0_66 : Index := 0#32
  let c0_67 : Index := 0#32
  ![v106.toNat, 2, 0, 0]
def k0_off7 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v136 : Index := Scalar.indexCast v4
  let c3_83 : Index := 3#32
  let c0_84 : Index := 0#32
  let c0_85 : Index := 0#32
  ![v136.toNat, 3, 0, 0]
def k0_off8 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v141 : Index := Scalar.indexCast v4
  let c3_86 : Index := 3#32
  let c0_87 : Index := 0#32
  let c0_88 : Index := 0#32
  ![v141.toNat, 3, 0, 0]
def k0_off9 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v171 : Index := Scalar.indexCast v4
  let c4_104 : Index := 4#32
  let c0_105 : Index := 0#32
  let c0_106 : Index := 0#32
  ![v171.toNat, 4, 0, 0]
def k0_off10 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v176 : Index := Scalar.indexCast v4
  let c4_107 : Index := 4#32
  let c0_108 : Index := 0#32
  let c0_109 : Index := 0#32
  ![v176.toNat, 4, 0, 0]
def k0_off11 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v206 : Index := Scalar.indexCast v4
  let c5_125 : Index := 5#32
  let c0_126 : Index := 0#32
  let c0_127 : Index := 0#32
  ![v206.toNat, 5, 0, 0]
def k0_off12 (i : grid0.Coords) : Fin 4 → Nat :=
  let arg1 : BitVec 32 := BitVec.ofNat 32 (i 1).val
  let c64_i32 : BitVec 32 := 64#32
  let v3 : BitVec 1 := Scalar.cmpi .eq arg1 c64_i32
  let v4 : BitVec 32 := Scalar.extui v3
  let v211 : Index := Scalar.indexCast v4
  let c5_128 : Index := 5#32
  let c0_129 : Index := 0#32
  let c0_130 : Index := 0#32
  ![v211.toNat, 5, 0, 0]
def k0_cond2 (i : grid0.Coords) : BitVec 1 :=
  let arg1 : BitVec 32 := BitVec.ofNat 32 (i 1).val
  let c64_i32_138 : BitVec 32 := 64#32
  let v225 : BitVec 1 := Scalar.cmpi .eq arg1 c64_i32_138
  let v226 : BitVec 32 := Scalar.extui v225
  let c0_i32_139 : BitVec 32 := 0#32
  let v227 : BitVec 1 := Scalar.cmpi .ne v226 c0_i32_139
  v227

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S6x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x6x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x6x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x6x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2x8320x384 : Shape := ⟨3, ![2, 8320, 384]⟩
abbrev S6 : Shape := ⟨1, ![6]⟩
abbrev S_ : Shape := ⟨0, ![]⟩
abbrev S2x6x64x64 : Shape := ⟨4, ![2, 6, 64, 64]⟩
abbrev S2x8320x6x64 : Shape := ⟨4, ![2, 8320, 6, 64]⟩
abbrev S8320 : Shape := ⟨1, ![8320]⟩
abbrev S8320x1 : Shape := ⟨2, ![8320, 1]⟩
abbrev S1x8320 : Shape := ⟨2, ![1, 8320]⟩
abbrev S8320x8320 : Shape := ⟨2, ![8320, 8320]⟩
abbrev S1x8320x8320 : Shape := ⟨3, ![1, 8320, 8320]⟩
abbrev S6x1x1 : Shape := ⟨3, ![6, 1, 1]⟩
abbrev S6x8320x8320 : Shape := ⟨3, ![6, 8320, 8320]⟩
abbrev S2x6x8320x8320 : Shape := ⟨4, ![2, 6, 8320, 8320]⟩
abbrev S1x6x8320x8320 : Shape := ⟨4, ![1, 6, 8320, 8320]⟩
abbrev S2x6x64x8320 : Shape := ⟨4, ![2, 6, 64, 8320]⟩
abbrev S1x6 : Shape := ⟨2, ![1, 6]⟩
abbrev S8320x6 : Shape := ⟨2, ![8320, 6]⟩
abbrev S1x8320x6x1 : Shape := ⟨4, ![1, 8320, 6, 1]⟩
abbrev S1x6x1x1 : Shape := ⟨4, ![1, 6, 1, 1]⟩
abbrev S2x8208x6x64 : Shape := ⟨4, ![2, 8208, 6, 64]⟩
abbrev S8208 : Shape := ⟨1, ![8208]⟩
abbrev S8208x1 : Shape := ⟨2, ![8208, 1]⟩
abbrev S1x8208 : Shape := ⟨2, ![1, 8208]⟩
abbrev S8208x8208 : Shape := ⟨2, ![8208, 8208]⟩
abbrev S1x8208x8208 : Shape := ⟨3, ![1, 8208, 8208]⟩
abbrev S6x8208x8208 : Shape := ⟨3, ![6, 8208, 8208]⟩
abbrev S2x6x8208x8208 : Shape := ⟨4, ![2, 6, 8208, 8208]⟩
abbrev S1x6x8208x8208 : Shape := ⟨4, ![1, 6, 8208, 8208]⟩
abbrev S2x6x64x8208 : Shape := ⟨4, ![2, 6, 64, 8208]⟩
abbrev S8208x6 : Shape := ⟨2, ![8208, 6]⟩
abbrev S1x8208x6x1 : Shape := ⟨4, ![1, 8208, 6, 1]⟩

abbrev nBuf : Space → Nat
  | .hbm => 156
  | .vmem => 0
  | .smem => 0
  | _ => 0

abbrev hbmTy0_0 (i : Nat) : BufTy := match i % 128 with
  | 0 => ⟨S2x8320x384, .f32⟩
  | 1 => ⟨S2x8320x384, .f32⟩
  | 2 => ⟨S2x8320x384, .f32⟩
  | 3 => ⟨S6, .f32⟩
  | 4 => ⟨S_, .f32⟩
  | 5 => ⟨S6, .f32⟩
  | 6 => ⟨S6, .f32⟩
  | 7 => ⟨S_, .f32⟩
  | 8 => ⟨S6, .f32⟩
  | 9 => ⟨S6, .f32⟩
  | 10 => ⟨S_, .f32⟩
  | 11 => ⟨S6, .f32⟩
  | 12 => ⟨S6, .f32⟩
  | 13 => ⟨S6, .f32⟩
  | 14 => ⟨S_, .f32⟩
  | 15 => ⟨S2x6x64x64, .f32⟩
  | 16 => ⟨S2x8320x6x64, .f32⟩
  | 17 => ⟨S2x8320x6x64, .f32⟩
  | 18 => ⟨S2x8320x6x64, .f32⟩
  | 19 => ⟨S8320, .f32⟩
  | 20 => ⟨S8320x1, .f32⟩
  | 21 => ⟨S1x8320, .f32⟩
  | 22 => ⟨S8320x8320, .f32⟩
  | 23 => ⟨S8320x8320, .f32⟩
  | 24 => ⟨S8320x8320, .f32⟩
  | 25 => ⟨S_, .f32⟩
  | 26 => ⟨S8320x8320, .f32⟩
  | 27 => ⟨S8320x8320, .i1⟩
  | 28 => ⟨S_, .f32⟩
  | 29 => ⟨S8320x8320, .f32⟩
  | 30 => ⟨S8320x8320, .f32⟩
  | 31 => ⟨S1x8320x8320, .f32⟩
  | 32 => ⟨S6x1x1, .f32⟩
  | 33 => ⟨S6x8320x8320, .f32⟩
  | 34 => ⟨S6x8320x8320, .f32⟩
  | 35 => ⟨S6x8320x8320, .f32⟩
  | 36 => ⟨S6x8320x8320, .f32⟩
  | 37 => ⟨S_, .f32⟩
  | 38 => ⟨S_, .f32⟩
  | 39 => ⟨S6x8320x8320, .i1⟩
  | 40 => ⟨S6x8320x8320, .f32⟩
  | 41 => ⟨S6x8320x8320, .f32⟩
  | 42 => ⟨S2x6x8320x8320, .f32⟩
  | 43 => ⟨S1x6x8320x8320, .f32⟩
  | 44 => ⟨S2x6x8320x8320, .f32⟩
  | 45 => ⟨S2x6x8320x8320, .f32⟩
  | 46 => ⟨S2x6x64x8320, .f32⟩
  | 47 => ⟨S2x8320x6x64, .f32⟩
  | 48 => ⟨S2x6x64x8320, .f32⟩
  | 49 => ⟨S2x8320x6x64, .f32⟩
  | 50 => ⟨S8320x1, .f32⟩
  | 51 => ⟨S_, .f32⟩
  | 52 => ⟨S8320x1, .f32⟩
  | 53 => ⟨S8320x1, .f32⟩
  | 54 => ⟨S1x6, .f32⟩
  | 55 => ⟨S8320x6, .f32⟩
  | 56 => ⟨S8320x6, .f32⟩
  | 57 => ⟨S8320x6, .f32⟩
  | 58 => ⟨S8320x6, .f32⟩
  | 59 => ⟨S1x8320x6x1, .f32⟩
  | 60 => ⟨S2x8320x6x64, .f32⟩
  | 61 => ⟨S2x8320x6x64, .f32⟩
  | 62 => ⟨S2x8320x6x64, .f32⟩
  | 63 => ⟨S_, .f32⟩
  | 64 => ⟨S8320, .f32⟩
  | 65 => ⟨S8320, .f32⟩
  | 66 => ⟨S8320x1, .f32⟩
  | 67 => ⟨S1x6, .f32⟩
  | 68 => ⟨S8320x6, .f32⟩
  | 69 => ⟨S8320x6, .f32⟩
  | 70 => ⟨S8320x6, .f32⟩
  | 71 => ⟨S8320x6, .f32⟩
  | 72 => ⟨S1x8320x6x1, .f32⟩
  | 73 => ⟨S2x8320x6x64, .f32⟩
  | 74 => ⟨S2x8320x6x64, .f32⟩
  | 75 => ⟨S_, .f32⟩
  | 76 => ⟨S6, .f32⟩
  | 77 => ⟨S6, .f32⟩
  | 78 => ⟨S6, .f32⟩
  | 79 => ⟨S1x6x1x1, .f32⟩
  | 80 => ⟨S2x6x64x64, .f32⟩
  | 81 => ⟨S2x6x64x64, .f32⟩
  | 82 => ⟨S2x6x64x64, .f32⟩
  | 83 => ⟨S2x6x64x64, .f32⟩
  | 84 => ⟨S2x8320x6x64, .f32⟩
  | 85 => ⟨S2x8208x6x64, .f32⟩
  | 86 => ⟨S2x8320x6x64, .f32⟩
  | 87 => ⟨S2x8208x6x64, .f32⟩
  | 88 => ⟨S2x8320x6x64, .f32⟩
  | 89 => ⟨S2x8208x6x64, .f32⟩
  | 90 => ⟨S8208, .f32⟩
  | 91 => ⟨S8208x1, .f32⟩
  | 92 => ⟨S1x8208, .f32⟩
  | 93 => ⟨S8208x8208, .f32⟩
  | 94 => ⟨S8208x8208, .f32⟩
  | 95 => ⟨S8208x8208, .f32⟩
  | 96 => ⟨S_, .f32⟩
  | 97 => ⟨S8208x8208, .f32⟩
  | 98 => ⟨S8208x8208, .i1⟩
  | 99 => ⟨S_, .f32⟩
  | 100 => ⟨S8208x8208, .f32⟩
  | 101 => ⟨S8208x8208, .f32⟩
  | 102 => ⟨S1x8208x8208, .f32⟩
  | 103 => ⟨S6x1x1, .f32⟩
  | 104 => ⟨S6x8208x8208, .f32⟩
  | 105 => ⟨S6x8208x8208, .f32⟩
  | 106 => ⟨S6x8208x8208, .f32⟩
  | 107 => ⟨S6x8208x8208, .f32⟩
  | 108 => ⟨S_, .f32⟩
  | 109 => ⟨S_, .f32⟩
  | 110 => ⟨S6x8208x8208, .i1⟩
  | 111 => ⟨S6x8208x8208, .f32⟩
  | 112 => ⟨S6x8208x8208, .f32⟩
  | 113 => ⟨S2x6x8208x8208, .f32⟩
  | 114 => ⟨S1x6x8208x8208, .f32⟩
  | 115 => ⟨S2x6x8208x8208, .f32⟩
  | 116 => ⟨S2x6x8208x8208, .f32⟩
  | 117 => ⟨S2x6x64x8208, .f32⟩
  | 118 => ⟨S2x8208x6x64, .f32⟩
  | 119 => ⟨S2x6x64x8208, .f32⟩
  | 120 => ⟨S2x8208x6x64, .f32⟩
  | 121 => ⟨S8208x1, .f32⟩
  | 122 => ⟨S_, .f32⟩
  | 123 => ⟨S8208x1, .f32⟩
  | 124 => ⟨S8208x1, .f32⟩
  | 125 => ⟨S1x6, .f32⟩
  | 126 => ⟨S8208x6, .f32⟩
  | 127 => ⟨S8208x6, .f32⟩
  | _ => ⟨S2x8320x384, .f32⟩

abbrev hbmTy0_1 (i : Nat) : BufTy := match i % 128 with
  | 0 => ⟨S8208x6, .f32⟩
  | 1 => ⟨S8208x6, .f32⟩
  | 2 => ⟨S1x8208x6x1, .f32⟩
  | 3 => ⟨S2x8208x6x64, .f32⟩
  | 4 => ⟨S2x8208x6x64, .f32⟩
  | 5 => ⟨S2x8208x6x64, .f32⟩
  | 6 => ⟨S_, .f32⟩
  | 7 => ⟨S8208, .f32⟩
  | 8 => ⟨S8208, .f32⟩
  | 9 => ⟨S8208x1, .f32⟩
  | 10 => ⟨S1x6, .f32⟩
  | 11 => ⟨S8208x6, .f32⟩
  | 12 => ⟨S8208x6, .f32⟩
  | 13 => ⟨S8208x6, .f32⟩
  | 14 => ⟨S8208x6, .f32⟩
  | 15 => ⟨S1x8208x6x1, .f32⟩
  | 16 => ⟨S2x8208x6x64, .f32⟩
  | 17 => ⟨S2x8208x6x64, .f32⟩
  | 18 => ⟨S_, .f32⟩
  | 19 => ⟨S6, .f32⟩
  | 20 => ⟨S6, .f32⟩
  | 21 => ⟨S6, .f32⟩
  | 22 => ⟨S1x6x1x1, .f32⟩
  | 23 => ⟨S2x6x64x64, .f32⟩
  | 24 => ⟨S2x6x64x64, .f32⟩
  | 25 => ⟨S2x6x64x64, .f32⟩
  | 26 => ⟨S2x6x64x64, .f32⟩
  | 27 => ⟨S2x8320x384, .f32⟩
  | _ => ⟨S2x8320x384, .f32⟩

abbrev hbmTy (i : Nat) : BufTy := match i / 128 with
  | 0 => hbmTy0_0 i
  | 1 => hbmTy0_1 i
  | _ => ⟨S2x8320x384, .f32⟩

abbrev bufTy : (tb : Table) → Fin (tcTables nBuf tb) → BufTy
  | .hbm, ⟨i, _⟩ => hbmTy i
  | _, _ => ⟨S2x8320x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_11 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_12 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_13 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_14 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩

abbrev nD : Nat := 1
abbrev τ : Topo := Topo.v7x

variable {F : FTy → Type} [FloatOps F]
-- ==== Ffn.lean ====
abbrev S2x8320x1024 : Shape := ⟨3, ![2, 8320, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S_ : Shape := ⟨0, ![]⟩
abbrev S4x2816 : Shape := ⟨2, ![4, 2816]⟩
abbrev S8x2816 : Shape := ⟨2, ![8, 2816]⟩
abbrev S1x1024 : Shape := ⟨2, ![1, 1024]⟩
abbrev S2x8x2816 : Shape := ⟨3, ![2, 8, 2816]⟩
abbrev S1x320x1024 : Shape := ⟨3, ![1, 320, 1024]⟩
abbrev S1x8x2816 : Shape := ⟨3, ![1, 8, 2816]⟩
abbrev S336x2816 : Shape := ⟨2, ![336, 2816]⟩
abbrev S320x1024 : Shape := ⟨2, ![320, 1024]⟩
abbrev S320 : Shape := ⟨1, ![320]⟩
abbrev S320x1 : Shape := ⟨2, ![320, 1]⟩
abbrev S320x2816 : Shape := ⟨2, ![320, 2816]⟩
abbrev S2x2x2816 : Shape := ⟨3, ![2, 2, 2816]⟩

abbrev nBuf : Space → Nat
  | .hbm => 18
  | .vmem => 12
  | .smem => 0
  | _ => 0

abbrev bufTy : (tb : Table) → Fin (tcTables nBuf tb) → BufTy
  | .hbm, ⟨0, _⟩ => ⟨S2x8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1x2816, .f32⟩
  | .hbm, ⟨8, _⟩ => ⟨S_, .f32⟩
  | .hbm, ⟨9, _⟩ => ⟨S4x2816, .f32⟩
  | .hbm, ⟨10, _⟩ => ⟨S8x2816, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S2x8320x1024, .f32⟩
  | .hbm, ⟨16, _⟩ => ⟨S2x8x2816, .f32⟩
  | .hbm, ⟨17, _⟩ => ⟨S2x2x2816, .f32⟩
  | .local _ .vmem, ⟨0, _⟩ => ⟨S1x320x1024, .f32⟩
  | .local _ .vmem, ⟨1, _⟩ => ⟨S1x320x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S8x2816, .f32⟩
  | .local _ .vmem, ⟨7, _⟩ => ⟨S1x320x1024, .f32⟩
  | .local _ .vmem, ⟨8, _⟩ => ⟨S1x320x1024, .f32⟩
  | .local _ .vmem, ⟨9, _⟩ => ⟨S1x8x2816, .f32⟩
  | .local _ .vmem, ⟨10, _⟩ => ⟨S1x8x2816, .f32⟩
  | .local _ .vmem, ⟨11, _⟩ => ⟨S336x2816, .f32⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 26], ![false, false]⟩

def k0_cond2 (i : grid0.Coords) : BitVec 1 :=
  let arg1 : BitVec 32 := BitVec.ofNat 32 (i 1).val
  let c25_i32 : BitVec 32 := 25#32
  let v64 : BitVec 1 := Scalar.cmpi .eq arg1 c25_i32
  let v65 : BitVec 32 := Scalar.extui v64
  let c0_i32_29 : BitVec 32 := 0#32
  let v66 : BitVec 1 := Scalar.cmpi .ne v65 c0_i32_29
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S2x8320x1024 : Shape := ⟨3, ![2, 8320, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x2x2816 : Shape := ⟨3, ![2, 2, 2816]⟩
abbrev S2x8320 : Shape := ⟨2, ![2, 8320]⟩
abbrev S2x8320x1 : Shape := ⟨3, ![2, 8320, 1]⟩
abbrev S1x1x1024 : Shape := ⟨3, ![1, 1, 1024]⟩
abbrev S2x8320x2816 : Shape := ⟨3, ![2, 8320, 2816]⟩
abbrev S2x8322x2816 : Shape := ⟨3, ![2, 8322, 2816]⟩
abbrev S1x2816 : Shape := ⟨2, ![1, 2816]⟩
abbrev S1x1x2816 : Shape := ⟨3, ![1, 1, 2816]⟩
abbrev S2x8208x1024 : Shape := ⟨3, ![2, 8208, 1024]⟩
abbrev S2x8208 : Shape := ⟨2, ![2, 8208]⟩
abbrev S2x8208x1 : Shape := ⟨3, ![2, 8208, 1]⟩
abbrev S2x8208x2816 : Shape := ⟨3, ![2, 8208, 2816]⟩
abbrev S2x8210x2816 : Shape := ⟨3, ![2, 8210, 2816]⟩

abbrev nBuf : Space → Nat
  | .hbm => 125
  | .vmem => 0
  | .smem => 0
  | _ => 0

abbrev bufTy : (tb : Table) → Fin (tcTables nBuf tb) → BufTy
  | .hbm, ⟨0, _⟩ => ⟨S2x8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S_, .f32⟩
  | .hbm, ⟨8, _⟩ => ⟨S2x2x2816, .f32⟩
  | .hbm, ⟨9, _⟩ => ⟨S2x8320x1024, .f32⟩
  | .hbm, ⟨10, _⟩ => ⟨S_, .f32⟩
  | .hbm, ⟨11, _⟩ => ⟨S2x8320, .f32⟩
  | .hbm, ⟨12, _⟩ => ⟨S2x8320x1, .f32⟩
  | .hbm, ⟨13, _⟩ => ⟨S_, .f32⟩
  | .hbm, ⟨14, _⟩ => ⟨S2x8320x1, .f32⟩
  | .hbm, ⟨15, _⟩ => ⟨S2x8320x1, .f32⟩
  | .hbm, ⟨16, _⟩ => ⟨S_, .f32⟩
  | .hbm, ⟨17, _⟩ => ⟨S2x8320x1, .f32⟩
  | .hbm, ⟨18, _⟩ => ⟨S2x8320x1, .f32⟩
  | .hbm, ⟨19, _⟩ => ⟨S2x8320x1, .f32⟩
  | .hbm, ⟨20, _⟩ => ⟨S2x8320x1024, .f32⟩
  | .hbm, ⟨21, _⟩ => ⟨S2x8320x1024, .f32⟩
  | .hbm, ⟨22, _⟩ => ⟨S1x1x1024, .f32⟩
  | .hbm, ⟨23, _⟩ => ⟨S2x8320x1024, .f32⟩
  | .hbm, ⟨24, _⟩ => ⟨S2x8320x1024, .f32⟩
  | .hbm, ⟨25, _⟩ => ⟨S2x8320x2816, .f32⟩
  | .hbm, ⟨26, _⟩ => ⟨S2x8320x2816, .f32⟩
  | .hbm, ⟨27, _⟩ => ⟨S2x8322x2816, .f32⟩
  | .hbm, ⟨28, _⟩ => ⟨S1x2816, .f32⟩
  | .hbm, ⟨29, _⟩ => ⟨S2816, .f32⟩
  | .hbm, ⟨30, _⟩ => ⟨S2x8320x2816, .f32⟩
  | .hbm, ⟨31, _⟩ => ⟨S1x1x2816, .f32⟩
  | .hbm, ⟨32, _⟩ => ⟨S2x8320x2816, .f32⟩
  | .hbm, ⟨33, _⟩ => ⟨S2x8320x2816, .f32⟩
  | .hbm, ⟨34, _⟩ => ⟨S_, .f32⟩
  | .hbm, ⟨35, _⟩ => ⟨S2x8320x2816, .f32⟩
  | .hbm, ⟨36, _⟩ => ⟨S2x8320x2816, .f32⟩
  | .hbm, ⟨37, _⟩ => ⟨S1x2816, .f32⟩
  | .hbm, ⟨38, _⟩ => ⟨S2816, .f32⟩
  | .hbm, ⟨39, _⟩ => ⟨S2x8320x2816, .f32⟩
  | .hbm, ⟨40, _⟩ => ⟨S1x1x2816, .f32⟩
  | .hbm, ⟨41, _⟩ => ⟨S2x8320x2816, .f32⟩
  | .hbm, ⟨42, _⟩ => ⟨S2x8320x2816, .f32⟩
  | .hbm, ⟨43, _⟩ => ⟨S2x8320x2816, .f32⟩
  | .hbm, ⟨44, _⟩ => ⟨S1x2816, .f32⟩
  | .hbm, ⟨45, _⟩ => ⟨S2816, .f32⟩
  | .hbm, ⟨46, _⟩ => ⟨S2x8320x2816, .f32⟩
  | .hbm, ⟨47, _⟩ => ⟨S1x1x2816, .f32⟩
  | .hbm, ⟨48, _⟩ => ⟨S2x8320x2816, .f32⟩
  | .hbm, ⟨49, _⟩ => ⟨S2x8320x2816, .f32⟩
  | .hbm, ⟨50, _⟩ => ⟨S2x8320x2816, .f32⟩
  | .hbm, ⟨51, _⟩ => ⟨S1x1x2816, .f32⟩
  | .hbm, ⟨52, _⟩ => ⟨S2x8320x2816, .f32⟩
  | .hbm, ⟨53, _⟩ => ⟨S2x8320x2816, .f32⟩
  | .hbm, ⟨54, _⟩ => ⟨S2x8320x2816, .f32⟩
  | .hbm, ⟨55, _⟩ => ⟨S2x8320x2816, .f32⟩
  | .hbm, ⟨56, _⟩ => ⟨S_, .f32⟩
  | .hbm, ⟨57, _⟩ => ⟨S2x8320x2816, .f32⟩
  | .hbm, ⟨58, _⟩ => ⟨S2x8320x2816, .f32⟩
  | .hbm, ⟨59, _⟩ => ⟨S_, .f32⟩
  | .hbm, ⟨60, _⟩ => ⟨S2x8320x2816, .f32⟩
  | .hbm, ⟨61, _⟩ => ⟨S2x8320x2816, .f32⟩
  | .hbm, ⟨62, _⟩ => ⟨S2x8320x2816, .f32⟩
  | .hbm, ⟨63, _⟩ => ⟨S2x8320x2816, .f32⟩
  | .hbm, ⟨64, _⟩ => ⟨S2x8320x1024, .f32⟩
  | .hbm, ⟨65, _⟩ => ⟨S2x2x2816, .f32⟩
  | .hbm, ⟨66, _⟩ => ⟨S2x8208x1024, .f32⟩
  | .hbm, ⟨67, _⟩ => ⟨S2x8208x1024, .f32⟩
  | .hbm, ⟨68, _⟩ => ⟨S_, .f32⟩
  | .hbm, ⟨69, _⟩ => ⟨S2x8208, .f32⟩
  | .hbm, ⟨70, _⟩ => ⟨S2x8208x1, .f32⟩
  | .hbm, ⟨71, _⟩ => ⟨S_, .f32⟩
  | .hbm, ⟨72, _⟩ => ⟨S2x8208x1, .f32⟩
  | .hbm, ⟨73, _⟩ => ⟨S2x8208x1, .f32⟩
  | .hbm, ⟨74, _⟩ => ⟨S_, .f32⟩
  | .hbm, ⟨75, _⟩ => ⟨S2x8208x1, .f32⟩
  | .hbm, ⟨76, _⟩ => ⟨S2x8208x1, .f32⟩
  | .hbm, ⟨77, _⟩ => ⟨S2x8208x1, .f32⟩
  | .hbm, ⟨78, _⟩ => ⟨S2x8208x1024, .f32⟩
  | .hbm, ⟨79, _⟩ => ⟨S2x8208x1024, .f32⟩
  | .hbm, ⟨80, _⟩ => ⟨S1x1x1024, .f32⟩
  | .hbm, ⟨81, _⟩ => ⟨S2x8208x1024, .f32⟩
  | .hbm, ⟨82, _⟩ => ⟨S2x8208x1024, .f32⟩
  | .hbm, ⟨83, _⟩ => ⟨S2x8208x2816, .f32⟩
  | .hbm, ⟨84, _⟩ => ⟨S2x8208x2816, .f32⟩
  | .hbm, ⟨85, _⟩ => ⟨S2x8210x2816, .f32⟩
  | .hbm, ⟨86, _⟩ => ⟨S1x2816, .f32⟩
  | .hbm, ⟨87, _⟩ => ⟨S2816, .f32⟩
  | .hbm, ⟨88, _⟩ => ⟨S2x8208x2816, .f32⟩
  | .hbm, ⟨89, _⟩ => ⟨S1x1x2816, .f32⟩
  | .hbm, ⟨90, _⟩ => ⟨S2x8208x2816, .f32⟩
  | .hbm, ⟨91, _⟩ => ⟨S2x8208x2816, .f32⟩
  | .hbm, ⟨92, _⟩ => ⟨S_, .f32⟩
  | .hbm, ⟨93, _⟩ => ⟨S2x8208x2816, .f32⟩
  | .hbm, ⟨94, _⟩ => ⟨S2x8208x2816, .f32⟩
  | .hbm, ⟨95, _⟩ => ⟨S1x2816, .f32⟩
  | .hbm, ⟨96, _⟩ => ⟨S2816, .f32⟩
  | .hbm, ⟨97, _⟩ => ⟨S2x8208x2816, .f32⟩
  | .hbm, ⟨98, _⟩ => ⟨S1x1x2816, .f32⟩
  | .hbm, ⟨99, _⟩ => ⟨S2x8208x2816, .f32⟩
  | .hbm, ⟨100, _⟩ => ⟨S2x8208x2816, .f32⟩
  | .hbm, ⟨101, _⟩ => ⟨S2x8208x2816, .f32⟩
  | .hbm, ⟨102, _⟩ => ⟨S1x2816, .f32⟩
  | .hbm, ⟨103, _⟩ => ⟨S2816, .f32⟩
  | .hbm, ⟨104, _⟩ => ⟨S2x8208x2816, .f32⟩
  | .hbm, ⟨105, _⟩ => ⟨S1x1x2816, .f32⟩
  | .hbm, ⟨106, _⟩ => ⟨S2x8208x2816, .f32⟩
  | .hbm, ⟨107, _⟩ => ⟨S2x8208x2816, .f32⟩
  | .hbm, ⟨108, _⟩ => ⟨S2x8208x2816, .f32⟩
  | .hbm, ⟨109, _⟩ => ⟨S1x1x2816, .f32⟩
  | .hbm, ⟨110, _⟩ => ⟨S2x8208x2816, .f32⟩
  | .hbm, ⟨111, _⟩ => ⟨S2x8208x2816, .f32⟩
  | .hbm, ⟨112, _⟩ => ⟨S2x8208x2816, .f32⟩
  | .hbm, ⟨113, _⟩ => ⟨S2x8208x2816, .f32⟩
  | .hbm, ⟨114, _⟩ => ⟨S_, .f32⟩
  | .hbm, ⟨115, _⟩ => ⟨S2x8208x2816, .f32⟩
  | .hbm, ⟨116, _⟩ => ⟨S2x8208x2816, .f32⟩
  | .hbm, ⟨117, _⟩ => ⟨S_, .f32⟩
  | .hbm, ⟨118, _⟩ => ⟨S2x8208x2816, .f32⟩
  | .hbm, ⟨119, _⟩ => ⟨S2x8208x2816, .f32⟩
  | .hbm, ⟨120, _⟩ => ⟨S2x8208x2816, .f32⟩
  | .hbm, ⟨121, _⟩ => ⟨S2x8208x2816, .f32⟩
  | .hbm, ⟨122, _⟩ => ⟨S2x8208x1024, .f32⟩
  | .hbm, ⟨123, _⟩ => ⟨S2x2x2816, .f32⟩
  | .hbm, ⟨124, _⟩ => ⟨S2x8320x1024, .f32⟩
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_7 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]
-- ==== Proj.lean ====
abbrev S2x8320x1024 : Shape := ⟨3, ![2, 8320, 1024]⟩
abbrev S1024 : Shape := ⟨1, ![1024]⟩
abbrev S1024x4040 : Shape := ⟨2, ![1024, 4040]⟩
abbrev S64 : Shape := ⟨1, ![64]⟩
abbrev S32 : Shape := ⟨1, ![32]⟩
abbrev S1024x384 : Shape := ⟨2, ![1024, 384]⟩
abbrev S1024x320 : Shape := ⟨2, ![1024, 320]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x128 : Shape := ⟨2, ![1024, 128]⟩
abbrev S1024x4608 : Shape := ⟨2, ![1024, 4608]⟩
abbrev S1x64 : Shape := ⟨2, ![1, 64]⟩
abbrev S5x64 : Shape := ⟨2, ![5, 64]⟩
abbrev S320 : Shape := ⟨1, ![320]⟩
abbrev S1x320 : Shape := ⟨2, ![1, 320]⟩
abbrev S1x384 : Shape := ⟨2, ![1, 384]⟩
abbrev S1x32 : Shape := ⟨2, ![1, 32]⟩
abbrev S10x32 : Shape := ⟨2, ![10, 32]⟩
abbrev S4x384 : Shape := ⟨2, ![4, 384]⟩
abbrev S8x384 : Shape := ⟨2, ![8, 384]⟩
abbrev S1x1024 : Shape := ⟨2, ![1, 1024]⟩
abbrev S384 : Shape := ⟨1, ![384]⟩
abbrev S384x1 : Shape := ⟨2, ![384, 1]⟩
abbrev S384x384 : Shape := ⟨2, ![384, 384]⟩
abbrev S8320 : Shape := ⟨1, ![8320]⟩
abbrev S8320x1 : Shape := ⟨2, ![8320, 1]⟩
abbrev S8320x32 : Shape := ⟨2, ![8320, 32]⟩
abbrev S8320x0 : Shape := ⟨2, ![8320, 0]⟩
abbrev S8320x64 : Shape := ⟨2, ![8320, 64]⟩
abbrev S1x8320x1x64 : Shape := ⟨4, ![1, 8320, 1, 64]⟩
abbrev S1x8320x6x64 : Shape := ⟨4, ![1, 8320, 6, 64]⟩
abbrev S8320x384 : Shape := ⟨2, ![8320, 384]⟩
abbrev S8 : Shape := ⟨1, ![8]⟩
abbrev S1x8 : Shape := ⟨2, ![1, 8]⟩
abbrev S8320x8 : Shape := ⟨2, ![8320, 8]⟩
abbrev S8320x48 : Shape := ⟨2, ![8320, 48]⟩
abbrev S1x8320x5x64 : Shape := ⟨4, ![1, 8320, 5, 64]⟩
abbrev S8320x320 : Shape := ⟨2, ![8320, 320]⟩
abbrev S1x8320x8x64 : Shape := ⟨4, ![1, 8320, 8, 64]⟩
abbrev S8320x512 : Shape := ⟨2, ![8320, 512]⟩
abbrev S8320x128 : Shape := ⟨2, ![8320, 128]⟩
abbrev S4 : Shape := ⟨1, ![4]⟩
abbrev S1x4 : Shape := ⟨2, ![1, 4]⟩
abbrev S8320x4 : Shape := ⟨2, ![8320, 4]⟩
abbrev S8320x24 : Shape := ⟨2, ![8320, 24]⟩
abbrev S1x8320x1x32 : Shape := ⟨4, ![1, 8320, 1, 32]⟩
abbrev S1x8320x10x32 : Shape := ⟨4, ![1, 8320, 10, 32]⟩
abbrev S8320x3584 : Shape := ⟨2, ![8320, 3584]⟩
abbrev S16640x1024 : Shape := ⟨2, ![16640, 1024]⟩
abbrev S16640x384 : Shape := ⟨2, ![16640, 384]⟩
abbrev S16640x320 : Shape := ⟨2, ![16640, 320]⟩
abbrev S16640x512 : Shape := ⟨2, ![16640, 512]⟩
abbrev S16640x64 : Shape := ⟨2, ![16640, 64]⟩
abbrev S16640x8 : Shape := ⟨2, ![16640, 8]⟩
abbrev S2x5x9216x64 : Shape := ⟨4, ![2, 5, 9216, 64]⟩
abbrev S320x1024 : Shape := ⟨2, ![320, 1024]⟩
abbrev S320x3584 : Shape := ⟨2, ![320, 3584]⟩
abbrev S320x384 : Shape := ⟨2, ![320, 384]⟩
abbrev S320x320 : Shape := ⟨2, ![320, 320]⟩
abbrev S320x512 : Shape := ⟨2, ![320, 512]⟩
abbrev S320x64 : Shape := ⟨2, ![320, 64]⟩
abbrev S320x8 : Shape := ⟨2, ![320, 8]⟩
abbrev S1x5x320x64 : Shape := ⟨4, ![1, 5, 320, 64]⟩
abbrev S320x1 : Shape := ⟨2, ![320, 1]⟩
abbrev S1x1x320x64 : Shape := ⟨4, ![1, 1, 320, 64]⟩
abbrev S320x128 : Shape := ⟨2, ![320, 128]⟩

abbrev nBuf : Space → Nat
  | .hbm => 331
  | .vmem => 39
  | .smem => 0
  | _ => 0

abbrev hbmTy0_0 (i : Nat) : BufTy := match i % 128 with
  | 0 => ⟨S2x8320x1024, .f32⟩
  | 1 => ⟨S1024, .f32⟩
  | 2 => ⟨S1024x4040, .f32⟩
  | 3 => ⟨S64, .f32⟩
  | 4 => ⟨S64, .f32⟩
  | 5 => ⟨S32, .f32⟩
  | 6 => ⟨S32, .f32⟩
  | 7 => ⟨S1024x384, .f32⟩
  | 8 => ⟨S1024x384, .f32⟩
  | 9 => ⟨S1024x384, .f32⟩
  | 10 => ⟨S1024x384, .f32⟩
  | 11 => ⟨S1024x320, .f32⟩
  | 12 => ⟨S1024x320, .f32⟩
  | 13 => ⟨S1024x320, .f32⟩
  | 14 => ⟨S1024x512, .f32⟩
  | 15 => ⟨S1024x64, .f32⟩
  | 16 => ⟨S1024x8, .f32⟩
  | 17 => ⟨S1024x320, .f32⟩
  | 18 => ⟨S1024x320, .f32⟩
  | 19 => ⟨S1024x320, .f32⟩
  | 20 => ⟨S_, .i32⟩
  | 21 => ⟨S_, .f32⟩
  | 22 => ⟨S1024x384, .f32⟩
  | 23 => ⟨S_, .i32⟩
  | 24 => ⟨S_, .f32⟩
  | 25 => ⟨S1024x384, .f32⟩
  | 26 => ⟨S_, .i32⟩
  | 27 => ⟨S_, .f32⟩
  | 28 => ⟨S1024x384, .f32⟩
  | 29 => ⟨S_, .i32⟩
  | 30 => ⟨S_, .f32⟩
  | 31 => ⟨S1024x384, .f32⟩
  | 32 => ⟨S_, .i32⟩
  | 33 => ⟨S_, .f32⟩
  | 34 => ⟨S1024x384, .f32⟩
  | 35 => ⟨S_, .i32⟩
  | 36 => ⟨S_, .f32⟩
  | 37 => ⟨S1024x384, .f32⟩
  | 38 => ⟨S_, .i32⟩
  | 39 => ⟨S_, .f32⟩
  | 40 => ⟨S1024x384, .f32⟩
  | 41 => ⟨S_, .i32⟩
  | 42 => ⟨S_, .f32⟩
  | 43 => ⟨S1024x512, .f32⟩
  | 44 => ⟨S_, .i32⟩
  | 45 => ⟨S_, .f32⟩
  | 46 => ⟨S1024x128, .f32⟩
  | 47 => ⟨S_, .i32⟩
  | 48 => ⟨S_, .f32⟩
  | 49 => ⟨S1024x128, .f32⟩
  | 50 => ⟨S_, .i32⟩
  | 51 => ⟨S_, .f32⟩
  | 52 => ⟨S1024x384, .f32⟩
  | 53 => ⟨S_, .i32⟩
  | 54 => ⟨S_, .f32⟩
  | 55 => ⟨S1024x384, .f32⟩
  | 56 => ⟨S_, .i32⟩
  | 57 => ⟨S_, .f32⟩
  | 58 => ⟨S1024x384, .f32⟩
  | 59 => ⟨S1024x4608, .f32⟩
  | 60 => ⟨S1024x4608, .bf16⟩
  | 61 => ⟨S1x64, .f32⟩
  | 62 => ⟨S5x64, .f32⟩
  | 63 => ⟨S320, .f32⟩
  | 64 => ⟨S1x320, .f32⟩
  | 65 => ⟨S_, .i32⟩
  | 66 => ⟨S_, .f32⟩
  | 67 => ⟨S1x384, .f32⟩
  | 68 => ⟨S1x64, .f32⟩
  | 69 => ⟨S5x64, .f32⟩
  | 70 => ⟨S320, .f32⟩
  | 71 => ⟨S1x320, .f32⟩
  | 72 => ⟨S_, .i32⟩
  | 73 => ⟨S_, .f32⟩
  | 74 => ⟨S1x384, .f32⟩
  | 75 => ⟨S1x32, .f32⟩
  | 76 => ⟨S10x32, .f32⟩
  | 77 => ⟨S320, .f32⟩
  | 78 => ⟨S1x320, .f32⟩
  | 79 => ⟨S_, .i32⟩
  | 80 => ⟨S_, .f32⟩
  | 81 => ⟨S1x384, .f32⟩
  | 82 => ⟨S1x32, .f32⟩
  | 83 => ⟨S10x32, .f32⟩
  | 84 => ⟨S320, .f32⟩
  | 85 => ⟨S1x320, .f32⟩
  | 86 => ⟨S_, .i32⟩
  | 87 => ⟨S_, .f32⟩
  | 88 => ⟨S1x384, .f32⟩
  | 89 => ⟨S_, .f32⟩
  | 90 => ⟨S4x384, .f32⟩
  | 91 => ⟨S8x384, .f32⟩
  | 92 => ⟨S1x1024, .f32⟩
  | 93 => ⟨S384, .i32⟩
  | 94 => ⟨S_, .i32⟩
  | 95 => ⟨S_, .i32⟩
  | 96 => ⟨S384, .i32⟩
  | 97 => ⟨S384, .i32⟩
  | 98 => ⟨S384, .i32⟩
  | 99 => ⟨S_, .i32⟩
  | 100 => ⟨S384, .i32⟩
  | 101 => ⟨S384, .i1⟩
  | 102 => ⟨S384, .i32⟩
  | 103 => ⟨S384, .i32⟩
  | 104 => ⟨S_, .i32⟩
  | 105 => ⟨S384, .i32⟩
  | 106 => ⟨S384, .i1⟩
  | 107 => ⟨S384, .i1⟩
  | 108 => ⟨S_, .i32⟩
  | 109 => ⟨S384, .i32⟩
  | 110 => ⟨S384, .i32⟩
  | 111 => ⟨S384, .i32⟩
  | 112 => ⟨S384x1, .i32⟩
  | 113 => ⟨S1x384, .i32⟩
  | 114 => ⟨S384x384, .i32⟩
  | 115 => ⟨S384x384, .i32⟩
  | 116 => ⟨S384x384, .i1⟩
  | 117 => ⟨S384x384, .bf16⟩
  | 118 => ⟨S384, .i32⟩
  | 119 => ⟨S_, .i32⟩
  | 120 => ⟨S_, .i32⟩
  | 121 => ⟨S384, .i32⟩
  | 122 => ⟨S384, .i32⟩
  | 123 => ⟨S384, .i32⟩
  | 124 => ⟨S_, .i32⟩
  | 125 => ⟨S384, .i32⟩
  | 126 => ⟨S384, .i1⟩
  | 127 => ⟨S384, .i32⟩
  | _ => ⟨S2x8320x1024, .f32⟩

abbrev hbmTy0_1 (i : Nat) : BufTy := match i % 128 with
  | 0 => ⟨S384, .i32⟩
  | 1 => ⟨S_, .i32⟩
  | 2 => ⟨S384, .i32⟩
  | 3 => ⟨S384, .i1⟩
  | 4 => ⟨S384, .i1⟩
  | 5 => ⟨S_, .i32⟩
  | 6 => ⟨S384, .i32⟩
  | 7 => ⟨S384, .i32⟩
  | 8 => ⟨S384, .i32⟩
  | 9 => ⟨S384x1, .i32⟩
  | 10 => ⟨S1x384, .i32⟩
  | 11 => ⟨S384x384, .i32⟩
  | 12 => ⟨S384x384, .i32⟩
  | 13 => ⟨S384x384, .i1⟩
  | 14 => ⟨S384x384, .bf16⟩
  | 15 => ⟨S8320, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S8320x1, .f32⟩
  | 25 => ⟨S1x32, .f32⟩
  | 26 => ⟨S8320x32, .f32⟩
  | 27 => ⟨S8320x32, .f32⟩
  | 28 => ⟨S8320x32, .f32⟩
  | 29 => ⟨S8320x32, .f32⟩
  | 30 => ⟨S8320x32, .f32⟩
  | 31 => ⟨S_, .f32⟩
  | 32 => ⟨S8320x0, .f32⟩
  | 33 => ⟨S8320x64, .f32⟩
  | 34 => ⟨S8320x32, .f32⟩
  | 35 => ⟨S_, .f32⟩
  | 36 => ⟨S8320x0, .f32⟩
  | 37 => ⟨S8320x64, .f32⟩
  | 38 => ⟨S1x8320x1x64, .f32⟩
  | 39 => ⟨S1x8320x6x64, .f32⟩
  | 40 => ⟨S8320x384, .f32⟩
  | 41 => ⟨S_, .i32⟩
  | 42 => ⟨S_, .f32⟩
  | 43 => ⟨S8320x384, .f32⟩
  | 44 => ⟨S1x8320x1x64, .f32⟩
  | 45 => ⟨S1x8320x6x64, .f32⟩
  | 46 => ⟨S8320x384, .f32⟩
  | 47 => ⟨S_, .i32⟩
  | 48 => ⟨S_, .f32⟩
  | 49 => ⟨S8320x384, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S8320x1, .f32⟩
  | 59 => ⟨S1x8, .f32⟩
  | 60 => ⟨S8320x8, .f32⟩
  | 61 => ⟨S8320x8, .f32⟩
  | 62 => ⟨S8320x8, .f32⟩
  | 63 => ⟨S8320x8, .f32⟩
  | 64 => ⟨S8320x8, .f32⟩
  | 65 => ⟨S_, .f32⟩
  | 66 => ⟨S8320x48, .f32⟩
  | 67 => ⟨S8320x64, .f32⟩
  | 68 => ⟨S8320x8, .f32⟩
  | 69 => ⟨S_, .f32⟩
  | 70 => ⟨S8320x48, .f32⟩
  | 71 => ⟨S8320x64, .f32⟩
  | 72 => ⟨S1x8320x1x64, .f32⟩
  | 73 => ⟨S1x8320x5x64, .f32⟩
  | 74 => ⟨S8320x320, .f32⟩
  | 75 => ⟨S_, .i32⟩
  | 76 => ⟨S_, .f32⟩
  | 77 => ⟨S8320x384, .f32⟩
  | 78 => ⟨S1x8320x1x64, .f32⟩
  | 79 => ⟨S1x8320x5x64, .f32⟩
  | 80 => ⟨S8320x320, .f32⟩
  | 81 => ⟨S_, .i32⟩
  | 82 => ⟨S_, .f32⟩
  | 83 => ⟨S8320x384, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S8, .f32⟩
  | 92 => ⟨S8320x1, .f32⟩
  | 93 => ⟨S1x8, .f32⟩
  | 94 => ⟨S8320x8, .f32⟩
  | 95 => ⟨S8320x8, .f32⟩
  | 96 => ⟨S8320x8, .f32⟩
  | 97 => ⟨S8320x8, .f32⟩
  | 98 => ⟨S8320x8, .f32⟩
  | 99 => ⟨S_, .f32⟩
  | 100 => ⟨S8320x48, .f32⟩
  | 101 => ⟨S8320x64, .f32⟩
  | 102 => ⟨S8320x8, .f32⟩
  | 103 => ⟨S_, .f32⟩
  | 104 => ⟨S8320x48, .f32⟩
  | 105 => ⟨S8320x64, .f32⟩
  | 106 => ⟨S1x8320x1x64, .f32⟩
  | 107 => ⟨S1x8320x8x64, .f32⟩
  | 108 => ⟨S8320x512, .f32⟩
  | 109 => ⟨S_, .i32⟩
  | 110 => ⟨S_, .f32⟩
  | 111 => ⟨S8320x512, .f32⟩
  | 112 => ⟨S1x8320x1x64, .f32⟩
  | 113 => ⟨S1x8320x8x64, .f32⟩
  | 114 => ⟨S8320x512, .f32⟩
  | 115 => ⟨S_, .i32⟩
  | 116 => ⟨S_, .f32⟩
  | 117 => ⟨S8320x512, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S8, .f32⟩
  | 126 => ⟨S8320x1, .f32⟩
  | 127 => ⟨S1x8, .f32⟩
  | _ => ⟨S2x8320x1024, .f32⟩

abbrev hbmTy0_2 (i : Nat) : BufTy := match i % 128 with
  | 0 => ⟨S8320x8, .f32⟩
  | 1 => ⟨S8320x8, .f32⟩
  | 2 => ⟨S8320x8, .f32⟩
  | 3 => ⟨S8320x8, .f32⟩
  | 4 => ⟨S8320x8, .f32⟩
  | 5 => ⟨S_, .f32⟩
  | 6 => ⟨S8320x48, .f32⟩
  | 7 => ⟨S8320x64, .f32⟩
  | 8 => ⟨S8320x8, .f32⟩
  | 9 => ⟨S_, .f32⟩
  | 10 => ⟨S8320x48, .f32⟩
  | 11 => ⟨S8320x64, .f32⟩
  | 12 => ⟨S1x8320x1x64, .f32⟩
  | 13 => ⟨S1x8320x1x64, .f32⟩
  | 14 => ⟨S8320x64, .f32⟩
  | 15 => ⟨S_, .i32⟩
  | 16 => ⟨S_, .f32⟩
  | 17 => ⟨S8320x128, .f32⟩
  | 18 => ⟨S1x8320x1x64, .f32⟩
  | 19 => ⟨S1x8320x1x64, .f32⟩
  | 20 => ⟨S8320x64, .f32⟩
  | 21 => ⟨S_, .i32⟩
  | 22 => ⟨S_, .f32⟩
  | 23 => ⟨S8320x128, .f32⟩
  | 24 => ⟨S4, .f32⟩
  | 25 => ⟨S_, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S8320x1, .f32⟩
  | 33 => ⟨S1x4, .f32⟩
  | 34 => ⟨S8320x4, .f32⟩
  | 35 => ⟨S8320x4, .f32⟩
  | 36 => ⟨S8320x4, .f32⟩
  | 37 => ⟨S8320x4, .f32⟩
  | 38 => ⟨S8320x4, .f32⟩
  | 39 => ⟨S_, .f32⟩
  | 40 => ⟨S8320x24, .f32⟩
  | 41 => ⟨S8320x32, .f32⟩
  | 42 => ⟨S8320x4, .f32⟩
  | 43 => ⟨S_, .f32⟩
  | 44 => ⟨S8320x24, .f32⟩
  | 45 => ⟨S8320x32, .f32⟩
  | 46 => ⟨S1x8320x1x32, .f32⟩
  | 47 => ⟨S1x8320x10x32, .f32⟩
  | 48 => ⟨S8320x320, .f32⟩
  | 49 => ⟨S_, .i32⟩
  | 50 => ⟨S_, .f32⟩
  | 51 => ⟨S8320x384, .f32⟩
  | 52 => ⟨S1x8320x1x32, .f32⟩
  | 53 => ⟨S1x8320x10x32, .f32⟩
  | 54 => ⟨S8320x320, .f32⟩
  | 55 => ⟨S_, .i32⟩
  | 56 => ⟨S_, .f32⟩
  | 57 => ⟨S8320x384, .f32⟩
  | 58 => ⟨S8320x3584, .f32⟩
  | 59 => ⟨S16640x1024, .f32⟩
  | 60 => ⟨S16640x384, .f32⟩
  | 61 => ⟨S16640x384, .f32⟩
  | 62 => ⟨S16640x384, .f32⟩
  | 63 => ⟨S16640x384, .f32⟩
  | 64 => ⟨S16640x320, .f32⟩
  | 65 => ⟨S16640x320, .f32⟩
  | 66 => ⟨S16640x320, .f32⟩
  | 67 => ⟨S16640x512, .f32⟩
  | 68 => ⟨S16640x64, .f32⟩
  | 69 => ⟨S16640x8, .f32⟩
  | 70 => ⟨S16640x320, .f32⟩
  | 71 => ⟨S16640x320, .f32⟩
  | 72 => ⟨S16640x320, .f32⟩
  | 73 => ⟨S2x5x9216x64, .bf16⟩
  | 74 => ⟨S2x5x9216x64, .bf16⟩
  | _ => ⟨S2x8320x1024, .f32⟩

abbrev hbmTy (i : Nat) : BufTy := match i / 128 with
  | 0 => hbmTy0_0 i
  | 1 => hbmTy0_1 i
  | 2 => hbmTy0_2 i
  | _ => ⟨S2x8320x1024, .f32⟩

abbrev bufTy : (tb : Table) → Fin (tcTables nBuf tb) → BufTy
  | .hbm, ⟨i, _⟩ => hbmTy i
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S1024x4608, .bf16⟩
  | .local _ .vmem, ⟨4, _⟩ => ⟨S8x384, .f32⟩
  | .local _ .vmem, ⟨5, _⟩ => ⟨S384x384, .bf16⟩
  | .local _ .vmem, ⟨6, _⟩ => ⟨S384x384, .bf16⟩
  | .local _ .vmem, ⟨7, _⟩ => ⟨S320x3584, .f32⟩
  | .local _ .vmem, ⟨8, _⟩ => ⟨S320x3584, .f32⟩
  | .local _ .vmem, ⟨9, _⟩ => ⟨S320x384, .f32⟩
  | .local _ .vmem, ⟨10, _⟩ => ⟨S320x384, .f32⟩
  | .local _ .vmem, ⟨11, _⟩ => ⟨S320x384, .f32⟩
  | .local _ .vmem, ⟨12, _⟩ => ⟨S320x384, .f32⟩
  | .local _ .vmem, ⟨13, _⟩ => ⟨S320x384, .f32⟩
  | .local _ .vmem, ⟨14, _⟩ => ⟨S320x384, .f32⟩
  | .local _ .vmem, ⟨15, _⟩ => ⟨S320x384, .f32⟩
  | .local _ .vmem, ⟨16, _⟩ => ⟨S320x384, .f32⟩
  | .local _ .vmem, ⟨17, _⟩ => ⟨S320x320, .f32⟩
  | .local _ .vmem, ⟨18, _⟩ => ⟨S320x320, .f32⟩
  | .local _ .vmem, ⟨19, _⟩ => ⟨S320x320, .f32⟩
  | .local _ .vmem, ⟨20, _⟩ => ⟨S320x320, .f32⟩
  | .local _ .vmem, ⟨21, _⟩ => ⟨S320x320, .f32⟩
  | .local _ .vmem, ⟨22, _⟩ => ⟨S320x320, .f32⟩
  | .local _ .vmem, ⟨23, _⟩ => ⟨S320x512, .f32⟩
  | .local _ .vmem, ⟨24, _⟩ => ⟨S320x512, .f32⟩
  | .local _ .vmem, ⟨25, _⟩ => ⟨S320x64, .f32⟩
  | .local _ .vmem, ⟨26, _⟩ => ⟨S320x64, .f32⟩
  | .local _ .vmem, ⟨27, _⟩ => ⟨S320x8, .f32⟩
  | .local _ .vmem, ⟨28, _⟩ => ⟨S320x8, .f32⟩
  | .local _ .vmem, ⟨29, _⟩ => ⟨S320x320, .f32⟩
  | .local _ .vmem, ⟨30, _⟩ => ⟨S320x320, .f32⟩
  | .local _ .vmem, ⟨31, _⟩ => ⟨S320x320, .f32⟩
  | .local _ .vmem, ⟨32, _⟩ => ⟨S320x320, .f32⟩
  | .local _ .vmem, ⟨33, _⟩ => ⟨S320x320, .f32⟩
  | .local _ .vmem, ⟨34, _⟩ => ⟨S320x320, .f32⟩
  | .local _ .vmem, ⟨35, _⟩ => ⟨S1x5x320x64, .bf16⟩
  | .local _ .vmem, ⟨36, _⟩ => ⟨S1x5x320x64, .bf16⟩
  | .local _ .vmem, ⟨37, _⟩ => ⟨S1x5x320x64, .bf16⟩
  | .local _ .vmem, ⟨38, _⟩ => ⟨S1x5x320x64, .bf16⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_c_0 : Ref sig .tc := ⟨.hbm, 23, rfl⟩
abbrev main_call1_v0 : Ref sig .tc := ⟨.hbm, 24, rfl⟩
abbrev main_v14 : Ref sig .tc := ⟨.hbm, 25, rfl⟩
abbrev main_c_1 : Ref sig .tc := ⟨.hbm, 26, rfl⟩
abbrev main_call2_v0 : Ref sig .tc := ⟨.hbm, 27, rfl⟩
abbrev main_v15 : Ref sig .tc := ⟨.hbm, 28, rfl⟩
abbrev main_c_2 : Ref sig .tc := ⟨.hbm, 29, rfl⟩
abbrev main_call3_v0 : Ref sig .tc := ⟨.hbm, 30, rfl⟩
abbrev main_v16 : Ref sig .tc := ⟨.hbm, 31, rfl⟩
abbrev main_c_3 : Ref sig .tc := ⟨.hbm, 32, rfl⟩
abbrev main_call4_v0 : Ref sig .tc := ⟨.hbm, 33, rfl⟩
abbrev main_v17 : Ref sig .tc := ⟨.hbm, 34, rfl⟩
abbrev main_c_4 : Ref sig .tc := ⟨.hbm, 35, rfl⟩
abbrev main_call5_v0 : Ref sig .tc := ⟨.hbm, 36, rfl⟩
abbrev main_v18 : Ref sig .tc := ⟨.hbm, 37, rfl⟩
abbrev main_c_5 : Ref sig .tc := ⟨.hbm, 38, rfl⟩
abbrev main_call6_v0 : Ref sig .tc := ⟨.hbm, 39, rfl⟩
abbrev main_v19 : Ref sig .tc := ⟨.hbm, 40, rfl⟩
abbrev main_c_6 : Ref sig .tc := ⟨.hbm, 41, rfl⟩
abbrev main_call7_v0 : Ref sig .tc := ⟨.hbm, 42, rfl⟩
abbrev main_v20 : Ref sig .tc := ⟨.hbm, 43, rfl⟩
abbrev main_c_7 : Ref sig .tc := ⟨.hbm, 44, rfl⟩
abbrev main_call8_v0 : Ref sig .tc := ⟨.hbm, 45, rfl⟩
abbrev main_v21 : Ref sig .tc := ⟨.hbm, 46, rfl⟩
abbrev main_c_8 : Ref sig .tc := ⟨.hbm, 47, rfl⟩
abbrev main_call9_v0 : Ref sig .tc := ⟨.hbm, 48, rfl⟩
abbrev main_v22 : Ref sig .tc := ⟨.hbm, 49, rfl⟩
abbrev main_c_9 : Ref sig .tc := ⟨.hbm, 50, rfl⟩
abbrev main_call10_v0 : Ref sig .tc := ⟨.hbm, 51, rfl⟩
abbrev main_v23 : Ref sig .tc := ⟨.hbm, 52, rfl⟩
abbrev main_c_10 : Ref sig .tc := ⟨.hbm, 53, rfl⟩
abbrev main_call11_v0 : Ref sig .tc := ⟨.hbm, 54, rfl⟩
abbrev main_v24 : Ref sig .tc := ⟨.hbm, 55, rfl⟩
abbrev main_c_11 : Ref sig .tc := ⟨.hbm, 56, rfl⟩
abbrev main_call12_v0 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_12 : Ref sig .tc := ⟨.hbm, 65, rfl⟩
abbrev main_call13_v0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_13 : Ref sig .tc := ⟨.hbm, 72, rfl⟩
abbrev main_call14_v0 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_14 : Ref sig .tc := ⟨.hbm, 79, rfl⟩
abbrev main_call15_v0 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_15 : Ref sig .tc := ⟨.hbm, 86, rfl⟩
abbrev main_call16_v0 : Ref sig .tc := ⟨.hbm, 87, rfl⟩
abbrev main_v47 : Ref sig .tc := ⟨.hbm, 88, rfl⟩
abbrev main_cst : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_16 : Ref sig .tc := ⟨.hbm, 94, rfl⟩
abbrev main_call17_v0 : Ref sig .tc := ⟨.hbm, 95, rfl⟩
abbrev main_call17_v1 : Ref sig .tc := ⟨.hbm, 96, rfl⟩
abbrev main_call17_v2 : Ref sig .tc := ⟨.hbm, 97, rfl⟩
abbrev main_call17_v3 : Ref sig .tc := ⟨.hbm, 98, rfl⟩
abbrev main_call17_v4 : Ref sig .tc := ⟨.hbm, 99, rfl⟩
abbrev main_call17_v5 : Ref sig .tc := ⟨.hbm, 100, rfl⟩
abbrev main_call17_v6 : Ref sig .tc := ⟨.hbm, 101, rfl⟩
abbrev main_call17_v7 : Ref sig .tc := ⟨.hbm, 102, rfl⟩
abbrev main_call17_v8 : Ref sig .tc := ⟨.hbm, 103, rfl⟩
abbrev main_call17_c : Ref sig .tc := ⟨.hbm, 104, rfl⟩
abbrev main_call17_v9 : Ref sig .tc := ⟨.hbm, 105, rfl⟩
abbrev main_call17_v10 : Ref sig .tc := ⟨.hbm, 106, rfl⟩
abbrev main_call17_v11 : Ref sig .tc := ⟨.hbm, 107, rfl⟩
abbrev main_call17_c_0 : Ref sig .tc := ⟨.hbm, 108, rfl⟩
abbrev main_call17_v12 : Ref sig .tc := ⟨.hbm, 109, rfl⟩
abbrev main_call17_v13 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_17 : Ref sig .tc := ⟨.hbm, 119, rfl⟩
abbrev main_call18_v0 : Ref sig .tc := ⟨.hbm, 120, rfl⟩
abbrev main_call18_v1 : Ref sig .tc := ⟨.hbm, 121, rfl⟩
abbrev main_call18_v2 : Ref sig .tc := ⟨.hbm, 122, rfl⟩
abbrev main_call18_v3 : Ref sig .tc := ⟨.hbm, 123, rfl⟩
abbrev main_call18_v4 : Ref sig .tc := ⟨.hbm, 124, rfl⟩
abbrev main_call18_v5 : Ref sig .tc := ⟨.hbm, 125, rfl⟩
abbrev main_call18_v6 : Ref sig .tc := ⟨.hbm, 126, rfl⟩
abbrev main_call18_v7 : Ref sig .tc := ⟨.hbm, 127, rfl⟩
abbrev main_call18_v8 : Ref sig .tc := ⟨.hbm, 128, rfl⟩
abbrev main_call18_c : Ref sig .tc := ⟨.hbm, 129, rfl⟩
abbrev main_call18_v9 : Ref sig .tc := ⟨.hbm, 130, rfl⟩
abbrev main_call18_v10 : Ref sig .tc := ⟨.hbm, 131, rfl⟩
abbrev main_call18_v11 : Ref sig .tc := ⟨.hbm, 132, rfl⟩
abbrev main_call18_c_0 : Ref sig .tc := ⟨.hbm, 133, rfl⟩
abbrev main_call18_v12 : Ref sig .tc := ⟨.hbm, 134, rfl⟩
abbrev main_call18_v13 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_18 : Ref sig .tc := ⟨.hbm, 145, rfl⟩
abbrev main_v69 : Ref sig .tc := ⟨.hbm, 146, rfl⟩
abbrev main_v70 : Ref sig .tc := ⟨.hbm, 147, rfl⟩
abbrev main_cst_19 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_20 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_cst_21 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_c_22 : Ref sig .tc := ⟨.hbm, 169, rfl⟩
abbrev main_call19_v0 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_c_23 : Ref sig .tc := ⟨.hbm, 175, rfl⟩
abbrev main_call20_v0 : Ref sig .tc := ⟨.hbm, 176, rfl⟩
abbrev main_v93 : Ref sig .tc := ⟨.hbm, 177, rfl⟩
abbrev main_v94 : Ref sig .tc := ⟨.hbm, 178, rfl⟩
abbrev main_cst_24 : Ref sig .tc := ⟨.hbm, 179, rfl⟩
abbrev main_v95 : Ref sig .tc := ⟨.hbm, 180, rfl⟩
abbrev main_v96 : Ref sig .tc := ⟨.hbm, 181, rfl⟩
abbrev main_cst_25 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_cst_26 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_cst_27 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_c_28 : Ref sig .tc := ⟨.hbm, 203, rfl⟩
abbrev main_call21_v0 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_c_29 : Ref sig .tc := ⟨.hbm, 209, rfl⟩
abbrev main_call22_v0 : Ref sig .tc := ⟨.hbm, 210, rfl⟩
abbrev main_v119 : Ref sig .tc := ⟨.hbm, 211, rfl⟩
abbrev main_v120 : Ref sig .tc := ⟨.hbm, 212, rfl⟩
abbrev main_cst_30 : Ref sig .tc := ⟨.hbm, 213, rfl⟩
abbrev main_v121 : Ref sig .tc := ⟨.hbm, 214, rfl⟩
abbrev main_v122 : Ref sig .tc := ⟨.hbm, 215, rfl⟩
abbrev main_cst_31 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_cst_32 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_33 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_c_34 : Ref sig .tc := ⟨.hbm, 237, rfl⟩
abbrev main_call23_v0 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_c_35 : Ref sig .tc := ⟨.hbm, 243, rfl⟩
abbrev main_call24_v0 : Ref sig .tc := ⟨.hbm, 244, rfl⟩
abbrev main_v145 : Ref sig .tc := ⟨.hbm, 245, rfl⟩
abbrev main_v146 : Ref sig .tc := ⟨.hbm, 246, rfl⟩
abbrev main_cst_36 : Ref sig .tc := ⟨.hbm, 247, rfl⟩
abbrev main_v147 : Ref sig .tc := ⟨.hbm, 248, rfl⟩
abbrev main_v148 : Ref sig .tc := ⟨.hbm, 249, rfl⟩
abbrev main_cst_37 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_cst_38 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_cst_39 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_c_40 : Ref sig .tc := ⟨.hbm, 271, rfl⟩
abbrev main_call25_v0 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_c_41 : Ref sig .tc := ⟨.hbm, 277, rfl⟩
abbrev main_call26_v0 : Ref sig .tc := ⟨.hbm, 278, rfl⟩
abbrev main_v171 : Ref sig .tc := ⟨.hbm, 279, rfl⟩
abbrev main_v172 : Ref sig .tc := ⟨.hbm, 280, rfl⟩
abbrev main_cst_42 : Ref sig .tc := ⟨.hbm, 281, rfl⟩
abbrev main_v173 : Ref sig .tc := ⟨.hbm, 282, rfl⟩
abbrev main_v174 : Ref sig .tc := ⟨.hbm, 283, rfl⟩
abbrev main_cst_43 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_cst_44 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_cst_45 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_c_46 : Ref sig .tc := ⟨.hbm, 305, rfl⟩
abbrev main_call27_v0 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_c_47 : Ref sig .tc := ⟨.hbm, 311, rfl⟩
abbrev main_call28_v0 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200_0 : Ref sig .tc := ⟨.hbm, 316, rfl⟩
abbrev main_v200_1 : Ref sig .tc := ⟨.hbm, 317, rfl⟩
abbrev main_v200_2 : Ref sig .tc := ⟨.hbm, 318, rfl⟩
abbrev main_v200_3 : Ref sig .tc := ⟨.hbm, 319, rfl⟩
abbrev main_v200_4 : Ref sig .tc := ⟨.hbm, 320, rfl⟩
abbrev main_v200_5 : Ref sig .tc := ⟨.hbm, 321, rfl⟩
abbrev main_v200_6 : Ref sig .tc := ⟨.hbm, 322, rfl⟩
abbrev main_v200_7 : Ref sig .tc := ⟨.hbm, 323, rfl⟩
abbrev main_v200_8 : Ref sig .tc := ⟨.hbm, 324, rfl⟩
abbrev main_v200_9 : Ref sig .tc := ⟨.hbm, 325, rfl⟩
abbrev main_v200_10 : Ref sig .tc := ⟨.hbm, 326, rfl⟩
abbrev main_v200_11 : Ref sig .tc := ⟨.hbm, 327, rfl⟩
abbrev main_v200_12 : Ref sig .tc := ⟨.hbm, 328, rfl⟩
abbrev main_v200_13 : Ref sig .tc := ⟨.hbm, 329, rfl⟩
abbrev main_v200_14 : Ref sig .tc := ⟨.hbm, 330, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c26_i32 : BitVec 32 := 26#32
  let c0_i32 : BitVec 32 := 0#32
  let v0 : BitVec 1 := Scalar.cmpi .eq c26_i32 c0_i32
  let c1_i32 : BitVec 32 := 1#32
  let v1 : BitVec 32 := Scalar.select v0 c1_i32 c26_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 4 → Nat :=
  let arg0 : BitVec 32 := BitVec.ofNat 32 (i 0).val
  let c26_i32 : BitVec 32 := 26#32
  let v0 : BitVec 32 := Scalar.divsi arg0 c26_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c26_i32 c0_i32_1
  let v7 : BitVec 32 := Scalar.extui v6
  let c0_i32_2 : BitVec 32 := 0#32
  let v8 : BitVec 1 := Scalar.cmpi .slt c26_i32 c0_i32_2
  let v9 : BitVec 32 := Scalar.extui v8
  let v10 : BitVec 32 := Scalar.subi v7 v9
  let v11 : BitVec 1 := Scalar.cmpi .ne v5 v10
  let v12 : BitVec 32 := Scalar.remsi arg0 c26_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c26_i32_4 : BitVec 32 := 26#32
  let c0_i32_5 : BitVec 32 := 0#32
  let v17 : BitVec 1 := Scalar.cmpi .eq c26_i32_4 c0_i32_5
  let c1_i32_6 : BitVec 32 := 1#32
  let v18 : BitVec 32 := Scalar.select v17 c1_i32_6 c26_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_21 (i : grid0.Coords) : Fin 4 → Nat :=
  let arg0 : BitVec 32 := BitVec.ofNat 32 (i 0).val
  let c26_i32 : BitVec 32 := 26#32
  let v0 : BitVec 32 := Scalar.divsi arg0 c26_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c26_i32 c0_i32_1
  let v7 : BitVec 32 := Scalar.extui v6
  let c0_i32_2 : BitVec 32 := 0#32
  let v8 : BitVec 1 := Scalar.cmpi .slt c26_i32 c0_i32_2
  let v9 : BitVec 32 := Scalar.extui v8
  let v10 : BitVec 32 := Scalar.subi v7 v9
  let v11 : BitVec 1 := Scalar.cmpi .ne v5 v10
  let v12 : BitVec 32 := Scalar.remsi arg0 c26_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c26_i32_4 : BitVec 32 := 26#32
  let c0_i32_5 : BitVec 32 := 0#32
  let v17 : BitVec 1 := Scalar.cmpi .eq c26_i32_4 c0_i32_5
  let c1_i32_6 : BitVec 32 := 1#32
  let v18 : BitVec 32 := Scalar.select v17 c1_i32_6 c26_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x320 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x320 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x320 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S320x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S320x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S320x320 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S320x320 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S320x320 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x5x320x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x5x320x64 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjRefIdeal.lean ====
abbrev S2x8320x1024 : Shape := ⟨3, ![2, 8320, 1024]⟩
abbrev S1024 : Shape := ⟨1, ![1024]⟩
abbrev S1024x4040 : Shape := ⟨2, ![1024, 4040]⟩
abbrev S64 : Shape := ⟨1, ![64]⟩
abbrev S32 : Shape := ⟨1, ![32]⟩
abbrev S_ : Shape := ⟨0, ![]⟩
abbrev S2x8320 : Shape := ⟨2, ![2, 8320]⟩
abbrev S2x8320x1 : Shape := ⟨3, ![2, 8320, 1]⟩
abbrev S1x1x1024 : Shape := ⟨3, ![1, 1, 1024]⟩
abbrev S8320 : Shape := ⟨1, ![8320]⟩
abbrev S2x8320x4040 : Shape := ⟨3, ![2, 8320, 4040]⟩
abbrev S2x8320x384 : Shape := ⟨3, ![2, 8320, 384]⟩
abbrev S2x8320x320 : Shape := ⟨3, ![2, 8320, 320]⟩
abbrev S2x8320x512 : Shape := ⟨3, ![2, 8320, 512]⟩
abbrev S2x8320x64 : Shape := ⟨3, ![2, 8320, 64]⟩
abbrev S2x8320x8 : Shape := ⟨3, ![2, 8320, 8]⟩
abbrev S2x8320x6x64 : Shape := ⟨4, ![2, 8320, 6, 64]⟩
abbrev S8320x1 : Shape := ⟨2, ![8320, 1]⟩
abbrev S1x32 : Shape := ⟨2, ![1, 32]⟩
abbrev S8320x32 : Shape := ⟨2, ![8320, 32]⟩
abbrev S1x8320x1x32 : Shape := ⟨4, ![1, 8320, 1, 32]⟩
abbrev S2x8320x6x32 : Shape := ⟨4, ![2, 8320, 6, 32]⟩
abbrev S2x8320x6x0 : Shape := ⟨4, ![2, 8320, 6, 0]⟩
abbrev S2x8320x5x64 : Shape := ⟨4, ![2, 8320, 5, 64]⟩
abbrev S2x8320x5 : Shape := ⟨3, ![2, 8320, 5]⟩
abbrev S2x8320x5x1 : Shape := ⟨4, ![2, 8320, 5, 1]⟩
abbrev S1x1x1x64 : Shape := ⟨4, ![1, 1, 1, 64]⟩
abbrev S8 : Shape := ⟨1, ![8]⟩
abbrev S1x8 : Shape := ⟨2, ![1, 8]⟩
abbrev S8320x8 : Shape := ⟨2, ![8320, 8]⟩
abbrev S1x8320x1x8 : Shape := ⟨4, ![1, 8320, 1, 8]⟩
abbrev S2x8320x5x8 : Shape := ⟨4, ![2, 8320, 5, 8]⟩
abbrev S2x8320x5x48 : Shape := ⟨4, ![2, 8320, 5, 48]⟩
abbrev S2x8320x8x64 : Shape := ⟨4, ![2, 8320, 8, 64]⟩
abbrev S2x8320x8x8 : Shape := ⟨4, ![2, 8320, 8, 8]⟩
abbrev S2x8320x8x48 : Shape := ⟨4, ![2, 8320, 8, 48]⟩
abbrev S2x8320x1x64 : Shape := ⟨4, ![2, 8320, 1, 64]⟩
abbrev S2x8320x1x8 : Shape := ⟨4, ![2, 8320, 1, 8]⟩
abbrev S2x8320x1x48 : Shape := ⟨4, ![2, 8320, 1, 48]⟩
abbrev S2x8320x10x32 : Shape := ⟨4, ![2, 8320, 10, 32]⟩
abbrev S2x8320x10 : Shape := ⟨3, ![2, 8320, 10]⟩
abbrev S2x8320x10x1 : Shape := ⟨4, ![2, 8320, 10, 1]⟩
abbrev S1x1x1x32 : Shape := ⟨4, ![1, 1, 1, 32]⟩
abbrev S4 : Shape := ⟨1, ![4]⟩
abbrev S1x4 : Shape := ⟨2, ![1, 4]⟩
abbrev S8320x4 : Shape := ⟨2, ![8320, 4]⟩
abbrev S1x8320x1x4 : Shape := ⟨4, ![1, 8320, 1, 4]⟩
abbrev S2x8320x10x4 : Shape := ⟨4, ![2, 8320, 10, 4]⟩
abbrev S2x8320x10x24 : Shape := ⟨4, ![2, 8320, 10, 24]⟩
abbrev S2x8320x5x2x32 : Shape := ⟨5, ![2, 8320, 5, 2, 32]⟩
abbrev S16640x384 : Shape := ⟨2, ![16640, 384]⟩
abbrev S16640x320 : Shape := ⟨2, ![16640, 320]⟩
abbrev S16640x512 : Shape := ⟨2, ![16640, 512]⟩
abbrev S16640x64 : Shape := ⟨2, ![16640, 64]⟩
abbrev S16640x8 : Shape := ⟨2, ![16640, 8]⟩

abbrev nBuf : Space → Nat
  | .hbm => 383
  | .vmem => 0
  | .smem => 0
  | _ => 0

abbrev hbmTy0_0 (i : Nat) : BufTy := match i % 128 with
  | 0 => ⟨S2x8320x1024, .f32⟩
  | 1 => ⟨S1024, .f32⟩
  | 2 => ⟨S1024x4040, .f32⟩
  | 3 => ⟨S64, .f32⟩
  | 4 => ⟨S64, .f32⟩
  | 5 => ⟨S32, .f32⟩
  | 6 => ⟨S32, .f32⟩
  | 7 => ⟨S2x8320x1024, .f32⟩
  | 8 => ⟨S_, .f32⟩
  | 9 => ⟨S2x8320, .f32⟩
  | 10 => ⟨S2x8320x1, .f32⟩
  | 11 => ⟨S_, .f32⟩
  | 12 => ⟨S2x8320x1, .f32⟩
  | 13 => ⟨S2x8320x1, .f32⟩
  | 14 => ⟨S_, .f32⟩
  | 15 => ⟨S2x8320x1, .f32⟩
  | 16 => ⟨S2x8320x1, .f32⟩
  | 17 => ⟨S2x8320x1, .f32⟩
  | 18 => ⟨S2x8320x1024, .f32⟩
  | 19 => ⟨S2x8320x1024, .f32⟩
  | 20 => ⟨S1x1x1024, .f32⟩
  | 21 => ⟨S2x8320x1024, .f32⟩
  | 22 => ⟨S2x8320x1024, .f32⟩
  | 23 => ⟨S8320, .f32⟩
  | 24 => ⟨S2x8320x4040, .f32⟩
  | 25 => ⟨S2x8320x384, .f32⟩
  | 26 => ⟨S2x8320x384, .f32⟩
  | 27 => ⟨S2x8320x384, .f32⟩
  | 28 => ⟨S2x8320x384, .f32⟩
  | 29 => ⟨S2x8320x320, .f32⟩
  | 30 => ⟨S2x8320x320, .f32⟩
  | 31 => ⟨S2x8320x320, .f32⟩
  | 32 => ⟨S2x8320x512, .f32⟩
  | 33 => ⟨S2x8320x64, .f32⟩
  | 34 => ⟨S2x8320x8, .f32⟩
  | 35 => ⟨S2x8320x320, .f32⟩
  | 36 => ⟨S2x8320x320, .f32⟩
  | 37 => ⟨S2x8320x320, .f32⟩
  | 38 => ⟨S2x8320x6x64, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S32, .f32⟩
  | 47 => ⟨S8320x1, .f32⟩
  | 48 => ⟨S1x32, .f32⟩
  | 49 => ⟨S8320x32, .f32⟩
  | 50 => ⟨S8320x32, .f32⟩
  | 51 => ⟨S8320x32, .f32⟩
  | 52 => ⟨S8320x32, .f32⟩
  | 53 => ⟨S1x8320x1x32, .f32⟩
  | 54 => ⟨S8320x32, .f32⟩
  | 55 => ⟨S1x8320x1x32, .f32⟩
  | 56 => ⟨S2x8320x6x32, .f32⟩
  | 57 => ⟨S2x8320x6x32, .f32⟩
  | 58 => ⟨S2x8320x6x32, .f32⟩
  | 59 => ⟨S2x8320x6x32, .f32⟩
  | 60 => ⟨S2x8320x6x32, .f32⟩
  | 61 => ⟨S2x8320x6x32, .f32⟩
  | 62 => ⟨S2x8320x6x32, .f32⟩
  | 63 => ⟨S2x8320x6x32, .f32⟩
  | 64 => ⟨S2x8320x6x32, .f32⟩
  | 65 => ⟨S2x8320x6x32, .f32⟩
  | 66 => ⟨S2x8320x6x32, .f32⟩
  | 67 => ⟨S2x8320x6x32, .f32⟩
  | 68 => ⟨S2x8320x6x0, .f32⟩
  | 69 => ⟨S2x8320x6x64, .f32⟩
  | 70 => ⟨S2x8320x6x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S8320x1, .f32⟩
  | 80 => ⟨S1x32, .f32⟩
  | 81 => ⟨S8320x32, .f32⟩
  | 82 => ⟨S8320x32, .f32⟩
  | 83 => ⟨S8320x32, .f32⟩
  | 84 => ⟨S8320x32, .f32⟩
  | 85 => ⟨S1x8320x1x32, .f32⟩
  | 86 => ⟨S8320x32, .f32⟩
  | 87 => ⟨S1x8320x1x32, .f32⟩
  | 88 => ⟨S2x8320x6x32, .f32⟩
  | 89 => ⟨S2x8320x6x32, .f32⟩
  | 90 => ⟨S2x8320x6x32, .f32⟩
  | 91 => ⟨S2x8320x6x32, .f32⟩
  | 92 => ⟨S2x8320x6x32, .f32⟩
  | 93 => ⟨S2x8320x6x32, .f32⟩
  | 94 => ⟨S2x8320x6x32, .f32⟩
  | 95 => ⟨S2x8320x6x32, .f32⟩
  | 96 => ⟨S2x8320x6x32, .f32⟩
  | 97 => ⟨S2x8320x6x32, .f32⟩
  | 98 => ⟨S2x8320x6x32, .f32⟩
  | 99 => ⟨S2x8320x6x32, .f32⟩
  | 100 => ⟨S2x8320x6x0, .f32⟩
  | 101 => ⟨S2x8320x6x64, .f32⟩
  | 102 => ⟨S_, .f32⟩
  | 103 => ⟨S2x8320x6x64, .f32⟩
  | 104 => ⟨S2x8320x6x64, .f32⟩
  | 105 => ⟨S2x8320x6x64, .f32⟩
  | 106 => ⟨S2x8320x5x64, .f32⟩
  | 107 => ⟨S2x8320x5x64, .f32⟩
  | 108 => ⟨S_, .f32⟩
  | 109 => ⟨S2x8320x5, .f32⟩
  | 110 => ⟨S2x8320x5x1, .f32⟩
  | 111 => ⟨S_, .f32⟩
  | 112 => ⟨S2x8320x5x1, .f32⟩
  | 113 => ⟨S2x8320x5x1, .f32⟩
  | 114 => ⟨S_, .f32⟩
  | 115 => ⟨S2x8320x5x1, .f32⟩
  | 116 => ⟨S2x8320x5x1, .f32⟩
  | 117 => ⟨S2x8320x5x1, .f32⟩
  | 118 => ⟨S2x8320x5x64, .f32⟩
  | 119 => ⟨S2x8320x5x64, .f32⟩
  | 120 => ⟨S1x1x1x64, .f32⟩
  | 121 => ⟨S2x8320x5x64, .f32⟩
  | 122 => ⟨S2x8320x5x64, .f32⟩
  | 123 => ⟨S8, .f32⟩
  | 124 => ⟨S_, .f32⟩
  | 125 => ⟨S8, .f32⟩
  | 126 => ⟨S8, .f32⟩
  | 127 => ⟨S_, .f32⟩
  | _ => ⟨S2x8320x1024, .f32⟩

abbrev hbmTy0_1 (i : Nat) : BufTy := match i % 128 with
  | 0 => ⟨S8, .f32⟩
  | 1 => ⟨S8, .f32⟩
  | 2 => ⟨S8, .f32⟩
  | 3 => ⟨S8320x1, .f32⟩
  | 4 => ⟨S1x8, .f32⟩
  | 5 => ⟨S8320x8, .f32⟩
  | 6 => ⟨S8320x8, .f32⟩
  | 7 => ⟨S8320x8, .f32⟩
  | 8 => ⟨S8320x8, .f32⟩
  | 9 => ⟨S1x8320x1x8, .f32⟩
  | 10 => ⟨S8320x8, .f32⟩
  | 11 => ⟨S1x8320x1x8, .f32⟩
  | 12 => ⟨S2x8320x5x8, .f32⟩
  | 13 => ⟨S2x8320x5x8, .f32⟩
  | 14 => ⟨S2x8320x5x8, .f32⟩
  | 15 => ⟨S2x8320x5x8, .f32⟩
  | 16 => ⟨S2x8320x5x8, .f32⟩
  | 17 => ⟨S2x8320x5x8, .f32⟩
  | 18 => ⟨S2x8320x5x8, .f32⟩
  | 19 => ⟨S2x8320x5x8, .f32⟩
  | 20 => ⟨S2x8320x5x8, .f32⟩
  | 21 => ⟨S2x8320x5x8, .f32⟩
  | 22 => ⟨S2x8320x5x8, .f32⟩
  | 23 => ⟨S2x8320x5x8, .f32⟩
  | 24 => ⟨S2x8320x5x48, .f32⟩
  | 25 => ⟨S2x8320x5x64, .f32⟩
  | 26 => ⟨S2x8320x5x64, .f32⟩
  | 27 => ⟨S2x8320x5x64, .f32⟩
  | 28 => ⟨S_, .f32⟩
  | 29 => ⟨S2x8320x5, .f32⟩
  | 30 => ⟨S2x8320x5x1, .f32⟩
  | 31 => ⟨S_, .f32⟩
  | 32 => ⟨S2x8320x5x1, .f32⟩
  | 33 => ⟨S2x8320x5x1, .f32⟩
  | 34 => ⟨S_, .f32⟩
  | 35 => ⟨S2x8320x5x1, .f32⟩
  | 36 => ⟨S2x8320x5x1, .f32⟩
  | 37 => ⟨S2x8320x5x1, .f32⟩
  | 38 => ⟨S2x8320x5x64, .f32⟩
  | 39 => ⟨S2x8320x5x64, .f32⟩
  | 40 => ⟨S1x1x1x64, .f32⟩
  | 41 => ⟨S2x8320x5x64, .f32⟩
  | 42 => ⟨S2x8320x5x64, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S8, .f32⟩
  | 51 => ⟨S8320x1, .f32⟩
  | 52 => ⟨S1x8, .f32⟩
  | 53 => ⟨S8320x8, .f32⟩
  | 54 => ⟨S8320x8, .f32⟩
  | 55 => ⟨S8320x8, .f32⟩
  | 56 => ⟨S8320x8, .f32⟩
  | 57 => ⟨S1x8320x1x8, .f32⟩
  | 58 => ⟨S8320x8, .f32⟩
  | 59 => ⟨S1x8320x1x8, .f32⟩
  | 60 => ⟨S2x8320x5x8, .f32⟩
  | 61 => ⟨S2x8320x5x8, .f32⟩
  | 62 => ⟨S2x8320x5x8, .f32⟩
  | 63 => ⟨S2x8320x5x8, .f32⟩
  | 64 => ⟨S2x8320x5x8, .f32⟩
  | 65 => ⟨S2x8320x5x8, .f32⟩
  | 66 => ⟨S2x8320x5x8, .f32⟩
  | 67 => ⟨S2x8320x5x8, .f32⟩
  | 68 => ⟨S2x8320x5x8, .f32⟩
  | 69 => ⟨S2x8320x5x8, .f32⟩
  | 70 => ⟨S2x8320x5x8, .f32⟩
  | 71 => ⟨S2x8320x5x8, .f32⟩
  | 72 => ⟨S2x8320x5x48, .f32⟩
  | 73 => ⟨S2x8320x5x64, .f32⟩
  | 74 => ⟨S2x8320x5x64, .f32⟩
  | 75 => ⟨S2x8320x8x64, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8320x1, .f32⟩
  | 85 => ⟨S1x8, .f32⟩
  | 86 => ⟨S8320x8, .f32⟩
  | 87 => ⟨S8320x8, .f32⟩
  | 88 => ⟨S8320x8, .f32⟩
  | 89 => ⟨S8320x8, .f32⟩
  | 90 => ⟨S1x8320x1x8, .f32⟩
  | 91 => ⟨S8320x8, .f32⟩
  | 92 => ⟨S1x8320x1x8, .f32⟩
  | 93 => ⟨S2x8320x8x8, .f32⟩
  | 94 => ⟨S2x8320x8x8, .f32⟩
  | 95 => ⟨S2x8320x8x8, .f32⟩
  | 96 => ⟨S2x8320x8x8, .f32⟩
  | 97 => ⟨S2x8320x8x8, .f32⟩
  | 98 => ⟨S2x8320x8x8, .f32⟩
  | 99 => ⟨S2x8320x8x8, .f32⟩
  | 100 => ⟨S2x8320x8x8, .f32⟩
  | 101 => ⟨S2x8320x8x8, .f32⟩
  | 102 => ⟨S2x8320x8x8, .f32⟩
  | 103 => ⟨S2x8320x8x8, .f32⟩
  | 104 => ⟨S2x8320x8x8, .f32⟩
  | 105 => ⟨S2x8320x8x48, .f32⟩
  | 106 => ⟨S2x8320x8x64, .f32⟩
  | 107 => ⟨S2x8320x1x64, .f32⟩
  | 108 => ⟨S8, .f32⟩
  | 109 => ⟨S_, .f32⟩
  | 110 => ⟨S8, .f32⟩
  | 111 => ⟨S8, .f32⟩
  | 112 => ⟨S_, .f32⟩
  | 113 => ⟨S8, .f32⟩
  | 114 => ⟨S8, .f32⟩
  | 115 => ⟨S8, .f32⟩
  | 116 => ⟨S8320x1, .f32⟩
  | 117 => ⟨S1x8, .f32⟩
  | 118 => ⟨S8320x8, .f32⟩
  | 119 => ⟨S8320x8, .f32⟩
  | 120 => ⟨S8320x8, .f32⟩
  | 121 => ⟨S8320x8, .f32⟩
  | 122 => ⟨S1x8320x1x8, .f32⟩
  | 123 => ⟨S8320x8, .f32⟩
  | 124 => ⟨S1x8320x1x8, .f32⟩
  | 125 => ⟨S2x8320x1x8, .f32⟩
  | 126 => ⟨S2x8320x1x8, .f32⟩
  | 127 => ⟨S2x8320x1x8, .f32⟩
  | _ => ⟨S2x8320x1024, .f32⟩

abbrev hbmTy0_2 (i : Nat) : BufTy := match i % 128 with
  | 0 => ⟨S2x8320x1x8, .f32⟩
  | 1 => ⟨S2x8320x1x8, .f32⟩
  | 2 => ⟨S2x8320x1x8, .f32⟩
  | 3 => ⟨S2x8320x1x8, .f32⟩
  | 4 => ⟨S2x8320x1x8, .f32⟩
  | 5 => ⟨S2x8320x1x8, .f32⟩
  | 6 => ⟨S2x8320x1x8, .f32⟩
  | 7 => ⟨S2x8320x1x8, .f32⟩
  | 8 => ⟨S2x8320x1x8, .f32⟩
  | 9 => ⟨S2x8320x1x48, .f32⟩
  | 10 => ⟨S2x8320x1x64, .f32⟩
  | 11 => ⟨S2x8320x64, .f32⟩
  | 12 => ⟨S_, .f32⟩
  | 13 => ⟨S2x8320x8, .f32⟩
  | 14 => ⟨S2x8320x8, .f32⟩
  | 15 => ⟨S2x8320x10x32, .f32⟩
  | 16 => ⟨S2x8320x10x32, .f32⟩
  | 17 => ⟨S_, .f32⟩
  | 18 => ⟨S2x8320x10, .f32⟩
  | 19 => ⟨S2x8320x10x1, .f32⟩
  | 20 => ⟨S_, .f32⟩
  | 21 => ⟨S2x8320x10x1, .f32⟩
  | 22 => ⟨S2x8320x10x1, .f32⟩
  | 23 => ⟨S_, .f32⟩
  | 24 => ⟨S2x8320x10x1, .f32⟩
  | 25 => ⟨S2x8320x10x1, .f32⟩
  | 26 => ⟨S2x8320x10x1, .f32⟩
  | 27 => ⟨S2x8320x10x32, .f32⟩
  | 28 => ⟨S2x8320x10x32, .f32⟩
  | 29 => ⟨S1x1x1x32, .f32⟩
  | 30 => ⟨S2x8320x10x32, .f32⟩
  | 31 => ⟨S2x8320x10x32, .f32⟩
  | 32 => ⟨S4, .f32⟩
  | 33 => ⟨S_, .f32⟩
  | 34 => ⟨S4, .f32⟩
  | 35 => ⟨S4, .f32⟩
  | 36 => ⟨S_, .f32⟩
  | 37 => ⟨S4, .f32⟩
  | 38 => ⟨S4, .f32⟩
  | 39 => ⟨S4, .f32⟩
  | 40 => ⟨S8320x1, .f32⟩
  | 41 => ⟨S1x4, .f32⟩
  | 42 => ⟨S8320x4, .f32⟩
  | 43 => ⟨S8320x4, .f32⟩
  | 44 => ⟨S8320x4, .f32⟩
  | 45 => ⟨S8320x4, .f32⟩
  | 46 => ⟨S1x8320x1x4, .f32⟩
  | 47 => ⟨S8320x4, .f32⟩
  | 48 => ⟨S1x8320x1x4, .f32⟩
  | 49 => ⟨S2x8320x10x4, .f32⟩
  | 50 => ⟨S2x8320x10x4, .f32⟩
  | 51 => ⟨S2x8320x10x4, .f32⟩
  | 52 => ⟨S2x8320x10x4, .f32⟩
  | 53 => ⟨S2x8320x10x4, .f32⟩
  | 54 => ⟨S2x8320x10x4, .f32⟩
  | 55 => ⟨S2x8320x10x4, .f32⟩
  | 56 => ⟨S2x8320x10x4, .f32⟩
  | 57 => ⟨S2x8320x10x4, .f32⟩
  | 58 => ⟨S2x8320x10x4, .f32⟩
  | 59 => ⟨S2x8320x10x4, .f32⟩
  | 60 => ⟨S2x8320x10x4, .f32⟩
  | 61 => ⟨S2x8320x10x24, .f32⟩
  | 62 => ⟨S2x8320x10x32, .f32⟩
  | 63 => ⟨S2x8320x5x2x32, .f32⟩
  | 64 => ⟨S2x8320x10x32, .f32⟩
  | 65 => ⟨S2x8320x10x32, .f32⟩
  | 66 => ⟨S_, .f32⟩
  | 67 => ⟨S2x8320x10, .f32⟩
  | 68 => ⟨S2x8320x10x1, .f32⟩
  | 69 => ⟨S_, .f32⟩
  | 70 => ⟨S2x8320x10x1, .f32⟩
  | 71 => ⟨S2x8320x10x1, .f32⟩
  | 72 => ⟨S_, .f32⟩
  | 73 => ⟨S2x8320x10x1, .f32⟩
  | 74 => ⟨S2x8320x10x1, .f32⟩
  | 75 => ⟨S2x8320x10x1, .f32⟩
  | 76 => ⟨S2x8320x10x32, .f32⟩
  | 77 => ⟨S2x8320x10x32, .f32⟩
  | 78 => ⟨S1x1x1x32, .f32⟩
  | 79 => ⟨S2x8320x10x32, .f32⟩
  | 80 => ⟨S2x8320x10x32, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S8320x1, .f32⟩
  | 90 => ⟨S1x4, .f32⟩
  | 91 => ⟨S8320x4, .f32⟩
  | 92 => ⟨S8320x4, .f32⟩
  | 93 => ⟨S8320x4, .f32⟩
  | 94 => ⟨S8320x4, .f32⟩
  | 95 => ⟨S1x8320x1x4, .f32⟩
  | 96 => ⟨S8320x4, .f32⟩
  | 97 => ⟨S1x8320x1x4, .f32⟩
  | 98 => ⟨S2x8320x10x4, .f32⟩
  | 99 => ⟨S2x8320x10x4, .f32⟩
  | 100 => ⟨S2x8320x10x4, .f32⟩
  | 101 => ⟨S2x8320x10x4, .f32⟩
  | 102 => ⟨S2x8320x10x4, .f32⟩
  | 103 => ⟨S2x8320x10x4, .f32⟩
  | 104 => ⟨S2x8320x10x4, .f32⟩
  | 105 => ⟨S2x8320x10x4, .f32⟩
  | 106 => ⟨S2x8320x10x4, .f32⟩
  | 107 => ⟨S2x8320x10x4, .f32⟩
  | 108 => ⟨S2x8320x10x4, .f32⟩
  | 109 => ⟨S2x8320x10x4, .f32⟩
  | 110 => ⟨S2x8320x10x24, .f32⟩
  | 111 => ⟨S2x8320x10x32, .f32⟩
  | 112 => ⟨S2x8320x5x2x32, .f32⟩
  | 113 => ⟨S2x8320x5x64, .f32⟩
  | 114 => ⟨S16640x384, .f32⟩
  | 115 => ⟨S16640x384, .f32⟩
  | 116 => ⟨S16640x384, .f32⟩
  | 117 => ⟨S16640x384, .f32⟩
  | 118 => ⟨S16640x320, .f32⟩
  | 119 => ⟨S16640x320, .f32⟩
  | 120 => ⟨S16640x320, .f32⟩
  | 121 => ⟨S16640x512, .f32⟩
  | 122 => ⟨S16640x64, .f32⟩
  | 123 => ⟨S16640x8, .f32⟩
  | 124 => ⟨S16640x320, .f32⟩
  | 125 => ⟨S16640x320, .f32⟩
  | 126 => ⟨S16640x320, .f32⟩
  | _ => ⟨S2x8320x1024, .f32⟩

abbrev hbmTy (i : Nat) : BufTy := match i / 128 with
  | 0 => hbmTy0_0 i
  | 1 => hbmTy0_1 i
  | 2 => hbmTy0_2 i
  | _ => ⟨S2x8320x1024, .f32⟩

abbrev bufTy : (tb : Table) → Fin (tcTables nBuf tb) → BufTy
  | .hbm, ⟨i, _⟩ => hbmTy i
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_4 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_6 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_7 : Ref sig .tc := ⟨.hbm, 108, rfl⟩
abbrev main_v93 : Ref sig .tc := ⟨.hbm, 109, rfl⟩
abbrev main_v94 : Ref sig .tc := ⟨.hbm, 110, rfl⟩
abbrev main_cst_8 : Ref sig .tc := ⟨.hbm, 111, rfl⟩
abbrev main_v95 : Ref sig .tc := ⟨.hbm, 112, rfl⟩
abbrev main_v96 : Ref sig .tc := ⟨.hbm, 113, rfl⟩
abbrev main_cst_9 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_cst_11 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_cst_12 : Ref sig .tc := ⟨.hbm, 156, rfl⟩
abbrev main_v136 : Ref sig .tc := ⟨.hbm, 157, rfl⟩
abbrev main_v137 : Ref sig .tc := ⟨.hbm, 158, rfl⟩
abbrev main_cst_13 : Ref sig .tc := ⟨.hbm, 159, rfl⟩
abbrev main_v138 : Ref sig .tc := ⟨.hbm, 160, rfl⟩
abbrev main_v139 : Ref sig .tc := ⟨.hbm, 161, rfl⟩
abbrev main_cst_14 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_cst_15 : Ref sig .tc := ⟨.hbm, 172, rfl⟩
abbrev main_v149 : Ref sig .tc := ⟨.hbm, 173, rfl⟩
abbrev main_v150 : Ref sig .tc := ⟨.hbm, 174, rfl⟩
abbrev main_cst_16 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_cst_17 : Ref sig .tc := ⟨.hbm, 205, rfl⟩
abbrev main_v180 : Ref sig .tc := ⟨.hbm, 206, rfl⟩
abbrev main_v181 : Ref sig .tc := ⟨.hbm, 207, rfl⟩
abbrev main_cst_18 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_cst_19 : Ref sig .tc := ⟨.hbm, 237, rfl⟩
abbrev main_v210 : Ref sig .tc := ⟨.hbm, 238, rfl⟩
abbrev main_v211 : Ref sig .tc := ⟨.hbm, 239, rfl⟩
abbrev main_cst_20 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_cst_21 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_cst_22 : Ref sig .tc := ⟨.hbm, 273, rfl⟩
abbrev main_v243 : Ref sig .tc := ⟨.hbm, 274, rfl⟩
abbrev main_v244 : Ref sig .tc := ⟨.hbm, 275, rfl⟩
abbrev main_cst_23 : Ref sig .tc := ⟨.hbm, 276, rfl⟩
abbrev main_v245 : Ref sig .tc := ⟨.hbm, 277, rfl⟩
abbrev main_v246 : Ref sig .tc := ⟨.hbm, 278, rfl⟩
abbrev main_cst_24 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_cst_25 : Ref sig .tc := ⟨.hbm, 289, rfl⟩
abbrev main_v256 : Ref sig .tc := ⟨.hbm, 290, rfl⟩
abbrev main_v257 : Ref sig .tc := ⟨.hbm, 291, rfl⟩
abbrev main_cst_26 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_cst_27 : Ref sig .tc := ⟨.hbm, 322, rfl⟩
abbrev main_v287 : Ref sig .tc := ⟨.hbm, 323, rfl⟩
abbrev main_v288 : Ref sig .tc := ⟨.hbm, 324, rfl⟩
abbrev main_cst_28 : Ref sig .tc := ⟨.hbm, 325, rfl⟩
abbrev main_v289 : Ref sig .tc := ⟨.hbm, 326, rfl⟩
abbrev main_v290 : Ref sig .tc := ⟨.hbm, 327, rfl⟩
abbrev main_cst_29 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_cst_30 : Ref sig .tc := ⟨.hbm, 338, rfl⟩
abbrev main_v300 : Ref sig .tc := ⟨.hbm, 339, rfl⟩
abbrev main_v301 : Ref sig .tc := ⟨.hbm, 340, rfl⟩
abbrev main_cst_31 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩

abbrev nD : Nat := 1
abbrev τ : Topo := Topo.v7x

variable {F : FTy → Type} [FloatOps F]
-- ==== Proof.Ret.Block.lean ====
/- What the body of the chunk kernel leaves, read at an index: the carried state after a chunk and the chunk's output rows,
   each head's from its own lanes of the query, key and value blocks. -/
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.RetRead

open Cert.KernelIdeal Cert.KernelIdeal.Gen Idealize.ShloMosaic Idealize.ShloMosaic.TcCoe Idealize.ShloMosaic.Tactic Idealize.SL.Sem

/-- Lane `d` of head `h`. -/
def ln (h : Fin 6) (d : Fin 64) : Fin 384 := ⟨64 * h.val + d.val, by omega⟩

/-- One head's store into the state: at that head its payload, elsewhere what the earlier stores left. -/
theorem canon_head (k : ℕ) (inb : ∀ a, (![k, 0, 0] : Fin 3 → ℕ) a + (![1, 64, 64] : Fin 3 → ℕ) a ≤ S6x64x64.size a)
    (w : (Rect.unit (s := S6x64x64) ![k, 0, 0] ![1, 64, 64] inb).shape.Idx → Elt Ideal .f32)
    (L : List (View.Piece (Elt Ideal) S6x64x64 .f32)) (h : Fin 6) (d e : Fin 64) :
    View.canon ((⟨Rect.unit ![k, 0, 0] ![1, 64, 64] inb, w⟩ : View.Piece (Elt Ideal) S6x64x64 .f32) :: L) (ix3 h d e)
      = if h.val = k then w (ix3 (0 : Fin 1) d e) else View.canon L (ix3 h d e) := by
  split
  · next hk =>
    have hx : (Rect.unit (s := S6x64x64) ![k, 0, 0] ![1, 64, 64] inb).emb (ix3 (0 : Fin 1) d e) = ix3 h d e := by
      funext a
      apply Fin.ext
      rw [Rect.emb_apply]
      match a with
      | ⟨0, _⟩ => show k + 1 * 0 = h.val; omega
      | ⟨1, _⟩ => show 0 + 1 * d.val = d.val; omega
      | ⟨2, _⟩ => show 0 + 1 * e.val = e.val; omega
    rw [← hx, View.canon_cons_emb]
  · next hk =>
    refine View.canon_cons_of_not_mem _ L ?_
    intro hm
    rw [Rect.mem_set_unit] at hm
    have := hm 0
    have h1 : k ≤ h.val ∧ h.val < k + 1 := this
    omega

theorem z1 (e : Fin 64) : 64 + e.val - 64 = e.val := by omega

theorem z2 (e : Fin 64) : 128 + e.val - 64 = 64 + e.val := by omega

theorem z3 (e : Fin 64) : 192 + e.val - 64 = 128 + e.val := by omega

theorem z4 (e : Fin 64) : 256 + e.val - 64 = 192 + e.val := by omega

theorem z5 (e : Fin 64) : 320 + e.val - 64 = 256 + e.val := by omega

theorem z6 (e : Fin 64) : 384 + e.val - 64 = 320 + e.val := by omega

theorem y1 (e : Fin 64) : ¬ (64 + e.val < 64) := by omega

theorem y2 (e : Fin 64) : ¬ (128 + e.val < 64) := by omega

theorem y3 (e : Fin 64) : ¬ (192 + e.val < 64) := by omega

theorem y4 (e : Fin 64) : ¬ (256 + e.val < 64) := by omega

theorem y5 (e : Fin 64) : ¬ (320 + e.val < 64) := by omega

theorem heads (h : Fin 6) : h = 0 ∨ h = 1 ∨ h = 2 ∨ h = 3 ∨ h = 4 ∨ h = 5 := by revert h; decide

theorem state_A (c : Dev nD) (i : grid0.Coords) (a0 : Memref sig .tc .vmem S1x128x384 .f32) (h0 : a0.IsWhole) (a1 : Memref sig .tc .vmem S1x128x384 .f32) (h1 : a1.IsWhole)
    (a2 : Memref sig .tc .vmem S1x128x384 .f32) (h2 : a2.IsWhole) (a3 : Memref sig .tc .vmem S1x6x64x64 .f32) (h3 : a3.IsWhole) (a4 : Memref sig .tc .vmem S6x128x128 .f32) (h4 : a4.IsWhole)
    (a5 : Memref sig .tc .vmem S6x128x64 .f32) (h5 : a5.IsWhole) (a6 : Memref sig .tc .vmem S2x6x128x64 .f32) (h6 : a6.IsWhole) (a7 : Memref sig .tc .vmem S2x6x1x64 .f32) (h7 : a7.IsWhole)
    (a8 : Memref sig .tc .vmem S1x128x384 .f32) (h8 : a8.IsWhole) (a9 : Memref sig .tc .vmem S1x6x64x64 .f32) (h9 : a9.IsWhole) (aS : Memref sig .tc .vmem S6x64x64 .f32) (hS : aS.IsWhole) (hc0 : cond0_0 i) (hc1 : ¬cond0_1 i)
    (x0 x1 x2 : Vec Ideal S1x128x384 .f32) (x3 : Vec Ideal S1x6x64x64 .f32) (x4 : Vec Ideal S6x128x128 .f32) (x5 : Vec Ideal S6x128x64 .f32)
    (x6 : Vec Ideal S2x6x128x64 .f32) (x7 : Vec Ideal S2x6x1x64 .f32) (hL : BitVec.toNat (Scalar.indexCast (Scalar.extui (Scalar.cmpi CmpIPredicate.eq (BitVec.ofNat 32 (i 1).val) 64#32))) = 0) (h : Fin 6) (d e : Fin 64) :
    sout0_A_0 c i a0 h0 a1 h1 a2 h2 a3 h3 a4 h4 a5 h5 a6 h6 a7 h7 a8 h8 a9 h9 aS hS hc0 hc1 x0 x1 x2 x3 x4 x5 x6 x7 (ix3 h d e)
      = x7 (ix4 0 h 0 e) * x3 (ix4 (0 : Fin 1) h d e) + ∑ j : Fin 128, x1 (ix3 0 j (ln h d)) * x6 (ix4 0 h j d) * x2 (ix3 0 j (ln h e)) := by
  unfold sout0_A_0
  rw [View.read_writes_eq_canon _ _ _ (scover0_A_0 c i a0 h0 a1 h1 a2 h2 a3 h3 a4 h4 a5 h5 a6 h6 a7 h7 a8 h8 a9 h9 aS hS hc0 hc1 x0 x1 x2 x3 x4 x5 x6 x7)]
  unfold kernelRun0_A
  dsimp only
  sl_unfold_words
  simp (disch := decide) only [↓ View.readCov_skip, ↓ View.readCov_cons_toLoadRect, ↓ View.readCov_fill]
  simp only [View.readAt_eq_ld, h0.read_unread, h1.read_unread, h2.read_unread, h3.read_unread, h4.read_unread, h5.read_unread, h6.read_unread, h7.read_unread, hS.read_unread, hL]
  rcases heads h with rfl | rfl | rfl | rfl | rfl | rfl
  all_goals
    simp only [canon_head, Fin.isValue, Fin.val_zero, Fin.val_one, Fin.val_two, Fin.reduceEq, Fin.coe_ofNat_eq_mod, Nat.reduceMod, Nat.reduceEqDiff, OfNat.zero_ne_ofNat, OfNat.one_ne_ofNat, zero_ne_one, OfNat.ofNat_ne_zero, OfNat.ofNat_ne_one, one_ne_zero, ↓reduceIte]
    unfold_payloads
    pointwise [ln]
    simp only [hL]
    rfl

theorem row_A (c : Dev nD) (i : grid0.Coords) (a0 : Memref sig .tc .vmem S1x128x384 .f32) (h0 : a0.IsWhole) (a1 : Memref sig .tc .vmem S1x128x384 .f32) (h1 : a1.IsWhole)
    (a2 : Memref sig .tc .vmem S1x128x384 .f32) (h2 : a2.IsWhole) (a3 : Memref sig .tc .vmem S1x6x64x64 .f32) (h3 : a3.IsWhole) (a4 : Memref sig .tc .vmem S6x128x128 .f32) (h4 : a4.IsWhole)
    (a5 : Memref sig .tc .vmem S6x128x64 .f32) (h5 : a5.IsWhole) (a6 : Memref sig .tc .vmem S2x6x128x64 .f32) (h6 : a6.IsWhole) (a7 : Memref sig .tc .vmem S2x6x1x64 .f32) (h7 : a7.IsWhole)
    (a8 : Memref sig .tc .vmem S1x128x384 .f32) (h8 : a8.IsWhole) (a9 : Memref sig .tc .vmem S1x6x64x64 .f32) (h9 : a9.IsWhole) (aS : Memref sig .tc .vmem S6x64x64 .f32) (hS : aS.IsWhole) (hc0 : cond0_0 i) (hc1 : ¬cond0_1 i)
    (x0 x1 x2 : Vec Ideal S1x128x384 .f32) (x3 : Vec Ideal S1x6x64x64 .f32) (x4 : Vec Ideal S6x128x128 .f32) (x5 : Vec Ideal S6x128x64 .f32)
    (x6 : Vec Ideal S2x6x128x64 .f32) (x7 : Vec Ideal S2x6x1x64 .f32) (hL : BitVec.toNat (Scalar.indexCast (Scalar.extui (Scalar.cmpi CmpIPredicate.eq (BitVec.ofNat 32 (i 1).val) 64#32))) = 0) (h : Fin 6) (r : Fin 128) (e : Fin 64) :
    out0_A_8 c i a0 h0 a1 h1 a2 h2 a3 h3 a4 h4 a5 h5 a6 h6 a7 h7 a8 h8 a9 h9 aS hS hc0 hc1 x0 x1 x2 x3 x4 x5 x6 x7 (ix3 (0 : Fin 1) r (ln h e))
      = (∑ j : Fin 128, (∑ d : Fin 64, x0 (ix3 0 r (ln h d)) * x1 (ix3 0 j (ln h d))) * x4 (ix3 h r j) * x2 (ix3 0 j (ln h e)))
        + (∑ d : Fin 64, x0 (ix3 0 r (ln h d)) * x3 (ix4 (0 : Fin 1) h d e)) * x5 (ix3 h r e) := by
  unfold out0_A_8
  rw [View.read_writes_eq_canon _ _ _ (cover0_A_8 c i a0 h0 a1 h1 a2 h2 a3 h3 a4 h4 a5 h5 a6 h6 a7 h7 a8 h8 a9 h9 aS hS hc0 hc1 x0 x1 x2 x3 x4 x5 x6 x7)]
  unfold kernelRun0_A
  dsimp only
  sl_unfold_words
  simp (disch := decide) only [↓ View.readCov_skip, ↓ View.readCov_cons_toLoadRect, ↓ View.readCov_fill]
  simp only [View.readAt_eq_ld, h0.read_unread, h1.read_unread, h2.read_unread, h3.read_unread, h4.read_unread, h5.read_unread, h6.read_unread, h7.read_unread, hS.read_unread, hL]
  rw [View.canon_cons_unit_lit _ _ _ (by decide)]
  rcases heads h with rfl | rfl | rfl | rfl | rfl | rfl
  all_goals
    unfold_payloads
    pointwise [ln]
    try simp only [z1 e, z2 e, z3 e, z4 e, z5 e, dif_pos e.isLt, dif_neg (y1 e), dif_neg (y2 e), dif_neg (y3 e), dif_neg (y4 e), dif_neg (y5 e)]
    first | done | rfl

theorem state_B (c : Dev nD) (i : grid0.Coords) (a0 : Memref sig .tc .vmem S1x128x384 .f32) (h0 : a0.IsWhole) (a1 : Memref sig .tc .vmem S1x128x384 .f32) (h1 : a1.IsWhole)
    (a2 : Memref sig .tc .vmem S1x128x384 .f32) (h2 : a2.IsWhole) (a3 : Memref sig .tc .vmem S1x6x64x64 .f32) (h3 : a3.IsWhole) (a4 : Memref sig .tc .vmem S6x128x128 .f32) (h4 : a4.IsWhole)
    (a5 : Memref sig .tc .vmem S6x128x64 .f32) (h5 : a5.IsWhole) (a6 : Memref sig .tc .vmem S2x6x128x64 .f32) (h6 : a6.IsWhole) (a7 : Memref sig .tc .vmem S2x6x1x64 .f32) (h7 : a7.IsWhole)
    (a8 : Memref sig .tc .vmem S1x128x384 .f32) (h8 : a8.IsWhole) (a9 : Memref sig .tc .vmem S1x6x64x64 .f32) (h9 : a9.IsWhole) (aS : Memref sig .tc .vmem S6x64x64 .f32) (hS : aS.IsWhole) (hc0 : ¬cond0_0 i) (hc1 : ¬cond0_1 i)
    (x0 x1 x2 : Vec Ideal S1x128x384 .f32) (x3 : Vec Ideal S1x6x64x64 .f32) (x4 : Vec Ideal S6x128x128 .f32) (x5 : Vec Ideal S6x128x64 .f32)
    (x6 : Vec Ideal S2x6x128x64 .f32) (x7 : Vec Ideal S2x6x1x64 .f32) (xs : Vec Ideal S6x64x64 .f32) (hL : BitVec.toNat (Scalar.indexCast (Scalar.extui (Scalar.cmpi CmpIPredicate.eq (BitVec.ofNat 32 (i 1).val) 64#32))) = 0) (h : Fin 6) (d e : Fin 64) :
    sout0_B_0 c i a0 h0 a1 h1 a2 h2 a3 h3 a4 h4 a5 h5 a6 h6 a7 h7 a8 h8 a9 h9 aS hS hc0 hc1 x0 x1 x2 x3 x4 x5 x6 x7 xs (ix3 h d e)
      = x7 (ix4 0 h 0 e) * xs (ix3 h d e) + ∑ j : Fin 128, x1 (ix3 0 j (ln h d)) * x6 (ix4 0 h j d) * x2 (ix3 0 j (ln h e)) := by
  unfold sout0_B_0
  rw [View.read_writes_eq_canon _ _ _ (scover0_B_0 c i a0 h0 a1 h1 a2 h2 a3 h3 a4 h4 a5 h5 a6 h6 a7 h7 a8 h8 a9 h9 aS hS hc0 hc1 x0 x1 x2 x3 x4 x5 x6 x7 xs)]
  unfold kernelRun0_B
  dsimp only
  sl_unfold_words
  simp (disch := decide) only [↓ View.readCov_skip, ↓ View.readCov_cons_toLoadRect, ↓ View.readCov_fill]
  simp only [View.readAt_eq_ld, h0.read_unread, h1.read_unread, h2.read_unread, h3.read_unread, h4.read_unread, h5.read_unread, h6.read_unread, h7.read_unread, hS.read_unread, hL]
  rcases heads h with rfl | rfl | rfl | rfl | rfl | rfl
  all_goals
    simp only [canon_head, Fin.isValue, Fin.val_zero, Fin.val_one, Fin.val_two, Fin.reduceEq, Fin.coe_ofNat_eq_mod, Nat.reduceMod, Nat.reduceEqDiff, OfNat.zero_ne_ofNat, OfNat.one_ne_ofNat, zero_ne_one, OfNat.ofNat_ne_zero, OfNat.ofNat_ne_one, one_ne_zero, ↓reduceIte]
    unfold_payloads
    pointwise [ln]
    simp only [hL]
    rfl

theorem row_B (c : Dev nD) (i : grid0.Coords) (a0 : Memref sig .tc .vmem S1x128x384 .f32) (h0 : a0.IsWhole) (a1 : Memref sig .tc .vmem S1x128x384 .f32) (h1 : a1.IsWhole)
    (a2 : Memref sig .tc .vmem S1x128x384 .f32) (h2 : a2.IsWhole) (a3 : Memref sig .tc .vmem S1x6x64x64 .f32) (h3 : a3.IsWhole) (a4 : Memref sig .tc .vmem S6x128x128 .f32) (h4 : a4.IsWhole)
    (a5 : Memref sig .tc .vmem S6x128x64 .f32) (h5 : a5.IsWhole) (a6 : Memref sig .tc .vmem S2x6x128x64 .f32) (h6 : a6.IsWhole) (a7 : Memref sig .tc .vmem S2x6x1x64 .f32) (h7 : a7.IsWhole)
    (a8 : Memref sig .tc .vmem S1x128x384 .f32) (h8 : a8.IsWhole) (a9 : Memref sig .tc .vmem S1x6x64x64 .f32) (h9 : a9.IsWhole) (aS : Memref sig .tc .vmem S6x64x64 .f32) (hS : aS.IsWhole) (hc0 : ¬cond0_0 i) (hc1 : ¬cond0_1 i)
    (x0 x1 x2 : Vec Ideal S1x128x384 .f32) (x3 : Vec Ideal S1x6x64x64 .f32) (x4 : Vec Ideal S6x128x128 .f32) (x5 : Vec Ideal S6x128x64 .f32)
    (x6 : Vec Ideal S2x6x128x64 .f32) (x7 : Vec Ideal S2x6x1x64 .f32) (xs : Vec Ideal S6x64x64 .f32) (hL : BitVec.toNat (Scalar.indexCast (Scalar.extui (Scalar.cmpi CmpIPredicate.eq (BitVec.ofNat 32 (i 1).val) 64#32))) = 0) (h : Fin 6) (r : Fin 128) (e : Fin 64) :
    out0_B_8 c i a0 h0 a1 h1 a2 h2 a3 h3 a4 h4 a5 h5 a6 h6 a7 h7 a8 h8 a9 h9 aS hS hc0 hc1 x0 x1 x2 x3 x4 x5 x6 x7 xs (ix3 (0 : Fin 1) r (ln h e))
      = (∑ j : Fin 128, (∑ d : Fin 64, x0 (ix3 0 r (ln h d)) * x1 (ix3 0 j (ln h d))) * x4 (ix3 h r j) * x2 (ix3 0 j (ln h e)))
        + (∑ d : Fin 64, x0 (ix3 0 r (ln h d)) * xs (ix3 h d e)) * x5 (ix3 h r e) := by
  unfold out0_B_8
  rw [View.read_writes_eq_canon _ _ _ (cover0_B_8 c i a0 h0 a1 h1 a2 h2 a3 h3 a4 h4 a5 h5 a6 h6 a7 h7 a8 h8 a9 h9 aS hS hc0 hc1 x0 x1 x2 x3 x4 x5 x6 x7 xs)]
  unfold kernelRun0_B
  dsimp only
  sl_unfold_words
  simp (disch := decide) only [↓ View.readCov_skip, ↓ View.readCov_cons_toLoadRect, ↓ View.readCov_fill]
  simp only [View.readAt_eq_ld, h0.read_unread, h1.read_unread, h2.read_unread, h3.read_unread, h4.read_unread, h5.read_unread, h6.read_unread, h7.read_unread, hS.read_unread, hL]
  rw [View.canon_cons_unit_lit _ _ _ (by decide)]
  rcases heads h with rfl | rfl | rfl | rfl | rfl | rfl
  all_goals
    unfold_payloads
    pointwise [ln]
    try simp only [z1 e, z2 e, z3 e, z4 e, z5 e, dif_pos e.isLt, dif_neg (y1 e), dif_neg (y2 e), dif_neg (y3 e), dif_neg (y4 e), dif_neg (y5 e)]
    first | done | rfl

theorem state_C (c : Dev nD) (i : grid0.Coords) (a0 : Memref sig .tc .vmem S1x128x384 .f32) (h0 : a0.IsWhole) (a1 : Memref sig .tc .vmem S1x128x384 .f32) (h1 : a1.IsWhole)
    (a2 : Memref sig .tc .vmem S1x128x384 .f32) (h2 : a2.IsWhole) (a3 : Memref sig .tc .vmem S1x6x64x64 .f32) (h3 : a3.IsWhole) (a4 : Memref sig .tc .vmem S6x128x128 .f32) (h4 : a4.IsWhole)
    (a5 : Memref sig .tc .vmem S6x128x64 .f32) (h5 : a5.IsWhole) (a6 : Memref sig .tc .vmem S2x6x128x64 .f32) (h6 : a6.IsWhole) (a7 : Memref sig .tc .vmem S2x6x1x64 .f32) (h7 : a7.IsWhole)
    (a8 : Memref sig .tc .vmem S1x128x384 .f32) (h8 : a8.IsWhole) (a9 : Memref sig .tc .vmem S1x6x64x64 .f32) (h9 : a9.IsWhole) (aS : Memref sig .tc .vmem S6x64x64 .f32) (hS : aS.IsWhole) (hc0 : ¬cond0_0 i) (hc1 : cond0_1 i)
    (x0 x1 x2 : Vec Ideal S1x128x384 .f32) (x3 : Vec Ideal S1x6x64x64 .f32) (x4 : Vec Ideal S6x128x128 .f32) (x5 : Vec Ideal S6x128x64 .f32)
    (x6 : Vec Ideal S2x6x128x64 .f32) (x7 : Vec Ideal S2x6x1x64 .f32) (xs : Vec Ideal S6x64x64 .f32) (hL : BitVec.toNat (Scalar.indexCast (Scalar.extui (Scalar.cmpi CmpIPredicate.eq (BitVec.ofNat 32 (i 1).val) 64#32))) = 1) (h : Fin 6) (d e : Fin 64) :
    sout0_C_0 c i a0 h0 a1 h1 a2 h2 a3 h3 a4 h4 a5 h5 a6 h6 a7 h7 a8 h8 a9 h9 aS hS hc0 hc1 x0 x1 x2 x3 x4 x5 x6 x7 xs (ix3 h d e)
      = x7 (ix4 1 h 0 e) * xs (ix3 h d e) + ∑ j : Fin 128, x1 (ix3 0 j (ln h d)) * x6 (ix4 1 h j d) * x2 (ix3 0 j (ln h e)) := by
  unfold sout0_C_0
  rw [View.read_writes_eq_canon _ _ _ (scover0_C_0 c i a0 h0 a1 h1 a2 h2 a3 h3 a4 h4 a5 h5 a6 h6 a7 h7 a8 h8 a9 h9 aS hS hc0 hc1 x0 x1 x2 x3 x4 x5 x6 x7 xs)]
  unfold kernelRun0_C
  dsimp only
  sl_unfold_words
  simp (disch := decide) only [↓ View.readCov_skip, ↓ View.readCov_cons_toLoadRect, ↓ View.readCov_fill]
  simp only [View.readAt_eq_ld, h0.read_unread, h1.read_unread, h2.read_unread, h3.read_unread, h4.read_unread, h5.read_unread, h6.read_unread, h7.read_unread, hS.read_unread, hL]
  rcases heads h with rfl | rfl | rfl | rfl | rfl | rfl
  all_goals
    simp only [canon_head, Fin.isValue, Fin.val_zero, Fin.val_one, Fin.val_two, Fin.reduceEq, Fin.coe_ofNat_eq_mod, Nat.reduceMod, Nat.reduceEqDiff, OfNat.zero_ne_ofNat, OfNat.one_ne_ofNat, zero_ne_one, OfNat.ofNat_ne_zero, OfNat.ofNat_ne_one, one_ne_zero, ↓reduceIte]
    unfold_payloads
    pointwise [ln]
    simp only [hL]
    rfl

theorem row_C (c : Dev nD) (i : grid0.Coords) (a0 : Memref sig .tc .vmem S1x128x384 .f32) (h0 : a0.IsWhole) (a1 : Memref sig .tc .vmem S1x128x384 .f32) (h1 : a1.IsWhole)
    (a2 : Memref sig .tc .vmem S1x128x384 .f32) (h2 : a2.IsWhole) (a3 : Memref sig .tc .vmem S1x6x64x64 .f32) (h3 : a3.IsWhole) (a4 : Memref sig .tc .vmem S6x128x128 .f32) (h4 : a4.IsWhole)
    (a5 : Memref sig .tc .vmem S6x128x64 .f32) (h5 : a5.IsWhole) (a6 : Memref sig .tc .vmem S2x6x128x64 .f32) (h6 : a6.IsWhole) (a7 : Memref sig .tc .vmem S2x6x1x64 .f32) (h7 : a7.IsWhole)
    (a8 : Memref sig .tc .vmem S1x128x384 .f32) (h8 : a8.IsWhole) (a9 : Memref sig .tc .vmem S1x6x64x64 .f32) (h9 : a9.IsWhole) (aS : Memref sig .tc .vmem S6x64x64 .f32) (hS : aS.IsWhole) (hc0 : ¬cond0_0 i) (hc1 : cond0_1 i)
    (x0 x1 x2 : Vec Ideal S1x128x384 .f32) (x3 : Vec Ideal S1x6x64x64 .f32) (x4 : Vec Ideal S6x128x128 .f32) (x5 : Vec Ideal S6x128x64 .f32)
    (x6 : Vec Ideal S2x6x128x64 .f32) (x7 : Vec Ideal S2x6x1x64 .f32) (xs : Vec Ideal S6x64x64 .f32) (hL : BitVec.toNat (Scalar.indexCast (Scalar.extui (Scalar.cmpi CmpIPredicate.eq (BitVec.ofNat 32 (i 1).val) 64#32))) = 1) (h : Fin 6) (r : Fin 128) (e : Fin 64) :
    out0_C_8 c i a0 h0 a1 h1 a2 h2 a3 h3 a4 h4 a5 h5 a6 h6 a7 h7 a8 h8 a9 h9 aS hS hc0 hc1 x0 x1 x2 x3 x4 x5 x6 x7 xs (ix3 (0 : Fin 1) r (ln h e))
      = (∑ j : Fin 128, (∑ d : Fin 64, x0 (ix3 0 r (ln h d)) * x1 (ix3 0 j (ln h d))) * x4 (ix3 h r j) * x2 (ix3 0 j (ln h e)))
        + (∑ d : Fin 64, x0 (ix3 0 r (ln h d)) * xs (ix3 h d e)) * x5 (ix3 h r e) := by
  unfold out0_C_8
  rw [View.read_writes_eq_canon _ _ _ (cover0_C_8 c i a0 h0 a1 h1 a2 h2 a3 h3 a4 h4 a5 h5 a6 h6 a7 h7 a8 h8 a9 h9 aS hS hc0 hc1 x0 x1 x2 x3 x4 x5 x6 x7 xs)]
  unfold kernelRun0_C
  dsimp only
  sl_unfold_words
  simp (disch := decide) only [↓ View.readCov_skip, ↓ View.readCov_cons_toLoadRect, ↓ View.readCov_fill]
  simp only [View.readAt_eq_ld, h0.read_unread, h1.read_unread, h2.read_unread, h3.read_unread, h4.read_unread, h5.read_unread, h6.read_unread, h7.read_unread, hS.read_unread, hL]
  rw [View.canon_cons_unit_lit _ _ _ (by decide)]
  rcases heads h with rfl | rfl | rfl | rfl | rfl | rfl
  all_goals
    unfold_payloads
    pointwise [ln]
    try simp only [z1 e, z2 e, z3 e, z4 e, z5 e, dif_pos e.isLt, dif_neg (y1 e), dif_neg (y2 e), dif_neg (y3 e), dif_neg (y4 e), dif_neg (y5 e)]
    first | done | rfl

theorem final_C (c : Dev nD) (i : grid0.Coords) (a0 : Memref sig .tc .vmem S1x128x384 .f32) (h0 : a0.IsWhole) (a1 : Memref sig .tc .vmem S1x128x384 .f32) (h1 : a1.IsWhole)
    (a2 : Memref sig .tc .vmem S1x128x384 .f32) (h2 : a2.IsWhole) (a3 : Memref sig .tc .vmem S1x6x64x64 .f32) (h3 : a3.IsWhole) (a4 : Memref sig .tc .vmem S6x128x128 .f32) (h4 : a4.IsWhole)
    (a5 : Memref sig .tc .vmem S6x128x64 .f32) (h5 : a5.IsWhole) (a6 : Memref sig .tc .vmem S2x6x128x64 .f32) (h6 : a6.IsWhole) (a7 : Memref sig .tc .vmem S2x6x1x64 .f32) (h7 : a7.IsWhole)
    (a8 : Memref sig .tc .vmem S1x128x384 .f32) (h8 : a8.IsWhole) (a9 : Memref sig .tc .vmem S1x6x64x64 .f32) (h9 : a9.IsWhole) (aS : Memref sig .tc .vmem S6x64x64 .f32) (hS : aS.IsWhole) (hc0 : ¬cond0_0 i) (hc1 : cond0_1 i)
    (x0 x1 x2 : Vec Ideal S1x128x384 .f32) (x3 : Vec Ideal S1x6x64x64 .f32) (x4 : Vec Ideal S6x128x128 .f32) (x5 : Vec Ideal S6x128x64 .f32)
    (x6 : Vec Ideal S2x6x128x64 .f32) (x7 : Vec Ideal S2x6x1x64 .f32) (xs : Vec Ideal S6x64x64 .f32) (hL : BitVec.toNat (Scalar.indexCast (Scalar.extui (Scalar.cmpi CmpIPredicate.eq (BitVec.ofNat 32 (i 1).val) 64#32))) = 1) (h : Fin 6) (d e : Fin 64) :
    out0_C_9 c i a0 h0 a1 h1 a2 h2 a3 h3 a4 h4 a5 h5 a6 h6 a7 h7 a8 h8 a9 h9 aS hS hc0 hc1 x0 x1 x2 x3 x4 x5 x6 x7 xs (ix4 (0 : Fin 1) h d e)
      = x7 (ix4 1 h 0 e) * xs (ix3 h d e) + ∑ j : Fin 128, x1 (ix3 0 j (ln h d)) * x6 (ix4 1 h j d) * x2 (ix3 0 j (ln h e)) := by
  unfold out0_C_9
  rw [View.read_writes_eq_canon _ _ _ (cover0_C_9 c i a0 h0 a1 h1 a2 h2 a3 h3 a4 h4 a5 h5 a6 h6 a7 h7 a8 h8 a9 h9 aS hS hc0 hc1 x0 x1 x2 x3 x4 x5 x6 x7 xs)]
  unfold kernelRun0_C
  dsimp only
  sl_unfold_words
  simp (disch := decide) only [↓ View.readCov_skip, ↓ View.readCov_cons_toLoadRect, ↓ View.readCov_fill]
  simp only [View.readAt_eq_ld, h0.read_unread, h1.read_unread, h2.read_unread, h3.read_unread, h4.read_unread, h5.read_unread, h6.read_unread, h7.read_unread, hS.read_unread, hL]
  rw [View.canon_cons_unit_lit _ _ _ (by decide)]
  simp only [View.readCov_eq_canon', hL]
  unfold k0_pay3
  pointwise
  rcases heads h with rfl | rfl | rfl | rfl | rfl | rfl
  all_goals
    simp only [canon_head, Fin.isValue, Fin.val_zero, Fin.val_one, Fin.val_two, Fin.reduceEq, Fin.coe_ofNat_eq_mod, Nat.reduceMod, Nat.reduceEqDiff, OfNat.zero_ne_ofNat, OfNat.one_ne_ofNat, zero_ne_one, OfNat.ofNat_ne_zero, OfNat.ofNat_ne_one, one_ne_zero, ↓reduceIte]
    unfold_payloads
    pointwise [ln]
    simp only [hL]
    rfl

end Cert.KernelIdeal.RetRead

end
-- ==== Proof.Ret.Num.lean ====
/- The scalars the decay of the retention state is made of, as real numbers. -/
module

public import Idealize.ShloMosaic.PureOps.Ideal
public import Idealize.ShloMosaic.Lib.WordCmp
public import Idealize.ShloMosaic.Lib.Pointwise

@[expose] public section

noncomputable section

namespace Cert.Ret

open Idealize.ShloMosaic

/-- The logarithm of head `h`'s decay. -/
def lg (h : ℕ) : ℝ := Real.log (1 - Real.rpow 2 (-5 - h))

theorem f2 : Ideal.ofBits .f32 1073741824#32 = ((2 : ℝ) : EReal) := by
  simp [Ideal.ofBits, Ideal.ieee, -EReal.coe_mul]; norm_num

theorem fm5 : Ideal.ofBits .f32 3231711232#32 = ((-5 : ℝ) : EReal) := by
  simp [Ideal.ofBits, Ideal.ieee, -EReal.coe_mul]; norm_num

theorem f128 : Ideal.ofBits .f32 1124073472#32 = ((128 : ℝ) : EReal) := by
  simp [Ideal.ofBits, Ideal.ieee, -EReal.coe_mul]; norm_num

theorem f16 : Ideal.ofBits .f32 1098907648#32 = ((16 : ℝ) : EReal) := by
  simp [Ideal.ofBits, Ideal.ieee, -EReal.coe_mul]; norm_num

theorem f127 : Ideal.ofBits .f32 1123942400#32 = ((127 : ℝ) : EReal) := by
  simp [Ideal.ofBits, Ideal.ieee, -EReal.coe_mul]; norm_num

theorem f15 : Ideal.ofBits .f32 1097859072#32 = ((15 : ℝ) : EReal) := by
  simp [Ideal.ofBits, Ideal.ieee, -EReal.coe_mul]; norm_num

theorem f8208 : Ideal.ofBits .f32 1174421504#32 = ((8208 : ℝ) : EReal) := by
  simp [Ideal.ofBits, Ideal.ieee, -EReal.coe_mul]; norm_num

theorem f8207 : Ideal.ofBits .f32 1174420480#32 = ((8207 : ℝ) : EReal) := by
  simp [Ideal.ofBits, Ideal.ieee, -EReal.coe_mul]; norm_num

theorem f0 : Ideal.ofBits .f32 0#32 = 0 := by
  simp [Ideal.ofBits, Ideal.ieee, -EReal.coe_mul]

/-- A small count as a float is that count. -/
theorem sit (n : ℕ) (hn : n < 2 ^ 31) : (FloatOps.sitofp .f32 (BitVec.ofNat 32 n) : Ideal .f32) = ((n : ℝ) : EReal) := by
  show (((BitVec.ofNat 32 n).toInt : ℝ) : EReal) = _
  rw [Idealize.ShloMosaic.WordCmp.toInt_ofNat_of_lt (w := 32) hn]
  norm_num

theorem lg_eq (h : Fin 6) :
    Ideal.log (1 - Ideal.pow (Ideal.ofBits .f32 1073741824#32)
      (Ideal.ofBits .f32 3231711232#32 - (FloatOps.sitofp .f32 (BitVec.ofNat 32 h.val) : Ideal .f32))) = ((lg h.val : ℝ) : EReal) := by
  rw [sit h.val (by omega), f2, fm5]
  have e1 : (((-5 : ℝ) : EReal) - ((h.val : ℝ) : EReal)) = (((-5 : ℝ) - (h.val : ℝ) : ℝ) : EReal) := rfl
  erw [e1, Ideal.pow_coe_coe]
  have e2 : (1 : EReal) - ((Real.rpow 2 (-5 - (h.val : ℝ)) : ℝ) : EReal) = ((1 - Real.rpow 2 (-5 - (h.val : ℝ)) : ℝ) : EReal) := rfl
  erw [e2, Ideal.log_coe]
  have hlt : Real.rpow 2 (-5 - (h.val : ℝ)) < 1 := by
    apply Real.rpow_lt_one_of_one_lt_of_neg (by norm_num)
    have : (0 : ℝ) ≤ (h.val : ℝ) := Nat.cast_nonneg _
    linarith
  rw [if_neg (by linarith)]
  rfl

end Cert.Ret

end
-- ==== Proof.Ret.Decay.lean ====
/- Decayed sums over the tokens of a sequence, as real numbers: the state that the chunks carry, its closed form, and
   one output row as a part over the chunks before and a part over its own chunk. -/
module

public import Mathlib.Analysis.SpecialFunctions.Exp
public import Mathlib.Algebra.BigOperators.Intervals
public import Mathlib.Algebra.BigOperators.Fin

@[expose] public section

noncomputable section

namespace Cert.Ret

open Finset

/-- The state entry after `c` chunks of 128 tokens: `k` and `v` are one column of the keys and one of the values, `l` the
    head's log decay. -/
def St (l : ℝ) (k v : ℕ → ℝ) : ℕ → ℝ
  | 0 => 0
  | c + 1 => Real.exp (128 * l) * St l k v c
      + ∑ j : Fin 128, k (128 * c + j) * Real.exp ((127 - (j : ℕ)) * l) * v (128 * c + j)

/-- One chunk of `n` tokens beginning at token `A` turns the decayed sum over the `A` tokens before it into the one over
    `A + n` tokens. -/
theorem sum_step (l : ℝ) (k v : ℕ → ℝ) (A n : ℕ) :
    Real.exp (n * l) * (∑ j ∈ range A, k j * Real.exp (((A : ℝ) - 1 - j) * l) * v j)
      + ∑ j ∈ range n, k (A + j) * Real.exp (((n : ℝ) - 1 - j) * l) * v (A + j)
    = ∑ j ∈ range (A + n), k j * Real.exp ((((A + n : ℕ) : ℝ) - 1 - j) * l) * v j := by
  rw [sum_range_add, mul_sum]
  congr 1
  · refine sum_congr rfl fun j _ => ?_
    rw [show (((A + n : ℕ) : ℝ) - 1 - j) * l = n * l + ((A : ℝ) - 1 - j) * l by push_cast; ring, Real.exp_add]
    ring
  · refine sum_congr rfl fun j _ => ?_
    rw [show (((A + n : ℕ) : ℝ) - 1 - ((A + j : ℕ) : ℝ)) * l = ((n : ℝ) - 1 - j) * l by push_cast; ring]

theorem St_eq (l : ℝ) (k v : ℕ → ℝ) : ∀ c : ℕ,
    St l k v c = ∑ j ∈ range (128 * c), k j * Real.exp ((((128 * c : ℕ) : ℝ) - 1 - j) * l) * v j
  | 0 => by simp [St]
  | c + 1 => by
    rw [St, St_eq l k v c]
    have h := sum_step l k v (128 * c) 128
    rw [show 128 * (c + 1) = 128 * c + 128 by ring, ← h]
    refine congrArg₂ (· + ·) (by push_cast; rfl) ?_
    · rw [Finset.sum_range]
      refine sum_congr rfl fun j _ => ?_
      rw [show ((127 : ℝ) - (j : ℕ)) = ((128 : ℕ) : ℝ) - 1 - (j : ℕ) by push_cast; ring]

/-- The last chunk counts its first 16 tokens alone: the state after it is the decayed sum over 8208 tokens. -/
theorem St_last (l : ℝ) (k v : ℕ → ℝ) :
    Real.exp (16 * l) * St l k v 64
      + ∑ j : Fin 128, k (8192 + j) * (if (j : ℕ) < 16 then Real.exp ((15 - (j : ℕ)) * l) else 0) * v (8192 + j)
    = ∑ j : Fin 8208, k j * Real.exp ((8207 - (j : ℕ)) * l) * v j := by
  rw [St_eq]
  have h := sum_step l k v 8192 16
  have e1 : ∑ j : Fin 8208, k j * Real.exp ((8207 - (j : ℕ)) * l) * v j
      = ∑ j ∈ range (8192 + 16), k j * Real.exp ((((8192 + 16 : ℕ) : ℝ) - 1 - j) * l) * v j := by
    rw [Finset.sum_range]
    refine sum_congr rfl fun j _ => ?_
    rw [show ((8207 : ℝ) - (j : ℕ)) = ((8192 + 16 : ℕ) : ℝ) - 1 - (j : ℕ) by push_cast; ring]
  have e2 : ∑ j : Fin 128, k (8192 + j) * (if (j : ℕ) < 16 then Real.exp ((15 - (j : ℕ)) * l) else 0) * v (8192 + j)
      = ∑ j ∈ range 16, k (8192 + j) * Real.exp (((16 : ℕ) : ℝ) * l - l - j * l) * v (8192 + j) := by
    have := Finset.sum_range (n := 128)
      (fun j => k (8192 + j) * (if j < 16 then Real.exp ((15 - (j : ℝ)) * l) else 0) * v (8192 + j))
    rw [← this, show (128 : ℕ) = 16 + 112 from rfl, sum_range_add]
    rw [show ∑ x ∈ range 112, k (8192 + (16 + x)) * (if 16 + x < 16 then Real.exp ((15 - ((16 + x : ℕ) : ℝ)) * l) else 0)
        * v (8192 + (16 + x)) = 0 from sum_eq_zero fun x _ => by rw [if_neg (by omega)]; ring, add_zero]
    refine sum_congr rfl fun j hj => ?_
    rw [if_pos (mem_range.mp hj), show (15 - (j : ℝ)) * l = ((16 : ℕ) : ℝ) * l - l - j * l by push_cast; ring]
  rw [e1, e2, ← h]
  refine congrArg₂ (· + ·) (by push_cast; rfl) ?_
  · refine sum_congr rfl fun j _ => ?_
    rw [show ((16 : ℕ) : ℝ) * l - l - j * l = (((16 : ℕ) : ℝ) - 1 - j) * l by ring]

/-- The weight of token `j` for row `i`: the decay over the tokens between them, nothing for a later token. -/
def W (l : ℝ) (i j : ℕ) : ℝ := if j ≤ i then Real.exp (((i : ℝ) - j) * l) else 0

/-- A row of the output: what the row's own chunk adds and what the carried state adds, against one sum over all tokens. -/
theorem row_eq (l : ℝ) (q : Fin 64 → ℝ) (k : ℕ → Fin 64 → ℝ) (v : ℕ → ℝ) (c r : ℕ) (hc : c < 65) (hr : r < 128) :
    (∑ j : Fin 128, (∑ d, q d * k (128 * c + j) d) * W l r j * v (128 * c + j))
      + (∑ d, q d * St l (fun j => k j d) v c) * Real.exp ((r + 1) * l)
    = ∑ j : Fin 8320, (∑ d, q d * k j d) * W l (128 * c + r) j * v j := by
  have e1 : ∑ j : Fin 8320, (∑ d, q d * k j d) * W l (128 * c + r) j * v j
      = ∑ j ∈ range (128 * c + (128 + (8320 - 128 * c - 128))), (∑ d, q d * k j d) * W l (128 * c + r) j * v j := by
    rw [show 128 * c + (128 + (8320 - 128 * c - 128)) = 8320 by omega, Finset.sum_range]
  rw [e1, sum_range_add, sum_range_add, add_comm]
  have hz : ∑ x ∈ range (8320 - 128 * c - 128), (∑ d, q d * k (128 * c + (128 + x)) d) * W l (128 * c + r) (128 * c + (128 + x))
      * v (128 * c + (128 + x)) = 0 := sum_eq_zero fun x _ => by rw [W, if_neg (by omega)]; ring
  rw [hz, add_zero]
  refine congrArg₂ (· + ·) ?_ ?_
  · simp only [St_eq]
    simp only [mul_sum, sum_mul]
    rw [sum_comm]
    refine sum_congr rfl fun j hj => sum_congr rfl fun d _ => ?_
    have hj' := mem_range.mp hj
    rw [W, if_pos (by omega), show (((128 * c + r : ℕ) : ℝ) - j) * l
      = (((128 * c : ℕ) : ℝ) - 1 - j) * l + (r + 1) * l by push_cast; ring, Real.exp_add]
    ring
  · rw [Finset.sum_range]
    refine sum_congr rfl fun j _ => ?_
    have hw : W l r j = W l (128 * c + r) (128 * c + j) := by
      unfold W
      by_cases h : (j : ℕ) ≤ r
      · rw [if_pos h, if_pos (by omega), show (((128 * c + r : ℕ) : ℝ) - ((128 * c + (j : ℕ) : ℕ) : ℝ)) = (r : ℝ) - (j : ℕ)
          by push_cast; ring]
      · rw [if_neg h, if_neg (by omega)]
    rw [hw]

end Cert.Ret

end
-- ==== Proof.Ret.Host.lean ====
/- What the call of the chunk kernel is given: the blocks of the query, key and value arrays, and the decay tables the host
   prepares, at an index and as real numbers. -/
module

public import proofs.«01_k».proof.Proof.Gen.KernelIdeal.Value
public import proofs.«01_k».proof.Proof.Ret.Num
public import proofs.«01_k».proof.Proof.Ret.Decay
public import Idealize.ShloMosaic.Lib.Pointwise
public import Idealize.ShloMosaic.Lib.StableHlo.ReadAt

@[expose] public section

set_option maxRecDepth 16384

noncomputable section

namespace Cert.KernelIdeal.RetHost

open Cert.KernelIdeal Cert.KernelIdeal.Gen Cert.Ret Idealize.ShloMosaic Idealize.ShloMosaic.TcCoe Idealize.ShloMosaic.Tactic Idealize.SL.Sem

variable (m : (ℓ : Loc nD τ sig) → Buf (Elt Ideal) ℓ)

theorem coe_sub (a b : ℝ) : (a : EReal) - (b : EReal) = ((a - b : ℝ) : EReal) := rfl

theorem coe_add (a b : ℝ) : (a : EReal) + (b : EReal) = ((a + b : ℝ) : EReal) := rfl

theorem coe_mul (a b : ℝ) : (a : EReal) * (b : EReal) = ((a * b : ℝ) : EReal) := (EReal.coe_mul a b).symm

theorem dmat (c : Dev nD) (h : Fin 6) (i j : Fin 128) : V m c main_v24 (ix3 h i j) = ((W (lg h.val) i.val j.val : ℝ) : EReal) := by
  unfold V
  after_reads_at
  have e0 : id (constant (F := Ideal) S_ FTy.f32 0#32) ix0 = 0 := f0
  rw [lg_eq, sit i.val (by omega), sit j.val (by omega), e0]
  unfold W
  have hc : (0 : EReal) ≤ ((i.val : ℝ) : EReal) - ((j.val : ℝ) : EReal) ↔ j.val ≤ i.val := by
    rw [coe_sub, ← EReal.coe_zero, EReal.coe_le_coe_iff, sub_nonneg, Nat.cast_le]
  by_cases hij : j.val ≤ i.val
  · rw [if_pos (hc.mpr hij), if_pos hij, max_eq_left (hc.mpr hij), coe_sub, coe_mul, Ideal.exp_coe]
  · rw [if_neg (fun h => hij (hc.mp h)), if_neg hij]; rfl

theorem rowdec (c : Dev nD) (h : Fin 6) (i : Fin 128) (j : Fin 64) :
    V m c main_v70 (ix3 h i j) = ((Real.exp ((i.val + 1) * lg h.val) : ℝ) : EReal) := by
  unfold V
  after_reads_at
  rw [lg_eq, sit i.val (by omega), ← EReal.coe_one, coe_add, coe_mul, Ideal.exp_coe]

theorem kw0 (c : Dev nD) (h : Fin 6) (i : Fin 128) (j : Fin 64) :
    V m c main_v72 (ix4 0 h i j) = ((Real.exp ((127 - i.val) * lg h.val) : ℝ) : EReal) := by
  unfold V
  after_reads_at
  after_reads_at
  rw [lg_eq, sit i.val (by omega), f128, f127, coe_sub, coe_mul, Ideal.exp_coe, if_pos]
  rw [EReal.coe_lt_coe_iff]
  have : i.val < 128 := i.isLt
  exact_mod_cast this

theorem kw1 (c : Dev nD) (h : Fin 6) (i : Fin 128) (j : Fin 64) :
    V m c main_v72 (ix4 1 h i j) = ((if i.val < 16 then Real.exp ((15 - i.val) * lg h.val) else 0 : ℝ) : EReal) := by
  unfold V
  after_reads_at
  after_reads_at
  have e0 : id (constant (F := Ideal) S_ FTy.f32 0#32) ix0 = 0 := f0
  rw [lg_eq, sit i.val (by omega), f16, f15, coe_sub, coe_mul, Ideal.exp_coe, e0]
  have hc : ((i.val : ℝ) : EReal) < ((16 : ℝ) : EReal) ↔ i.val < 16 := by
    rw [EReal.coe_lt_coe_iff]; exact_mod_cast Iff.rfl
  by_cases hi : i.val < 16
  · rw [if_pos (hc.mpr hi), if_pos hi]
  · rw [if_neg (fun h => hi (hc.mp h)), if_neg hi]; rfl

theorem gl0 (c : Dev nD) (h : Fin 6) (j : Fin 64) :
    V m c main_v75 (ix4 0 h 0 j) = ((Real.exp (128 * lg h.val) : ℝ) : EReal) := by
  unfold V
  after_reads_at
  after_reads_at
  rw [lg_eq, f128, coe_mul, Ideal.exp_coe]

theorem gl1 (c : Dev nD) (h : Fin 6) (j : Fin 64) :
    V m c main_v75 (ix4 1 h 0 j) = ((Real.exp (16 * lg h.val) : ℝ) : EReal) := by
  unfold V
  after_reads_at
  after_reads_at
  rw [lg_eq, f16, coe_mul, Ideal.exp_coe]

theorem s0 (c : Dev nD) (b : Fin 2) (h : Fin 6) (d e : Fin 64) : V m c main_v76 (ix4 b h d e) = (0 : EReal) := by
  unfold V
  after_reads_at

/-! ## The windows' blocks -/

theorem idx3 : ∀ t : Fin grid0.N, win0_0.index t = ![t.val / 65, t.val % 65, 0] ∧ win0_1.index t = ![t.val / 65, t.val % 65, 0]
    ∧ win0_2.index t = ![t.val / 65, t.val % 65, 0] := by decide +kernel

theorem idxs : ∀ t : Fin grid0.N, win0_3.index t = ![t.val / 65, 0, 0, 0] ∧ win0_4.index t = ![0, 0, 0] ∧ win0_5.index t = ![0, 0, 0]
    ∧ win0_6.index t = ![0, 0, 0, 0] ∧ win0_7.index t = ![0, 0, 0, 0] := by decide +kernel

theorem tlt (t : Fin cfg0.N) : t.val < 130 := lt_of_lt_of_eq t.isLt (show cfg0.N = 130 from N_0)

/-- The batch entry and the row of the array that row `r` of point `t`'s block is. -/
def bt (t : Fin cfg0.N) : Fin 2 := ⟨t.val / 65, by have := tlt t; omega⟩

def rw' (t : Fin cfg0.N) (r : Fin 128) : Fin 8320 := ⟨128 * (t.val % 65) + r.val, by have := tlt t; omega⟩

theorem blk0 (c : Dev nD) (t : Fin cfg0.N) (r : Fin 128) (d : Fin 384) :
    iblk m c 0 t (ix3 0 r d) = m ((c : Thread nD τ).loc main_arg0) (ix3 (bt t) (rw' t r) d) := by
  have hi := (idx3 t).1
  rw [← V_main_arg0 m c]
  show V m c main_arg0 (((cfg0.win 0).blk t).view.emb (ix3 0 r d)) = _
  congr 1
  funext a
  apply Fin.ext
  have h0 := congrFun hi 0
  have h1 := congrFun hi 1
  have h2 := congrFun hi 2
  match a with
  | ⟨0, _⟩ => show win0_0.index t (0 : Fin 3) * 1 + 1 * 0 = t.val / 65; rw [h0]; show t.val / 65 * 1 + 1 * 0 = _; omega
  | ⟨1, _⟩ => show win0_0.index t (1 : Fin 3) * 128 + 1 * r.val = 128 * (t.val % 65) + r.val; rw [h1]; show t.val % 65 * 128 + 1 * r.val = _; omega
  | ⟨2, _⟩ => show win0_0.index t (2 : Fin 3) * 384 + 1 * d.val = d.val; rw [h2]; show 0 * 384 + 1 * d.val = _; omega

theorem blk1 (c : Dev nD) (t : Fin cfg0.N) (r : Fin 128) (d : Fin 384) :
    iblk m c 1 t (ix3 0 r d) = m ((c : Thread nD τ).loc main_arg1) (ix3 (bt t) (rw' t r) d) := by
  have hi := (idx3 t).2.1
  rw [← V_main_arg1 m c]
  show V m c main_arg1 (((cfg0.win 1).blk t).view.emb (ix3 0 r d)) = _
  congr 1
  funext a
  apply Fin.ext
  have h0 := congrFun hi 0
  have h1 := congrFun hi 1
  have h2 := congrFun hi 2
  match a with
  | ⟨0, _⟩ => show win0_1.index t (0 : Fin 3) * 1 + 1 * 0 = t.val / 65; rw [h0]; show t.val / 65 * 1 + 1 * 0 = _; omega
  | ⟨1, _⟩ => show win0_1.index t (1 : Fin 3) * 128 + 1 * r.val = 128 * (t.val % 65) + r.val; rw [h1]; show t.val % 65 * 128 + 1 * r.val = _; omega
  | ⟨2, _⟩ => show win0_1.index t (2 : Fin 3) * 384 + 1 * d.val = d.val; rw [h2]; show 0 * 384 + 1 * d.val = _; omega

theorem blk2 (c : Dev nD) (t : Fin cfg0.N) (r : Fin 128) (d : Fin 384) :
    iblk m c 2 t (ix3 0 r d) = m ((c : Thread nD τ).loc main_arg2) (ix3 (bt t) (rw' t r) d) := by
  have hi := (idx3 t).2.2
  rw [← V_main_arg2 m c]
  show V m c main_arg2 (((cfg0.win 2).blk t).view.emb (ix3 0 r d)) = _
  congr 1
  funext a
  apply Fin.ext
  have h0 := congrFun hi 0
  have h1 := congrFun hi 1
  have h2 := congrFun hi 2
  match a with
  | ⟨0, _⟩ => show win0_2.index t (0 : Fin 3) * 1 + 1 * 0 = t.val / 65; rw [h0]; show t.val / 65 * 1 + 1 * 0 = _; omega
  | ⟨1, _⟩ => show win0_2.index t (1 : Fin 3) * 128 + 1 * r.val = 128 * (t.val % 65) + r.val; rw [h1]; show t.val % 65 * 128 + 1 * r.val = _; omega
  | ⟨2, _⟩ => show win0_2.index t (2 : Fin 3) * 384 + 1 * d.val = d.val; rw [h2]; show 0 * 384 + 1 * d.val = _; omega

theorem blk3 (c : Dev nD) (t : Fin cfg0.N) (h : Fin 6) (d e : Fin 64) : iblk m c 3 t (ix4 0 h d e) = (0 : EReal) := by
  have hi := (idxs t).1
  have h0 := congrFun hi 0
  have h1 := congrFun hi 1
  have h2 := congrFun hi 2
  have h3 := congrFun hi 3
  have hj : ((cfg0.win 3).blk t).view.emb (ix4 0 h d e) = ix4 (bt t) h d e := by
    funext a
    apply Fin.ext
    match a with
    | ⟨0, _⟩ => show win0_3.index t (0 : Fin 4) * 1 + 1 * 0 = t.val / 65; rw [h0]; show t.val / 65 * 1 + 1 * 0 = _; omega
    | ⟨1, _⟩ => show win0_3.index t (1 : Fin 4) * 6 + 1 * h.val = h.val; rw [h1]; show 0 * 6 + 1 * h.val = _; omega
    | ⟨2, _⟩ => show win0_3.index t (2 : Fin 4) * 64 + 1 * d.val = d.val; rw [h2]; show 0 * 64 + 1 * d.val = _; omega
    | ⟨3, _⟩ => show win0_3.index t (3 : Fin 4) * 64 + 1 * e.val = e.val; rw [h3]; show 0 * 64 + 1 * e.val = _; omega
  show V m c main_v76 (((cfg0.win 3).blk t).view.emb (ix4 0 h d e)) = _
  rw [hj, s0]

theorem blk4 (c : Dev nD) (t : Fin cfg0.N) (y : S6x128x128.Idx) : iblk m c 4 t y = V m c main_v24 y := by
  have hi := (idxs t).2.1
  show V m c main_v24 (((cfg0.win 4).blk t).view.emb y) = _
  congr 1
  funext a
  apply Fin.ext
  have h0 := congrFun hi 0
  have h1 := congrFun hi 1
  have h2 := congrFun hi 2
  match a with
  | ⟨0, _⟩ => show win0_4.index t (0 : Fin 3) * 6 + 1 * (y 0).val = (y 0).val; rw [h0]; show 0 * 6 + 1 * (y 0).val = _; omega
  | ⟨1, _⟩ => show win0_4.index t (1 : Fin 3) * 128 + 1 * (y 1).val = (y 1).val; rw [h1]; show 0 * 128 + 1 * (y 1).val = _; omega
  | ⟨2, _⟩ => show win0_4.index t (2 : Fin 3) * 128 + 1 * (y 2).val = (y 2).val; rw [h2]; show 0 * 128 + 1 * (y 2).val = _; omega

theorem blk5 (c : Dev nD) (t : Fin cfg0.N) (y : S6x128x64.Idx) : iblk m c 5 t y = V m c main_v70 y := by
  have hi := (idxs t).2.2.1
  show V m c main_v70 (((cfg0.win 5).blk t).view.emb y) = _
  congr 1
  funext a
  apply Fin.ext
  have h0 := congrFun hi 0
  have h1 := congrFun hi 1
  have h2 := congrFun hi 2
  match a with
  | ⟨0, _⟩ => show win0_5.index t (0 : Fin 3) * 6 + 1 * (y 0).val = (y 0).val; rw [h0]; show 0 * 6 + 1 * (y 0).val = _; omega
  | ⟨1, _⟩ => show win0_5.index t (1 : Fin 3) * 128 + 1 * (y 1).val = (y 1).val; rw [h1]; show 0 * 128 + 1 * (y 1).val = _; omega
  | ⟨2, _⟩ => show win0_5.index t (2 : Fin 3) * 64 + 1 * (y 2).val = (y 2).val; rw [h2]; show 0 * 64 + 1 * (y 2).val = _; omega

theorem blk6 (c : Dev nD) (t : Fin cfg0.N) (y : S2x6x128x64.Idx) : iblk m c 6 t y = V m c main_v72 y := by
  have hi := (idxs t).2.2.2.1
  show V m c main_v72 (((cfg0.win 6).blk t).view.emb y) = _
  congr 1
  funext a
  apply Fin.ext
  have h0 := congrFun hi 0
  have h1 := congrFun hi 1
  have h2 := congrFun hi 2
  have h3 := congrFun hi 3
  match a with
  | ⟨0, _⟩ => show win0_6.index t (0 : Fin 4) * 2 + 1 * (y 0).val = (y 0).val; rw [h0]; show 0 * 2 + 1 * (y 0).val = _; omega
  | ⟨1, _⟩ => show win0_6.index t (1 : Fin 4) * 6 + 1 * (y 1).val = (y 1).val; rw [h1]; show 0 * 6 + 1 * (y 1).val = _; omega
  | ⟨2, _⟩ => show win0_6.index t (2 : Fin 4) * 128 + 1 * (y 2).val = (y 2).val; rw [h2]; show 0 * 128 + 1 * (y 2).val = _; omega
  | ⟨3, _⟩ => show win0_6.index t (3 : Fin 4) * 64 + 1 * (y 3).val = (y 3).val; rw [h3]; show 0 * 64 + 1 * (y 3).val = _; omega

theorem blk7 (c : Dev nD) (t : Fin cfg0.N) (y : S2x6x1x64.Idx) : iblk m c 7 t y = V m c main_v75 y := by
  have hi := (idxs t).2.2.2.2
  show V m c main_v75 (((cfg0.win 7).blk t).view.emb y) = _
  congr 1
  funext a
  apply Fin.ext
  have h0 := congrFun hi 0
  have h1 := congrFun hi 1
  have h2 := congrFun hi 2
  have h3 := congrFun hi 3
  match a with
  | ⟨0, _⟩ => show win0_7.index t (0 : Fin 4) * 2 + 1 * (y 0).val = (y 0).val; rw [h0]; show 0 * 2 + 1 * (y 0).val = _; omega
  | ⟨1, _⟩ => show win0_7.index t (1 : Fin 4) * 6 + 1 * (y 1).val = (y 1).val; rw [h1]; show 0 * 6 + 1 * (y 1).val = _; omega
  | ⟨2, _⟩ => show win0_7.index t (2 : Fin 4) * 1 + 1 * (y 2).val = (y 2).val; rw [h2]; show 0 * 1 + 1 * (y 2).val = _; omega
  | ⟨3, _⟩ => show win0_7.index t (3 : Fin 4) * 64 + 1 * (y 3).val = (y 3).val; rw [h3]; show 0 * 64 + 1 * (y 3).val = _; omega

/-- The word that picks the last chunk's tables: 1 at the last chunk of a batch entry, 0 before. -/
theorem lastw : ∀ t : Fin grid0.N,
    BitVec.toNat (Scalar.indexCast (Scalar.extui (Scalar.cmpi CmpIPredicate.eq (BitVec.ofNat 32 ((grid0.coords t) 1).val) 64#32)))
      = if t.val % 65 = 64 then 1 else 0 := by decide +kernel

end Cert.KernelIdeal.RetHost

end
-- ==== Proof.Ret.State.lean ====
/- The chunk kernel's carried state and output rows over real inputs: after each chunk the state is the decayed sum over the
   tokens so far, and a row of the output is one decayed sum over all tokens. -/
module

public import proofs.«01_k».proof.Proof.Ret.Block
public import proofs.«01_k».proof.Proof.Ret.Host

@[expose] public section

set_option maxRecDepth 16384

noncomputable section

namespace Cert.KernelIdeal.RetState

open Cert.KernelIdeal Cert.KernelIdeal.Gen Cert.KernelIdeal.RetRead Cert.KernelIdeal.RetHost Cert.Ret
open Idealize.ShloMosaic Idealize.ShloMosaic.TcCoe Idealize.SL.Sem

/-- Row `i`, lane `d` of batch entry `n` as a real number; 0 past the array. -/
def rl (A : Vec Ideal S2x8320x384 .f32) (n : Fin 2) (d : Fin 384) (i : ℕ) : ℝ :=
  if hi : i < 8320 then EReal.toReal (A (ix3 n ⟨i, hi⟩ d)) else 0

/-- Every element of the array is a real number. -/
def Real3 (A : Vec Ideal S2x8320x384 .f32) : Prop := ∀ i, (A i : EReal) = ((EReal.toReal (A i) : ℝ) : EReal)

theorem rl_eq {A : Vec Ideal S2x8320x384 .f32} (hA : Real3 A) (n : Fin 2) (d : Fin 384) (i : Fin 8320) :
    (A (ix3 n i d) : EReal) = ((rl A n d i.val : ℝ) : EReal) := by
  rw [hA]
  unfold rl
  rw [dif_pos i.isLt]

theorem coe_sum {ι : Type} [Fintype ι] (f : ι → ℝ) : ∑ j, ((f j : ℝ) : EReal) = ((∑ j, f j : ℝ) : EReal) := by
  induction (Finset.univ : Finset ι) using Finset.cons_induction with
  | empty => simp
  | cons a s ha ih => rw [Finset.sum_cons, Finset.sum_cons, ih, EReal.coe_add]

/-- A step of the state over real numbers. -/
theorem step_coe (g s : ℝ) (k w v : Fin 128 → ℝ) :
    (g : EReal) * (s : EReal) + ∑ j, (k j : EReal) * (w j : EReal) * (v j : EReal) = ((g * s + ∑ j, k j * w j * v j : ℝ) : EReal) := by
  simp only [coe_mul, coe_sum, coe_add]

/-- A row of a chunk's output over real numbers. -/
theorem row_coe (q : Fin 64 → ℝ) (k : Fin 128 → Fin 64 → ℝ) (w v : Fin 128 → ℝ) (s : Fin 64 → ℝ) (g : ℝ) :
    (∑ j, (∑ d, (q d : EReal) * (k j d : EReal)) * (w j : EReal) * (v j : EReal)) + (∑ d, (q d : EReal) * (s d : EReal)) * (g : EReal)
      = (((∑ j, (∑ d, q d * k j d) * w j * v j) + (∑ d, q d * s d) * g : ℝ) : EReal) := by
  simp only [coe_mul, coe_sum, coe_add]

variable (m : (ℓ : Loc nD τ sig) → Buf (Elt Ideal) ℓ) (c : Dev nD)

abbrev Q : Vec Ideal S2x8320x384 .f32 := m ((c : Thread nD τ).loc main_arg0)

abbrev K : Vec Ideal S2x8320x384 .f32 := m ((c : Thread nD τ).loc main_arg1)

abbrev U : Vec Ideal S2x8320x384 .f32 := m ((c : Thread nD τ).loc main_arg2)

/-- The state of head `h` of batch entry `n` before chunk `k`. -/
abbrev S (n : Fin 2) (h : Fin 6) (d e : Fin 64) (k : ℕ) : ℝ := St (lg h.val) (rl (K m c) n (ln h d)) (rl (U m c) n (ln h e)) k

variable (hQ : Real3 (Q m c)) (hK : Real3 (K m c)) (hU : Real3 (U m c))

include hQ in
theorem q_eq (t : Fin cfg0.N) (r : Fin 128) (d : Fin 384) :
    (iblk m c 0 t (ix3 0 r d) : EReal) = ((rl (Q m c) (bt t) d (128 * (t.val % 65) + r.val) : ℝ) : EReal) :=
  (blk0 m c t r d).trans (rl_eq hQ (bt t) d (rw' t r))

include hK in
theorem k_eq (t : Fin cfg0.N) (r : Fin 128) (d : Fin 384) :
    (iblk m c 1 t (ix3 0 r d) : EReal) = ((rl (K m c) (bt t) d (128 * (t.val % 65) + r.val) : ℝ) : EReal) :=
  (blk1 m c t r d).trans (rl_eq hK (bt t) d (rw' t r))

include hU in
theorem u_eq (t : Fin cfg0.N) (r : Fin 128) (d : Fin 384) :
    (iblk m c 2 t (ix3 0 r d) : EReal) = ((rl (U m c) (bt t) d (128 * (t.val % 65) + r.val) : ℝ) : EReal) :=
  (blk2 m c t r d).trans (rl_eq hU (bt t) d (rw' t r))

theorem w4 (t : Fin cfg0.N) (h : Fin 6) (i j : Fin 128) : (iblk m c 4 t (ix3 h i j) : EReal) = ((W (lg h.val) i.val j.val : ℝ) : EReal) :=
  (blk4 m c t _).trans (dmat m c h i j)

theorem w5 (t : Fin cfg0.N) (h : Fin 6) (i : Fin 128) (j : Fin 64) :
    (iblk m c 5 t (ix3 h i j) : EReal) = ((Real.exp ((i.val + 1) * lg h.val) : ℝ) : EReal) :=
  (blk5 m c t _).trans (rowdec m c h i j)

theorem w6 (t : Fin cfg0.N) (h : Fin 6) (i : Fin 128) (j : Fin 64) :
    (iblk m c 6 t (ix4 0 h i j) : EReal) = ((Real.exp ((127 - i.val) * lg h.val) : ℝ) : EReal) :=
  (blk6 m c t _).trans (kw0 m c h i j)

theorem w6' (t : Fin cfg0.N) (h : Fin 6) (i : Fin 128) (j : Fin 64) :
    (iblk m c 6 t (ix4 1 h i j) : EReal) = ((if i.val < 16 then Real.exp ((15 - i.val) * lg h.val) else 0 : ℝ) : EReal) :=
  (blk6 m c t _).trans (kw1 m c h i j)

theorem w7 (t : Fin cfg0.N) (h : Fin 6) (j : Fin 64) :
    (iblk m c 7 t (ix4 0 h 0 j) : EReal) = ((Real.exp (128 * lg h.val) : ℝ) : EReal) :=
  (blk7 m c t _).trans (gl0 m c h j)

theorem w7' (t : Fin cfg0.N) (h : Fin 6) (j : Fin 64) :
    (iblk m c 7 t (ix4 1 h 0 j) : EReal) = ((Real.exp (16 * lg h.val) : ℝ) : EReal) :=
  (blk7 m c t _).trans (gl1 m c h j)

/-- The state of a chunk's own tokens added to the one before it. -/
theorem S_succ (t : Fin cfg0.N) (h : Fin 6) (d e : Fin 64) :
    S m c (bt t) h d e (t.val % 65 + 1)
      = Real.exp (128 * lg h.val) * S m c (bt t) h d e (t.val % 65)
        + ∑ j : Fin 128, rl (K m c) (bt t) (ln h d) (128 * (t.val % 65) + j.val) * Real.exp ((127 - j.val) * lg h.val)
            * rl (U m c) (bt t) (ln h e) (128 * (t.val % 65) + j.val) := rfl

include hK hU in
/-- After every chunk but a batch entry's last the carried state is the decayed sum so far. -/
theorem state (n : ℕ) : ∀ (hn : n < cfg0.N), n % 65 ≠ 64 → ∀ (h : Fin 6) (d e : Fin 64),
    ((outsAt0 m c n hn).2.2 (ix3 h d e) : EReal) = ((S m c (bt ⟨n, hn⟩) h d e (n % 65 + 1) : ℝ) : EReal) := by
  induction n with
  | zero =>
    intro hn h1 h d e
    rw [outsAt0_A m c ⟨0, hn⟩ rfl h1]
    dsimp only
    refine (state_A (hL := (lastw ⟨0, hn⟩).trans (if_neg h1)) ..).trans ?_
    have e3 : (iblk m c 3 (⟨0, hn⟩ : Fin cfg0.N) (ix4 0 h d e) : EReal) = ((S m c (bt ⟨0, hn⟩) h d e 0 : ℝ) : EReal) :=
      blk3 m c ⟨0, hn⟩ h d e
    rw [w7, e3]
    simp only [k_eq m c hK, u_eq m c hU, w6]
    exact (step_coe ..).trans (congrArg _ (S_succ m c ⟨0, hn⟩ h d e).symm)
  | succ n ih =>
    intro hn h1 h d e
    have hN : n + 1 < 130 := lt_of_lt_of_eq hn (show cfg0.N = 130 from N_0)
    by_cases h0 : (n + 1) % 65 = 0
    · rw [outsAt0_A m c ⟨n + 1, hn⟩ h0 h1]
      dsimp only
      refine (state_A (hL := (lastw ⟨n + 1, hn⟩).trans (if_neg h1)) ..).trans ?_
      have e3 : (iblk m c 3 (⟨n + 1, hn⟩ : Fin cfg0.N) (ix4 0 h d e) : EReal) = ((S m c (bt ⟨n + 1, hn⟩) h d e ((n + 1) % 65) : ℝ) : EReal) := by
        rw [h0]; exact blk3 m c ⟨n + 1, hn⟩ h d e
      rw [w7, e3]
      simp only [k_eq m c hK, u_eq m c hU, w6]
      exact (step_coe ..).trans (congrArg _ (S_succ m c ⟨n + 1, hn⟩ h d e).symm)
    · rw [outsAt0_B m c ⟨n + 1, hn⟩ h0 h1]
      dsimp only
      refine (state_B (hL := (lastw ⟨n + 1, hn⟩).trans (if_neg h1)) ..).trans ?_
      have e3 : ((outsAt0 m c n (Nat.lt_of_succ_lt hn)).2.2 (ix3 h d e) : EReal) = ((S m c (bt ⟨n + 1, hn⟩) h d e ((n + 1) % 65) : ℝ) : EReal) := by
        rw [ih (Nat.lt_of_succ_lt hn) (by omega) h d e]
        have e1 : n % 65 + 1 = (n + 1) % 65 := by omega
        have e2 : bt ⟨n, Nat.lt_of_succ_lt hn⟩ = bt ⟨n + 1, hn⟩ := Fin.ext (by show n / 65 = (n + 1) / 65; omega)
        rw [e1, e2]
      rw [w7]
      simp only [k_eq m c hK, u_eq m c hU, w6]
      refine Eq.trans ?_ ((step_coe ..).trans (congrArg _ (S_succ m c ⟨n + 1, hn⟩ h d e).symm))
      exact congrArg (· + _) (congrArg (_ * ·) e3)

include hK hU in
/-- What a chunk that is not a batch entry's first finds in the state. -/
theorem before (t : Fin cfg0.N) (h0 : ¬t.val % 65 = 0) (h : Fin 6) (d e : Fin 64) :
    ((outsAt0 m c (t.val - 1) (lt_of_le_of_lt (Nat.sub_le _ _) t.isLt)).2.2 (ix3 h d e) : EReal)
      = ((S m c (bt t) h d e (t.val % 65) : ℝ) : EReal) := by
  have ht := tlt t
  rw [state m c hK hU _ _ (by omega) h d e]
  have e1 : (t.val - 1) % 65 + 1 = t.val % 65 := by omega
  have e2 : bt ⟨t.val - 1, lt_of_le_of_lt (Nat.sub_le _ _) t.isLt⟩ = bt t := Fin.ext (by show (t.val - 1) / 65 = t.val / 65; omega)
  rw [e1, e2]

include hQ hK hU in
/-- A chunk's output row: one decayed sum over all the tokens. -/
theorem row (t : Fin cfg0.N) (h : Fin 6) (r : Fin 128) (e : Fin 64) :
    ((outsAt0 m c t.val t.isLt).1 (ix3 0 r (ln h e)) : EReal)
      = ((∑ j : Fin 8320, (∑ d : Fin 64, rl (Q m c) (bt t) (ln h d) (128 * (t.val % 65) + r.val) * rl (K m c) (bt t) (ln h d) j.val)
          * W (lg h.val) (128 * (t.val % 65) + r.val) j.val * rl (U m c) (bt t) (ln h e) j.val : ℝ) : EReal) := by
  have ht := tlt t
  have key := row_eq (lg h.val) (fun d => rl (Q m c) (bt t) (ln h d) (128 * (t.val % 65) + r.val)) (fun j d => rl (K m c) (bt t) (ln h d) j)
    (rl (U m c) (bt t) (ln h e)) (t.val % 65) r.val (by omega) r.isLt
  refine Eq.trans ?_ (congrArg _ key)
  by_cases h0 : t.val % 65 = 0
  · rw [outsAt0_A m c t h0 (by omega)]
    dsimp only
    refine (row_A (hL := (lastw t).trans (if_neg (by omega))) ..).trans ?_
    have e3 : ∀ d, (iblk m c 3 t (ix4 0 h d e) : EReal) = ((S m c (bt t) h d e (t.val % 65) : ℝ) : EReal) := fun d => by
      rw [h0]; exact blk3 m c t h d e
    simp only [q_eq m c hQ, k_eq m c hK, u_eq m c hU, w4, w5, e3]
    exact row_coe ..
  · by_cases h1 : t.val % 65 = 64
    · rw [outsAt0_C m c t h0 h1]
      dsimp only
      refine (row_C (hL := (lastw t).trans (if_pos h1)) ..).trans ?_
      simp only [q_eq m c hQ, k_eq m c hK, u_eq m c hU, w4, w5, before m c hK hU t h0]
      exact row_coe ..
    · rw [outsAt0_B m c t h0 h1]
      dsimp only
      refine (row_B (hL := (lastw t).trans (if_neg h1)) ..).trans ?_
      simp only [q_eq m c hQ, k_eq m c hK, u_eq m c hU, w4, w5, before m c hK hU t h0]
      exact row_coe ..

include hK hU in
/-- A batch entry's final state: the decayed sum over its tokens. -/
theorem final (t : Fin cfg0.N) (h1 : t.val % 65 = 64) (h : Fin 6) (d e : Fin 64) :
    ((outsAt0 m c t.val t.isLt).2.1 (ix4 0 h d e) : EReal)
      = ((∑ j : Fin 8208, rl (K m c) (bt t) (ln h d) j.val * Real.exp ((8207 - j.val) * lg h.val) * rl (U m c) (bt t) (ln h e) j.val : ℝ) : EReal) := by
  have h0 : ¬t.val % 65 = 0 := by omega
  rw [outsAt0_C m c t h0 h1]
  dsimp only
  refine (final_C (hL := (lastw t).trans (if_pos h1)) ..).trans ?_
  rw [w7']
  have e3 := before m c hK hU t h0 h d e
  rw [h1] at e3
  refine Eq.trans ?_ (congrArg _ (St_last (lg h.val) (rl (K m c) (bt t) (ln h d)) (rl (U m c) (bt t) (ln h e))))
  simp only [k_eq m c hK, u_eq m c hU, w6']
  rw [h1]
  refine Eq.trans ?_ (step_coe ..)
  exact congrArg (· + _) (congrArg (_ * ·) e3)

end Cert.KernelIdeal.RetState

end
-- ==== Proof.Ret.Ref.lean ====
/- The reference over real inputs: a row of its output is the decayed sum over all tokens, and its final state the decayed sum
   over the first 8208. -/
module

public import proofs.«01_k».proof.Proof.Gen.ReferenceIdeal.Read
public import proofs.«01_k».proof.Proof.Ret.State
public import Idealize.ShloMosaic.Lib.Pointwise

@[expose] public section

set_option maxRecDepth 16384

noncomputable section

namespace Cert.ReferenceIdeal.RetRef

open Cert.ReferenceIdeal Cert.ReferenceIdeal.Read Cert.ReferenceIdeal.Gen Cert.Ret Idealize.ShloMosaic Idealize.ShloMosaic.Tactic
open Cert.KernelIdeal.RetState (rl Real3 rl_eq coe_sum)
open Cert.KernelIdeal.RetHost (coe_sub coe_add coe_mul)
open Cert.KernelIdeal.RetRead (ln)

/-- The reference's decay weight of a token for a later one. -/
theorem weight (h : Fin 6) (i j : Fin 8320) :
    (if (0 : EReal) ≤ (FloatOps.sitofp .f32 (BitVec.ofNat 32 i.val) : Ideal .f32) - (FloatOps.sitofp .f32 (BitVec.ofNat 32 j.val) : Ideal .f32) then
      Ideal.exp (max ((FloatOps.sitofp .f32 (BitVec.ofNat 32 i.val) : Ideal .f32) - (FloatOps.sitofp .f32 (BitVec.ofNat 32 j.val) : Ideal .f32)) 0
        * Ideal.log (1 - Ideal.pow (Ideal.ofBits .f32 1073741824#32)
            (Ideal.ofBits .f32 3231711232#32 - (FloatOps.sitofp .f32 (BitVec.ofNat 32 h.val) : Ideal .f32))))
    else id (constant (F := Ideal) S_ .f32 0#32) ix0) = ((W (lg h.val) i.val j.val : ℝ) : EReal) := by
  have e0 : id (constant (F := Ideal) S_ FTy.f32 0#32) ix0 = (0 : EReal) := f0
  rw [lg_eq, sit i.val (by omega), sit j.val (by omega), e0]
  unfold W
  have hc : (0 : EReal) ≤ ((i.val : ℝ) : EReal) - ((j.val : ℝ) : EReal) ↔ j.val ≤ i.val := by
    rw [coe_sub, ← EReal.coe_zero, EReal.coe_le_coe_iff, sub_nonneg, Nat.cast_le]
  by_cases hij : j.val ≤ i.val
  · rw [if_pos (hc.mpr hij), if_pos hij, max_eq_left (hc.mpr hij), coe_sub, coe_mul, Ideal.exp_coe]
  · rw [if_neg (fun h => hij (hc.mp h)), if_neg hij]; rfl

theorem lane (h : Fin 6) (d : Fin 64) (p : h.val * 64 + d.val < 384) : (⟨h.val * 64 + d.val, p⟩ : Fin 384) = ln h d :=
  Fin.ext (by show h.val * 64 + d.val = 64 * h.val + d.val; omega)

variable (x0 x1 x2 : Vec Ideal S2x8320x384 .f32) (hQ : Real3 x0) (hK : Real3 x1) (hU : Real3 x2)

include hQ hK hU in
theorem row (n : Fin 2) (i : Fin 8320) (h : Fin 6) (e : Fin 64) :
    (val_main_v130 x0 x1 x2 (ix3 n i (ln h e)) : EReal)
      = ((∑ j : Fin 8320, (∑ d : Fin 64, rl x0 n (ln h d) i.val * rl x1 n (ln h d) j.val)
          * W (lg h.val) i.val j.val * rl x2 n (ln h e) j.val : ℝ) : EReal) := by
  have hi : idx_main_v130 (ix3 n i (ln h e)) = ix4 n i h e := by
    funext a
    apply Fin.ext
    have h0 := n.isLt
    have h1 := i.isLt
    have h2 := h.isLt
    have h3 := e.isLt
    match a with
    | ⟨0, _⟩ => show ((n.val * 8320 + i.val) * 384 + (64 * h.val + e.val)) / 3194880 = n.val; omega
    | ⟨1, _⟩ => show ((n.val * 8320 + i.val) * 384 + (64 * h.val + e.val)) / 384 % 8320 = i.val; omega
    | ⟨2, _⟩ => show ((n.val * 8320 + i.val) * 384 + (64 * h.val + e.val)) / 64 % 6 = h.val; omega
    | ⟨3, _⟩ => show ((n.val * 8320 + i.val) * 384 + (64 * h.val + e.val)) % 64 = e.val; omega
  rw [val_main_v130_apply, hi, val_main_v48_apply, val_main_v34_apply, val_main_v47_apply]
  have hj : idx_main_v34 (ix4 n i h e) = ix4 n h e i := by
    funext a
    match a with
    | ⟨0, _⟩ => rfl
    | ⟨1, _⟩ => rfl
    | ⟨2, _⟩ => rfl
    | ⟨3, _⟩ => rfl
  rw [hj]
  pointwise [val_main_v0, val_main_cst, val_main_v1, val_main_v2, val_main_cst_0, val_main_v3, val_main_v4, val_main_cst_1, val_main_v5, val_main_v6, val_main_v7, val_main_cst_2, val_main_v8, val_main_v9, val_main_v10, val_main_v11, val_main_v12, val_main_v13, val_main_v14, val_main_v15, val_main_v16, val_main_v17, val_main_cst_3, val_main_v18, val_main_v19, val_main_cst_4, val_main_v20, val_main_v21, val_main_v22, val_main_v23, val_main_v24, val_main_v25, val_main_v26, val_main_v27, val_main_cst_5, val_main_call0_v0, val_main_call0_v1, val_main_call0_v2, val_main_v28, val_main_v29, val_main_v30, val_main_v31, val_main_v32, val_main_v33, val_main_v34, val_main_v35, val_main_v36, val_main_v37, val_main_cst_6, val_main_v38, val_main_v39, val_main_v40, val_main_v41, val_main_v42, val_main_v43, val_main_v44, val_main_v45, val_main_v46, val_main_v47, val_main_cst_7, val_main_cst_8, val_main_cst_9, val_main_cst_10, val_main_cst_11, val_main_call1_v0, val_main_call1_v1, val_main_call1_v2, val_main_cst_12, val_main_cst_13, val_main_cst_14]
  simp only [lane, zero_mul, Finset.sum_const_zero, add_zero, weight]
  simp only [rl_eq hQ, rl_eq hK, rl_eq hU, coe_mul, coe_sum]
  rw [← coe_sum]
  refine Finset.sum_congr rfl fun j _ => ?_
  refine (congrArg (fun w : EReal => (rl x2 n (ln h e) j.val : EReal) * (((∑ d : Fin 64, rl x0 n (ln h d) i.val * rl x1 n (ln h d) j.val : ℝ) : EReal) * w)) (weight h i j)).trans ?_
  show ((rl x2 n (ln h e) j.val : ℝ) : EReal) * (((∑ d : Fin 64, rl x0 n (ln h d) i.val * rl x1 n (ln h d) j.val : ℝ) : EReal) * ((W (lg h.val) i.val j.val : ℝ) : EReal)) = _
  rw [coe_mul, coe_mul, EReal.coe_eq_coe_iff]
  ring

include hK hU in
theorem final (n : Fin 2) (h : Fin 6) (d e : Fin 64) :
    (val_main_v129 x1 x2 (ix4 n h d e) : EReal)
      = ((∑ j : Fin 8208, rl x1 n (ln h d) j.val * Real.exp ((8207 - j.val) * lg h.val) * rl x2 n (ln h e) j.val : ℝ) : EReal) := by
  rw [val_main_v129_apply, val_main_v128_apply]
  pointwise [val_main_v0, val_main_cst, val_main_v1, val_main_v2, val_main_cst_0, val_main_v3, val_main_v4, val_main_cst_1, val_main_v5, val_main_v6, val_main_v7, val_main_cst_2, val_main_v8, val_main_v9, val_main_v10, val_main_v11, val_main_v12, val_main_v13, val_main_v14, val_main_v15, val_main_v16, val_main_v17, val_main_cst_3, val_main_v18, val_main_v19, val_main_cst_4, val_main_v20, val_main_v21, val_main_v22, val_main_v23, val_main_v24, val_main_v25, val_main_v26, val_main_v27, val_main_cst_5, val_main_call0_v0, val_main_call0_v1, val_main_call0_v2, val_main_v28, val_main_v29, val_main_v30, val_main_v31, val_main_v32, val_main_v33, val_main_v34, val_main_v35, val_main_v36, val_main_v37, val_main_cst_6, val_main_v38, val_main_v39, val_main_v40, val_main_v41, val_main_v42, val_main_v43, val_main_v44, val_main_v45, val_main_v46, val_main_v47, val_main_v48, val_main_cst_7, val_main_v49, val_main_v50, val_main_v51, val_main_v52, val_main_v53, val_main_v54, val_main_v55, val_main_v56, val_main_v57, val_main_v58, val_main_v59, val_main_cst_8, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_cst_9, val_main_v80, val_main_v81, val_main_cst_10, val_main_v82, val_main_v83, val_main_v84, val_main_v85, val_main_v86, val_main_v87, val_main_v88, val_main_v89, val_main_cst_11, val_main_call1_v0, val_main_call1_v1, val_main_call1_v2, val_main_v90, val_main_v91, val_main_v92, val_main_v93, val_main_v94, val_main_v95, val_main_v96, val_main_v97, val_main_v98, val_main_v99, val_main_cst_12, val_main_v100, val_main_v101, val_main_v102, val_main_v103, val_main_v104, val_main_v105, val_main_v106, val_main_v107, val_main_v108, val_main_v109, val_main_v110, val_main_cst_13, val_main_v111, val_main_v112, val_main_v113, val_main_v114, val_main_v115, val_main_v116, val_main_v117, val_main_v118, val_main_v119, val_main_v120, val_main_v121, val_main_cst_14, val_main_v122, val_main_v123, val_main_v124, val_main_v125, val_main_v126, val_main_v127]
  rw [mul_zero, zero_add, lg_eq, f8207, ← coe_sum]
  refine Finset.sum_congr rfl fun j _ => ?_
  rw [lane, lane, sit j.val (by omega), coe_sub, coe_mul, Ideal.exp_coe, rl_eq hK, rl_eq hU, coe_mul, coe_mul]

end Cert.ReferenceIdeal.RetRef

end
-- ==== Proof.Ret.Final.lean ====
/- The two programs agree on real inputs: each output row and the final state are the same decayed sums. -/
module

public import proofs.«01_k».proof.Proof.Ret.Ref
public import proofs.«01_k».proof.Pre_finite

@[expose] public section

set_option maxRecDepth 16384

noncomputable section

namespace Cert.RetFinal

open Cert.Ret Idealize.ShloMosaic Idealize.ShloMosaic.TcCoe Idealize.SL.Sem
open Cert.KernelIdeal (cfg0 S2x8320x384 S2x6x64x64 nD τ sig main_arg0 main_arg1 main_arg2)
open Cert.KernelIdeal.RetState (rl Real3 Q K U)
open Cert.KernelIdeal.RetRead (ln)
open Cert.KernelIdeal.Gen Cert.KernelIdeal.Value

/-- A value whose absolute value is below infinity is a real number. -/
theorem real_of_lt {x : EReal} (h : (FloatOps.cmpf .olt (FloatOps.absf (x : Ideal .f32) : Ideal .f32) (Ideal.ofBits .f32 0x7F800000#32) : BitVec 1) = 1#1) :
    x = ((x.toReal : ℝ) : EReal) := by
  have hb : Ideal.ofBits .f32 0x7F800000#32 = (⊤ : EReal) := by simp [Ideal.ofBits, Ideal.ieee]
  rw [hb] at h
  have hlt : max x (-x) < (⊤ : EReal) := by
    by_contra hn
    have : (FloatOps.cmpf .olt (FloatOps.absf (x : Ideal .f32) : Ideal .f32) (⊤ : EReal) : BitVec 1) = BitVec.ofBool (decide (max x (-x) < (⊤ : EReal))) := rfl
    rw [this, decide_eq_false hn] at h
    exact absurd h (by decide)
  induction x using EReal.rec with
  | bot => simp at hlt
  | coe r => rfl
  | top => simp at hlt

theorem split1 {a b : BitVec 1} (h : a &&& b = 1#1) : a = 1#1 ∧ b = 1#1 := by
  revert a b; decide

/-- The precondition makes every element of the three arrays a real number. -/
theorem real_of_pre [Cert.Pre_finite.Facts] (a b d : Vec Ideal S2x8320x384 .f32)
    (h : ∀ i, Cert.Pre_finite.fn (F := Ideal) a b d i = 1#1) : Real3 a ∧ Real3 b ∧ Real3 d := by
  refine ⟨fun i => ?_, fun i => ?_, fun i => ?_⟩
  · exact real_of_lt (split1 (split1 (h i)).1).1
  · exact real_of_lt (split1 (split1 (h i)).1).2
  · exact real_of_lt (split1 (h i)).2

variable (m : (ℓ : Loc nD τ sig) → Buf (Elt Ideal) ℓ) (c : Dev nD)

/-- Every lane of the array is some head's. -/
theorem lanes (l : Fin 384) : ∃ (h : Fin 6) (e : Fin 64), l = ln h e :=
  ⟨⟨l.val / 64, by omega⟩, ⟨l.val % 64, by omega⟩, Fin.ext (by show l.val = 64 * (l.val / 64) + l.val % 64; omega)⟩

theorem out_eq (hQ : Real3 (Q m c)) (hK : Real3 (K m c)) (hU : Real3 (U m c)) :
    Cert.ReferenceIdeal.Read.val_main_v130 (F := Ideal) (Q m c) (K m c) (U m c) = G8 m c := by
  funext y
  obtain ⟨n, i, l, rfl⟩ : ∃ n i l, y = (ix3 n i l : S2x8320x384.Idx) :=
    ⟨y 0, y 1, y 2, by funext a; match a with | ⟨0, _⟩ => rfl | ⟨1, _⟩ => rfl | ⟨2, _⟩ => rfl⟩
  obtain ⟨h, e, rfl⟩ := lanes l
  have hn := n.isLt
  have hi := i.isLt
  have hh := h.isLt
  have he := e.isLt
  have hp : pt8Of (ix3 n i (ln h e) : S2x8320x384.Idx) = 65 * n.val + i.val / 128 := by
    show 65 * (n.val / 1 - 0) + 1 * (i.val / 128 - 0) + 1 * ((64 * h.val + e.val) / 384 - 0) = _
    omega
  have hlt : 65 * n.val + i.val / 128 < cfg0.N := lt_of_lt_of_eq (by omega) (show 130 = cfg0.N from N_0.symm)
  have hr := Cert.KernelIdeal.RetState.row m c hQ hK hU ⟨65 * n.val + i.val / 128, hlt⟩ h ⟨i.val % 128, by omega⟩ e
  have e1 : Cert.KernelIdeal.RetHost.bt ⟨65 * n.val + i.val / 128, hlt⟩ = n := Fin.ext (by show (65 * n.val + i.val / 128) / 65 = n.val; omega)
  have e2 : 128 * ((65 * n.val + i.val / 128) % 65) + i.val % 128 = i.val := by omega
  dsimp only at hr
  rw [e1, e2] at hr
  refine (Cert.ReferenceIdeal.RetRef.row (Q m c) (K m c) (U m c) hQ hK hU n i h e).trans (hr.symm.trans ?_)
  unfold G8
  rw [dif_pos (by rw [hp]; exact hlt), outsAt0_sweep]
  have hl : loc8Of (ix3 n i (ln h e) : S2x8320x384.Idx) = ix3 0 ⟨i.val % 128, by omega⟩ (ln h e) := by
    funext a
    apply Fin.ext
    match a with
    | ⟨0, _⟩ => show n.val % 1 = 0; omega
    | ⟨1, _⟩ => rfl
    | ⟨2, _⟩ => show (64 * h.val + e.val) % 384 = 64 * h.val + e.val; omega
  rw [hl, fold0_congr m c _ _ _ _ hp]

theorem state_eq (hK : Real3 (K m c)) (hU : Real3 (U m c)) :
    Cert.ReferenceIdeal.Read.val_main_v129 (F := Ideal) (K m c) (U m c) = G9 m c := by
  funext y
  obtain ⟨n, h, d, e, rfl⟩ : ∃ n h d e, y = (ix4 n h d e : S2x6x64x64.Idx) :=
    ⟨y 0, y 1, y 2, y 3, by funext a; match a with | ⟨0, _⟩ => rfl | ⟨1, _⟩ => rfl | ⟨2, _⟩ => rfl | ⟨3, _⟩ => rfl⟩
  have hn := n.isLt
  have hh := h.isLt
  have hd := d.isLt
  have he := e.isLt
  have hp : pt9Of (ix4 n h d e : S2x6x64x64.Idx) = 65 * n.val + 64 := by
    show 65 * (1 * (n.val / 1 - 0) + 1 * (h.val / 6 - 0) + 1 * (d.val / 64 - 0) + 1 * (e.val / 64 - 0)) + 64 = _
    omega
  have hlt : 65 * n.val + 64 < cfg0.N := lt_of_lt_of_eq (by omega) (show 130 = cfg0.N from N_0.symm)
  have hr := Cert.KernelIdeal.RetState.final m c hK hU ⟨65 * n.val + 64, hlt⟩ (by show (65 * n.val + 64) % 65 = 64; omega) h d e
  have e1 : Cert.KernelIdeal.RetHost.bt ⟨65 * n.val + 64, hlt⟩ = n := Fin.ext (by show (65 * n.val + 64) / 65 = n.val; omega)
  rw [e1] at hr
  refine (Cert.ReferenceIdeal.RetRef.final (K m c) (U m c) hK hU n h d e).trans (hr.symm.trans ?_)
  unfold G9
  rw [dif_pos (by rw [hp]; exact hlt), outsAt0_sweep]
  have hl : loc9Of (ix4 n h d e : S2x6x64x64.Idx) = ix4 0 h d e := by
    funext a
    apply Fin.ext
    match a with
    | ⟨0, _⟩ => show n.val % 1 = 0; omega
    | ⟨1, _⟩ => show h.val % 6 = h.val; omega
    | ⟨2, _⟩ => show d.val % 64 = d.val; omega
    | ⟨3, _⟩ => show e.val % 64 = e.val; omega
  rw [hl, fold0_congr m c _ _ _ _ hp]

end Cert.RetFinal

end
-- ==== Proof.Ffn.Run.lean ====
/- One grid point of the feed-forward kernel: from its blocks in the staging buffers and the last rows of the
   previous block in the scratch, the body leaves the output block and the new last rows. -/
module

public import proofs.«01_k».proof.Proof.Gen.FfnIdeal.Frame
public import proofs.«01_k».proof.Proof.Gen.FfnIdeal.Skeleton
public import Idealize.ShloMosaic.Lib.Pointwise
public import Idealize.ShloMosaic.Lib.VecWindow
public import Idealize.ShloMosaic.Lib.WritesUnit

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point starts a sequence: the kernel clears the carried rows. -/
abbrev first (i : grid0.Coords) : Prop :=
  Scalar.cmpi .ne (Scalar.extui (Scalar.cmpi .eq (BitVec.ofNat 32 (i 1).val) 0#32)) 0#32 = 1#1
/-- The point ends a sequence: the kernel stores the convolution's state. -/
abbrev last (i : grid0.Coords) : Prop := k0_cond2 i = 1#1

/-- The rows `o - 8 …` of a block whose eight rows before it are `w`. -/
def ext (o : ℕ) (w : Vec F S8x2816 .f32) (G : Vec F S320x2816 .f32) : Vec F S320x2816 .f32 :=
  fun j => if h : (j 0).val + o < 8 then w (ix2 ⟨(j 0).val + o, h⟩ (j 1))
    else if h' : (j 0).val + o - 8 < 320 then G (ix2 ⟨(j 0).val + o - 8, h'⟩ (j 1)) else G j

/-- Eight rows of a block from row `o` on. -/
def rows (o : ℕ) (ho : o + 8 ≤ 320) (G : Vec F S320x2816 .f32) : Vec F S8x2816 .f32 :=
  fun j => G (ix2 ⟨(j 0).val + o, by have : (j 0).val < 8 := (j 0).isLt; omega⟩ (j 1))

/-- A row of the convolution's taps. -/
def tap (o : ℕ) (ho : o < 8) (cv : Vec F S8x2816 .f32) : Vec F S1x2816 .f32 := fun j => cv (ix2 ⟨o, ho⟩ (j 1))

/-- The output block of a point whose previous eight gate rows are `w`. -/
def outX (w : Vec F S8x2816 .f32) (x0 : Vec F S1x320x1024 .f32) (x1 : Vec F S1x1024 .f32) (x2 x3 : Vec F S1024x2816 .bf16)
    (x4 : Vec F S2816x1024 .bf16) (x5 : Vec F S8x2816 .f32) : Vec F S1x320x1024 .f32 :=
  k0_pay9 (k0_pay3 x0) (k0_pay5 x0 x1 x2) (k0_pay6 x0 x1 x3)
    (k0_pay8 (tap 0 (by omega) x5) (ext 6 w (k0_pay5 x0 x1 x2))) (tap 1 (by omega) x5) (ext 7 w (k0_pay5 x0 x1 x2))
    (tap 2 (by omega) x5) (tap 3 (by omega) x5) x4

section Scratch

variable (v : View sig .tc .vmem S336x2816 .f32) (f : v.ty.Contents (Elt F))

/-- The buffer's first eight rows read `w`. -/
def Head (X : Vec F S336x2816 .f32) (w : Vec F S8x2816 .f32) : Prop :=
  ∀ (y : S336x2816.Idx) (x : S8x2816.Idx), (y 0).val = (x 0).val → (y 1).val = (x 1).val → X y = w x
/-- The buffer's rows from the ninth on read the block `G`. -/
def Body (X : Vec F S336x2816 .f32) (G : Vec F S320x2816 .f32) : Prop :=
  ∀ (y : S336x2816.Idx) (x : S320x2816.Idx), (y 0).val = 8 + (x 0).val → (y 1).val = (x 1).val → X y = G x

/-- Storing the eight rows. -/
theorem head_store (inb : ∀ a, (![0, 0] : Fin 2 → ℕ) a + S8x2816.size a ≤ S336x2816.size a) (w : Vec F S8x2816 .f32)
    (L : List (View.Piece (Elt F) S336x2816 .f32)) :
    Head (v.read (Elt F) (v.writes (Elt F) f (⟨Rect.unit (s := S336x2816) ![0, 0] S8x2816.size inb, w⟩ :: L))) w := fun y x h0 h1 =>
  View.read_writes_cons_rows_of_mem v f inb w L y x rfl (by rw [h0, Nat.zero_add]) h1

/-- Storing the eight rows, the payload given by an equation. -/
theorem head_store_of (inb : ∀ a, (![0, 0] : Fin 2 → ℕ) a + S8x2816.size a ≤ S336x2816.size a) {p w : Vec F S8x2816 .f32}
    (L : List (View.Piece (Elt F) S336x2816 .f32)) (h : p = w) :
    Head (v.read (Elt F) (v.writes (Elt F) f (⟨Rect.unit (s := S336x2816) ![0, 0] S8x2816.size inb, p⟩ :: L))) w := by
  subst h; exact head_store v f inb p L

/-- Storing the block. -/
theorem body_store (inb : ∀ a, (![8, 0] : Fin 2 → ℕ) a + S320x2816.size a ≤ S336x2816.size a) (G : Vec F S320x2816 .f32)
    (L : List (View.Piece (Elt F) S336x2816 .f32)) :
    Body (v.read (Elt F) (v.writes (Elt F) f (⟨Rect.unit (s := S336x2816) ![8, 0] S320x2816.size inb, G⟩ :: L))) G := fun y x h0 h1 =>
  View.read_writes_cons_rows_of_mem v f inb G L y x rfl h0 h1

/-- Storing the block leaves the eight rows before it. -/
theorem head_body_store (inb : ∀ a, (![8, 0] : Fin 2 → ℕ) a + S320x2816.size a ≤ S336x2816.size a) (G : Vec F S320x2816 .f32)
    (L : List (View.Piece (Elt F) S336x2816 .f32)) {w : Vec F S8x2816 .f32} (h : Head (v.read (Elt F) (v.writes (Elt F) f L)) w) :
    Head (v.read (Elt F) (v.writes (Elt F) f (⟨Rect.unit (s := S336x2816) ![8, 0] S320x2816.size inb, G⟩ :: L))) w := fun y x h0 h1 => by
  have hx : (x 0).val < 8 := (x 0).isLt
  rw [View.read_writes_cons_rows_of_not_mem (o := 8) (W := 320) v f inb G L y rfl rfl (.inl (by omega))]
  exact h y x h0 h1

/-- A load of a block's height that starts within the first eight rows. -/
theorem load_ext (o : ℕ) (ho : o < 8) (inb : ∀ a, (![o, 0] : Fin 2 → ℕ) a + S320x2816.size a ≤ S336x2816.size a)
    {w : Vec F S8x2816 .f32} {G : Vec F S320x2816 .f32} (h : Head (v.read (Elt F) f) w) (h' : Body (v.read (Elt F) f) G) :
    v.readAt (Elt F) (Rect.unit (s := S336x2816) ![o, 0] S320x2816.size inb).toLoadRect f = ext o w G := by
  funext x
  have hx : (x 0).val < 320 := (x 0).isLt
  rw [View.readAt_apply, ext]
  split
  · next hlt => exact h _ _ (by show o + 1 * (x 0).val = (x 0).val + o; omega) (by show 0 + 1 * (x 1).val = (x 1).val; omega)
  · next hge =>
    rw [dif_pos (by omega)]
    exact h' _ _ (by show o + 1 * (x 0).val = 8 + ((x 0).val + o - 8); omega) (by show 0 + 1 * (x 1).val = (x 1).val; omega)

/-- A load of eight rows of the block. -/
theorem load_rows (o p : ℕ) (hp : p = 8 + o) (ho : o + 8 ≤ 320) (inb : ∀ a, (![p, 0] : Fin 2 → ℕ) a + S8x2816.size a ≤ S336x2816.size a)
    {G : Vec F S320x2816 .f32} (h' : Body (v.read (Elt F) f) G) :
    v.readAt (Elt F) (Rect.unit (s := S336x2816) ![p, 0] S8x2816.size inb).toLoadRect f = rows o ho G := by
  subst hp
  funext x
  rw [View.readAt_apply, rows]
  exact h' _ _ (by show 8 + o + 1 * (x 0).val = 8 + ((x 0).val + o); omega) (by show 0 + 1 * (x 1).val = (x 1).val; omega)

/-- A load of one row of the taps. -/
theorem load_tap (u : View sig .tc .vmem S8x2816 .f32) (g : u.ty.Contents (Elt F)) (o : ℕ) (ho : o < 8)
    (inb : ∀ a, (![o, 0] : Fin 2 → ℕ) a + S1x2816.size a ≤ S8x2816.size a) :
    u.readAt (Elt F) (Rect.unit (s := S8x2816) ![o, 0] S1x2816.size inb).toLoadRect g = tap o ho (u.read (Elt F) g) := by
  funext x
  rw [View.readAt_apply, tap]
  congr 1
  funext a; apply Fin.ext
  have hx : (x 0).val < 1 := (x 0).isLt
  match a with
  | ⟨0, _⟩ => show o + 1 * (x 0).val = o; omega
  | ⟨1, _⟩ => show 0 + 1 * (x 1).val = (x 1).val; omega

end Scratch

/-- The block stored in the scratch is the gate block. -/
theorem pay7_eq (x0 : Vec F S1x320x1024 .f32) (x1 : Vec F S1x1024 .f32) (x2 : Vec F S1024x2816 .bf16) :
    k0_pay7 x0 x1 x2 = k0_pay5 x0 x1 x2 := by
  unfold k0_pay7; exact shapeCast_self _ _

set_option maxHeartbeats 1000000 in
/-- The body at a grid point: from the blocks in the staging buffers and a scratch whose first eight rows are the last
    eight gate rows before the block (cleared first at a sequence's start), it leaves the output block, at a sequence's
    end the convolution's state, and in the scratch's first rows the block's last eight gate rows. -/
theorem run (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S8x2816 .f32) (harg7 : arg7.IsWhole) (arg8 : Memref sig .tc .vmem S1x320x1024 .f32) (harg8 : arg8.IsWhole) (arg9 : Memref sig .tc .vmem S1x8x2816 .f32) (harg9 : arg9.IsWhole) (arg10 : Memref sig .tc .vmem S336x2816 .f32) (harg10 : arg10.IsWhole)
    (x0 : Vec F S1x320x1024 .f32) (x1 : Vec F S1x1024 .f32) (x2 x3 : Vec F S1024x2816 .bf16)
    (x4 : Vec F S2816x1024 .bf16) (x5 : Vec F S8x2816 .f32) (x7 : Vec F S1x8x2816 .f32) (xs : Vec F S336x2816 .f32) (w : Vec F S8x2816 .f32)
    (hw0 : first i → w = k0_pay2) (hw : ¬ first i → Head xs w) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outX w x0 x1 x2 x3 x4 x5)
            ∗ owns (c : Thread nD τ) arg9 fullShare (if last i then k0_pay10 (rows 200 (by omega) (k0_pay5 x0 x1 x2)) else x7)
            ∗ (∃ xs', ⌜Head xs' (rows 312 (by omega) (k0_pay5 x0 x1 x2))⌝ ∗ owns (c : Thread nD τ) arg10 fullShare xs')) -∗ K ⟨⟩))
      ⊢ wp frame (wpE (defs₀ (F := F)) Variants.none c none) E (cc0_ffn_prompt i arg2 harg2 arg3 harg3 arg4 harg4 arg5 harg5 arg6 harg6 arg7 harg7 arg8 harg8 arg9 harg9 arg10 harg10) K := by
  simp only [cc0_ffn_prompt_eq_skeleton]; unfold cc0_ffn_prompt_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
  have e0 : View.readAt (Elt F) arg2.view (Rect.unit ![0, 0, 0] S1x320x1024.size inb_S1x320x1024_S1x320x1024_0_0_0).toLoadRect f0 = x0 := (View.readAt_full ..).trans hf0
  have e1 : View.readAt (Elt F) arg3.view (Rect.unit ![0, 0] S1x1024.size inb_S1x1024_S1x1024_0_0).toLoadRect f1 = x1 := (View.readAt_full ..).trans hf1
  have e2 : View.readAt (Elt F) arg4.view (Rect.unit ![0, 0] S1024x2816.size inb_S1024x2816_S1024x2816_0_0).toLoadRect f2 = x2 := (View.readAt_full ..).trans hf2
  have e3 : View.readAt (Elt F) arg5.view (Rect.unit ![0, 0] S1024x2816.size inb_S1024x2816_S1024x2816_0_0).toLoadRect f3 = x3 := (View.readAt_full ..).trans hf3
  have e4 : View.readAt (Elt F) arg6.view (Rect.unit ![0, 0] S2816x1024.size inb_S2816x1024_S2816x1024_0_0).toLoadRect f4 = x4 := (View.readAt_full ..).trans hf4
  have eG : k0_pay7 (F := F) x0 x1 x2 = k0_pay5 x0 x1 x2 := pay7_eq x0 x1 x2
  have eP : k0_pay1 (F := F) (rows 312 (by omega) (k0_pay5 x0 x1 x2)) = rows 312 (by omega) (k0_pay5 x0 x1 x2) := by
    unfold k0_pay1; exact shapeCast_self _ _
  by_cases hc0 : first i <;> by_cases hc1 : last i
  all_goals
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr
      swap; · iexact H6
      ipureintro
      sl_unfold_words
      rw [View.read_writes_full]
      unfold outX
      simp only [e0, e1, e2, e3, e4, eG, View.readCov, load_tap _ _ 0 (by omega), load_tap _ _ 1 (by omega), load_tap _ _ 2 (by omega), load_tap _ _ 3 (by omega), hf5]
      have eh : ∀ o (ho : o < 8) (inb : ∀ a, (![o, 0] : Fin 2 → ℕ) a + S320x2816.size a ≤ S336x2816.size a) (g : arg10.view.ty.Contents (Elt F)) (L : List (View.Piece (Elt F) S336x2816 .f32)),
          Head (arg10.view.read (Elt F) (arg10.view.writes (Elt F) g L)) w →
          View.readAt (Elt F) arg10.view (Rect.unit (s := S336x2816) ![o, 0] S320x2816.size inb).toLoadRect
            (arg10.view.writes (Elt F) g (⟨Rect.unit (s := S336x2816) ![8, 0] S320x2816.size inb_S336x2816_S320x2816_8_0, k0_pay5 x0 x1 x2⟩ :: L))
            = ext o w (k0_pay5 x0 x1 x2) := fun o ho inb g L h =>
        load_ext _ _ o ho inb (head_body_store _ _ _ _ _ h) (body_store _ _ _ _ _)
      first
      | rw [eh 6 (by omega) inb_S336x2816_S320x2816_6_0 _ _ (by rw [hw0 hc0]; exact head_store _ _ _ _ _),
          eh 7 (by omega) inb_S336x2816_S320x2816_7_0 _ _ (by rw [hw0 hc0]; exact head_store _ _ _ _ _)]
      | rw [eh 6 (by omega) inb_S336x2816_S320x2816_6_0 _ [] (hfs ▸ hw hc0), eh 7 (by omega) inb_S336x2816_S320x2816_7_0 _ [] (hfs ▸ hw hc0)]
    isplitl [H7]
    · iexists _; isplitr
      swap; · iexact H7
      ipureintro
      sl_unfold_words
      first | rw [if_pos hc1] | rw [if_neg hc1]
      first
      | rw [View.read_writes_full]
        simp only [e0, e1, e2, eG, View.readCov]
        refine congrArg k0_pay10 ?_
        exact load_rows _ _ 200 208 rfl (by omega) _ (body_store _ _ _ _ _)
      | with_reducible exact hf7
    iexists _; isplitr
    swap
    · iexists _; isplitr
      swap; · iexact HS
      ipureintro; rfl
    ipureintro
    sl_unfold_words
    simp only [e0, e1, e2, eG, View.readCov]
    refine head_store_of _ _ _ _ ((congrArg k0_pay1 ?_).trans eP)
    exact load_rows _ _ 312 320 rfl (by omega) _ (body_store _ _ _ _ _)

end Cert.Proof.Ffn

end
-- ==== Proof.Ffn.Frame.lean ====
/- The feed-forward kernel's run: the scratch carries each block's last eight gate rows to the next point, every point
   writes its output block, a sequence's last point the convolution's state; the frame follows. -/
module

public import proofs.«01_k».proof.Proof.Ffn.Run
public import Idealize.ShloMosaic.Lib.Claim

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The points that start a sequence. -/
theorem first_iff : ∀ t : Fin cfg0.N, first (grid0.coords t) ↔ t.val % 26 = 0 :=
  (fun t => by
    have ht : t.val < 52 := Nat.lt_of_lt_of_eq t.isLt N_0
    have e1 : (grid0.coords t 1).val = t.val / 1 % 26 := Pipeline.Grid.coords_val t 1 (by decide) rfl
    simp only [first, e1]
    word_cmp
   : ∀ t : Fin grid0.N, first (grid0.coords t) ↔ t.val % 26 = 0)
/-- The points that end a sequence. -/
theorem last_iff : ∀ t : Fin cfg0.N, last (grid0.coords t) ↔ t.val % 26 = 25 :=
  (fun t => by
    have ht : t.val < 52 := Nat.lt_of_lt_of_eq t.isLt N_0
    have e1 : (grid0.coords t 1).val = t.val / 1 % 26 := Pipeline.Grid.coords_val t 1 (by decide) rfl
    simp only [last, k0_cond2, e1]
    word_cmp
   : ∀ t : Fin grid0.N, last (grid0.coords t) ↔ t.val % 26 = 25)

/-- Every window but the convolution state's is live at every point. -/
theorem live (t : Fin cfg0.N) (w : Fin 8) (h : w ≠ 7) : cfg0.idle w (grid0.coords t) = false := by
  match w with
  | 0 => rfl
  | 1 => rfl
  | 2 => rfl
  | 3 => rfl
  | 4 => rfl
  | 5 => rfl
  | 6 => rfl
  | 7 => exact absurd rfl h
/-- The state's window is idle before a sequence's end, -/
theorem idle7 : ∀ t : Fin cfg0.N, ¬ last (grid0.coords t) → cfg0.idle 7 (grid0.coords t) = true := by decide +kernel
/-- its block not written back, -/
theorem noFlush7 : ∀ t : Fin cfg0.N, ¬ last (grid0.coords t) → (cfg0.win 7).flush t = false := by decide +kernel
/-- and live at a sequence's end. -/
theorem live7 : ∀ t : Fin cfg0.N, last (grid0.coords t) → cfg0.idle 7 (grid0.coords t) = false := by decide +kernel

/-- The scratch operand. -/
abbrev sc : Memref sig .tc .vmem S336x2816 .f32 := Memref.whole cc0_scratch0

theorem PhiA_eq (c : Dev nD) :
    (Pipeline.ΦA spec0 c : sProp 𝕄)
      = iprop(iprop((∃ d, owns (c : Thread nD τ) sc fullShare d)) ∗ (∃ r, prngReg c r)) := by
  unfold Pipeline.ΦA; rw [scopedRest0_eq]; simp only [sc, owns_whole]; try rfl

/-- The gate block of a point. -/
def gate (c : Dev nD) (t : Fin cfg0.N) : Vec F S320x2816 .f32 := k0_pay5 (iblk m c 0 t) (iblk m c 1 t) (iblk m c 2 t)

/-- The eight gate rows before a point's block: zeros at a sequence's start, else the previous block's last. -/
def carry (c : Dev nD) : (n : ℕ) → n < cfg0.N → Vec F S8x2816 .f32
  | 0, _ => k0_pay2
  | n + 1, h => if (n + 1) % 26 = 0 then k0_pay2 else rows 312 (by omega) (gate m c ⟨n, Nat.lt_of_succ_lt h⟩)

/-- The output block of a point. -/
def outAt (c : Dev nD) (t : Fin cfg0.N) : Vec F S1x320x1024 .f32 :=
  outX (carry m c t.val t.isLt) (iblk m c 0 t) (iblk m c 1 t) (iblk m c 2 t) (iblk m c 3 t) (iblk m c 4 t) (iblk m c 5 t)

/-- The convolution state's block of a point. -/
def convAt (c : Dev nD) (t : Fin cfg0.N) : Vec F S1x8x2816 .f32 := k0_pay10 (rows 200 (by omega) (gate m c t))

/-- The region's invariant before position `n`: at first the scratch at anything, then its first eight rows the last gate
    rows of the block before. -/
def Phi (c : Dev nD) : (n : ℕ) → n ≤ cfg0.N → sProp 𝕄
  | 0, _ => Pipeline.ΦA spec0 c
  | n + 1, hn => iprop(iprop(∃ xs, ⌜Head xs (rows 312 (by omega) (gate m c ⟨n, hn⟩))⌝ ∗ owns (c : Thread nD τ) sc fullShare xs) ∗ (∃ r, prngReg c r))

/-- At any position the scratch is whole at some contents whose first rows are the carried ones, unless a sequence starts. -/
theorem Phi_carry (c : Dev nD) (t : Fin cfg0.N) :
    Phi m c t.val (Nat.le_of_lt t.isLt) ⊢ iprop((∃ xs, ⌜¬ first (grid0.coords t) → Head xs (carry m c t.val t.isLt)⌝ ∗ owns (c : Thread nD τ) sc fullShare xs) ∗ (∃ r, prngReg c r)) := by
  obtain ⟨n, hn⟩ := t
  cases n with
  | zero =>
    show Pipeline.ΦA spec0 c ⊢ _
    rw [PhiA_eq]
    iintro ⟨⟨%xs, H⟩, Hg⟩
    isplitl [H]
    · iexists xs; isplitr
      · ipureintro; intro h; exact absurd ((first_iff ⟨0, hn⟩).mpr rfl) h
      iexact H
    iexact Hg
  | succ n =>
    unfold Phi
    iintro ⟨⟨%xs, %hx, H⟩, Hg⟩
    isplitl [H]
    · iexists xs; isplitr
      · ipureintro; intro h
        have h' : ¬ (n + 1) % 26 = 0 := fun e => h ((first_iff ⟨n + 1, hn⟩).mpr e)
        show Head xs (if _ then _ else _)
        rw [if_neg h']; exact hx
      iexact H
    iexact Hg

theorem carry_first (c : Dev nD) (t : Fin cfg0.N) (h : first (grid0.coords t)) : carry m c t.val t.isLt = k0_pay2 := by
  obtain ⟨n, hn⟩ := t
  cases n with
  | zero => rfl
  | succ n => exact if_pos ((first_iff ⟨n + 1, hn⟩).mp h)

/-- The proof data: each input's buffer at its block, the outputs' at the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => convAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_6 (c : Dev nD) (t : Fin cfg0.N) : (dats m 0 c).after 6 t = outAt m c t := by dsimp only [dats]
theorem after_7 (c : Dev nD) (t : Fin cfg0.N) : (dats m 0 c).after 7 t = convAt m c t := by dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d

/-- The memref a window's current block is staged in. -/
abbrev ms (w : Fin cfg0.W) (t : Fin cfg0.N) := (cfg0.win w).stage (cfg0.slots t w)

/-- A window that is live at a point is left at the proof data's contents. -/
theorem leaves (c : Dev nD) (w : Fin cfg0.W) (t : Fin cfg0.N) (h : cfg0.idle w (grid0.coords t) = false) :
    (dats m 0 c).leavesExact w t = owns (c : Thread nD τ) (ms w t) fullShare ((dats m 0 c).after w t) := by
  unfold Dat.leavesExact; rw [h]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d))
    ∗ (∃ d, owns (c : Thread nD τ) (ms 5 t) fullShare ((dats m 0 c).before 5 t d))
    ∗ (∃ d, owns (c : Thread nD τ) (ms 6 t) fullShare ((dats m 0 c).before 6 t d))
    ∗ (∃ d, owns (c : Thread nD τ) (ms 7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-- What the run leaves in the state's buffer is what the point owes: the state's block at a sequence's end, anything before. -/
theorem leaves_7 (c : Dev nD) (t : Fin cfg0.N) (d) :
    owns (c : Thread nD τ) (ms 7 t) fullShare (if last (grid0.coords t) then convAt m c t else (dats m 0 c).before 7 t d)
      ⊢ (dats m 0 c).leavesExact 7 t := by
  by_cases h : last (grid0.coords t)
  · rw [if_pos h, leaves m c 7 t (live7 t h), after_7]
  · rw [if_neg h, Dat.leavesExact_idle (dats m 0 c) 7 t (idle7 t h) (noFlush7 t h)]
    iintro H; iexists _; iexact H

set_option maxHeartbeats 1000000 in
/-- The body at a point keeps the invariant and leaves each buffer as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl]
  rw [leaves m c 0 t (live t 0 (by decide)), leaves m c 1 t (live t 1 (by decide)), leaves m c 2 t (live t 2 (by decide)),
    leaves m c 3 t (live t 3 (by decide)), leaves m c 4 t (live t 4 (by decide)), leaves m c 5 t (live t 5 (by decide)),
    leaves m c 6 t (live t 6 (by decide)), after_6]
  rw [show (dats m 0 c).Φ t.castSucc = Phi m c t.val (Nat.le_of_lt t.isLt) from by
    dsimp only [dats]; exact Pipeline.Dat.Φ_castSucc (Phi m c) t]
  refine (Laws.sep_mono (Phi_carry m c t) .rfl).trans ?_
  iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ (iblk m c 0 t) (iblk m c 1 t) (iblk m c 2 t) (iblk m c 3 t) (iblk m c 4 t) (iblk m c 5 t)
    _ xs (carry m c t.val t.isLt) (carry_first m c t) hx Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · unfold Phi
    isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7 m c t _)
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have h : ∀ (n : ℕ) (hn : n ≤ cfg0.N), n ≠ 0 → Phi m c n hn ⊢ Pipeline.ΦA spec0 c := fun n hn hz => by
    cases n with
    | zero => exact absurd rfl hz
    | succ n =>
      unfold Phi; rw [PhiA_eq]
      iintro ⟨⟨%xs, -, H⟩, Hg⟩
      isplitl [H]
      · iexists _; iexact H
      iexact Hg
  exact h cfg0.N le_rfl (by have : cfg0.N = 52 := N_0; omega)

set_option backward.isDefEq.respectTransparency.types false in
/-- THE RUN: every final state has the pipeline's arrays at what the proof data say, the other buffers as the host lines
    leave them, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- THE FRAME: every run ends, the arguments unchanged and the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Proof.Ffn

end
-- ==== Proof.Ffn.Spec.lean ====
/- The feed-forward block on real numbers, as sums over plain indices: what both the kernel and the reference compute. -/
module

public import Idealize.ShloMosaic.Lib.Pointwise
public import Idealize.ShloMosaic.Lib.IdealHost

@[expose] public section

noncomputable section

namespace Cert.Proof.Ffn

open Idealize.ShloMosaic

/-- A row, scaled to unit mean square and by the weight `g`, times one column of a matrix. -/
def lin (x g w : Fin 1024 → EReal) : EReal :=
  ∑ k, x k * Ideal.rsqrt (Ideal.div (∑ j, x j * x j) (Ideal.ofBits FTy.f32 1149239296#32) + Ideal.ofBits FTy.f32 897988541#32) * g k * w k

/-- Three taps and a bias. -/
def mix (t0 t1 t2 t3 a b c : EReal) : EReal := t0 * a + t1 * b + t2 * c + t3

def silu (v : EReal) : EReal := Ideal.div v (1 + Ideal.exp (0 - v))

/-- The exponential is never negative. -/
theorem exp_nonneg (z : EReal) : 0 ≤ Ideal.exp z := by
  induction z with
  | bot => exact le_rfl
  | top => exact le_top
  | coe r => rw [Ideal.exp_coe]; exact EReal.coe_nonneg.mpr (Real.exp_pos r).le

/-- A value times its logistic, the logistic written out, is `silu`. -/
theorem mul_logistic (v : EReal) : v * Ideal.div 1 (1 + Ideal.exp (-v)) = silu v := by
  unfold silu
  rw [zero_sub, Ideal.mul_one_div]
  intro h
  have h1 : (0 : EReal) < 1 := zero_lt_one
  have h2 := add_le_add (le_refl (1 : EReal)) (exp_nonneg (-v))
  rw [h, add_zero] at h2
  exact absurd h1 (not_lt.mpr h2)

variable (X : Fin 2 → Fin 8320 → Fin 1024 → EReal) (g : Fin 1024 → EReal) (wg wu : Fin 1024 → Fin 2816 → EReal)
  (cw : Fin 3 → Fin 2816 → EReal) (cb : Fin 2816 → EReal) (wd : Fin 2816 → Fin 1024 → EReal)

/-- One entry of a token's row through a matrix. -/
def gateAt (n : Fin 2) (i : Fin 8320) (f : Fin 2816) : EReal := lin (X n i) g (fun k => wg k f)

/-- The same `s` tokens earlier, zero before the first token. -/
def prevAt (s : ℕ) (n : Fin 2) (i : Fin 8320) (f : Fin 2816) : EReal :=
  if s ≤ i.val then gateAt X g wg n ⟨i.val - s, by omega⟩ f else 0

/-- The convolution over three tokens. -/
def convSum (n : Fin 2) (i : Fin 8320) (f : Fin 2816) : EReal :=
  mix (cw 0 f) (cw 1 f) (cw 2 f) (cb f) (prevAt X g wg 2 n i f) (prevAt X g wg 1 n i f) (gateAt X g wg n i f)

/-- The block's output. -/
def rowAt (n : Fin 2) (i : Fin 8320) (d : Fin 1024) : EReal :=
  X n i d + ∑ f, silu (convSum X g wg cw cb n i f) * gateAt X g wu n i f * wd f d

end Cert.Proof.Ffn

end
-- ==== Proof.Ffn.Block.lean ====
/- The feed-forward kernel's block values at real numbers, read at an index: a gate row, an up row and an output row,
   each from the rows of the blocks it is computed of. -/
module

public import proofs.«01_k».proof.Proof.Ffn.Frame
public import proofs.«01_k».proof.Proof.Ffn.Spec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Ffn

open Cert.FfnIdeal Cert.FfnIdeal.Gen Idealize.ShloMosaic Idealize.ShloMosaic.TcCoe Idealize.ShloMosaic.Tactic Idealize.SL.Sem

variable (m : (ℓ : Loc nD τ sig) → Buf (Elt Ideal) ℓ) (c : Dev nD)

theorem gate_of (x0 : Vec Ideal S1x320x1024 .f32) (x1 : Vec Ideal S1x1024 .f32) (x2 : Vec Ideal S1024x2816 .bf16) (r : Fin 320) (f : Fin 2816) :
    (k0_pay5 x0 x1 x2 (ix2 r f) : EReal) = lin (fun k => x0 (ix3 0 r k)) (fun k => x1 (ix2 0 k)) (fun k => x2 (ix2 k f)) := by
  unfold_payloads
  pointwise []
  rfl

theorem up_of (x0 : Vec Ideal S1x320x1024 .f32) (x1 : Vec Ideal S1x1024 .f32) (x2 : Vec Ideal S1024x2816 .bf16) (r : Fin 320) (f : Fin 2816) :
    (k0_pay6 x0 x1 x2 (ix2 r f) : EReal) = lin (fun k => x0 (ix3 0 r k)) (fun k => x1 (ix2 0 k)) (fun k => x2 (ix2 k f)) := by
  unfold_payloads
  pointwise []
  rfl

theorem out_of (x : Vec Ideal S320x1024 .f32) (G U e0 e1 : Vec Ideal S320x2816 .f32) (t0 t1 t2 t3 : Vec Ideal S1x2816 .f32) (wd : Vec Ideal S2816x1024 .bf16) (r : Fin 320) (d : Fin 1024) :
    (k0_pay9 x G U (k0_pay8 t0 e0) t1 e1 t2 t3 wd (ix3 0 r d) : EReal)
      = x (ix2 r d) + ∑ f, silu (mix (t0 (ix2 0 f)) (t1 (ix2 0 f)) (t2 (ix2 0 f)) (t3 (ix2 0 f)) (e0 (ix2 r f)) (e1 (ix2 r f)) (G (ix2 r f)))
          * U (ix2 r f) * wd (ix2 f d) := by
  unfold_payloads
  pointwise []
  rfl

theorem reshape_of (x0 : Vec Ideal S1x320x1024 .f32) (r : Fin 320) (d : Fin 1024) : (k0_pay3 x0 (ix2 r d) : EReal) = x0 (ix3 0 r d) := by
  unfold_payloads
  pointwise []

theorem state_of (x : Vec Ideal S8x2816 .f32) (s : Fin 8) (f : Fin 2816) : (k0_pay10 x (ix3 0 s f) : EReal) = x (ix2 s f) := by
  unfold_payloads
  pointwise []

theorem zeros_of (s : Fin 8) (f : Fin 2816) : (k0_pay2 (F := Ideal) (ix2 s f) : EReal) = 0 := by
  unfold_payloads
  pointwise []

/-- The arrays the region finds. -/
theorem scale_at (k : Fin 1024) : (V m c main_v3 (ix2 0 k) : EReal) = m ((c : Thread nD τ).loc main_arg1) (ix1 k) := by
  unfold V
  after_reads_at

theorem wg_at (k : Fin 1024) (f : Fin 2816) : (V m c main_v4 (ix2 k f) : EReal) = m ((c : Thread nD τ).loc main_arg2) (ix2 k f) := by
  unfold V
  after_reads_at

theorem wu_at (k : Fin 1024) (f : Fin 2816) : (V m c main_v5 (ix2 k f) : EReal) = m ((c : Thread nD τ).loc main_arg3) (ix2 k f) := by
  unfold V
  after_reads_at

theorem wd_at (k : Fin 2816) (f : Fin 1024) : (V m c main_v6 (ix2 k f) : EReal) = m ((c : Thread nD τ).loc main_arg6) (ix2 k f) := by
  unfold V
  after_reads_at

theorem tap0_at (f : Fin 2816) : (V m c main_v2 (ix2 0 f) : EReal) = m ((c : Thread nD τ).loc main_arg4) (ix2 0 f) := by
  unfold V
  after_reads_at

theorem tap1_at (f : Fin 2816) : (V m c main_v2 (ix2 1 f) : EReal) = m ((c : Thread nD τ).loc main_arg4) (ix2 1 f) := by
  unfold V
  after_reads_at

theorem tap2_at (f : Fin 2816) : (V m c main_v2 (ix2 2 f) : EReal) = m ((c : Thread nD τ).loc main_arg4) (ix2 2 f) := by
  unfold V
  after_reads_at

theorem bias_at (f : Fin 2816) : (V m c main_v2 (ix2 3 f) : EReal) = m ((c : Thread nD τ).loc main_arg5) (ix1 f) := by
  unfold V
  after_reads_at
  after_reads_at

/-- Which block each window takes at a point. -/
theorem idxs : ∀ t : Fin grid0.N,
    win0_0.index t = ![t.val / 26, t.val % 26, 0] ∧ win0_1.index t = ![0, 0] ∧ win0_2.index t = ![0, 0] ∧ win0_3.index t = ![0, 0]
      ∧ win0_4.index t = ![0, 0] ∧ win0_5.index t = ![0, 0] ∧ win0_6.index t = ![t.val / 26, t.val % 26, 0]
      ∧ win0_7.index t = ![t.val / 26, 0, 0] := by decide +kernel

theorem bound (t : Fin cfg0.N) : t.val < 52 := t.isLt

theorem blk0 (t : Fin cfg0.N) (r : Fin 320) (d : Fin 1024) :
    (iblk m c 0 t (ix3 0 r d) : EReal) = m ((c : Thread nD τ).loc main_arg0) (ix3 ⟨t.val / 26, by have := bound t; omega⟩ ⟨320 * (t.val % 26) + r.val, by omega⟩ d) := by
  have hi := (idxs t).1
  rw [← V_main_arg0 m c]
  show V m c main_arg0 (((cfg0.win 0).blk t).view.emb (ix3 0 r d)) = _
  congr 1
  funext a
  apply Fin.ext
  have h0 := congrFun hi 0
  have h1 := congrFun hi 1
  have h2 := congrFun hi 2
  match a with
  | ⟨0, _⟩ => show win0_0.index t (0 : Fin 3) * 1 + 1 * 0 = t.val / 26; rw [h0]; show t.val / 26 * 1 + 1 * 0 = _; omega
  | ⟨1, _⟩ => show win0_0.index t (1 : Fin 3) * 320 + 1 * r.val = 320 * (t.val % 26) + r.val; rw [h1]; show t.val % 26 * 320 + 1 * r.val = _; omega
  | ⟨2, _⟩ => show win0_0.index t (2 : Fin 3) * 1024 + 1 * d.val = d.val; rw [h2]; show 0 * 1024 + 1 * d.val = _; omega

theorem blk1 (t : Fin cfg0.N) (y : S1x1024.Idx) : iblk m c 1 t y = V m c main_v3 y := by
  have hi := (idxs t).2.1
  show V m c main_v3 (((cfg0.win 1).blk t).view.emb y) = _
  congr 1
  funext a
  apply Fin.ext
  have h0 := congrFun hi 0
  have h1 := congrFun hi 1
  match a with
  | ⟨0, _⟩ => show win0_1.index t (0 : Fin 2) * 1 + 1 * (y 0).val = (y 0).val; rw [h0]; show 0 * 1 + 1 * (y 0).val = _; omega
  | ⟨1, _⟩ => show win0_1.index t (1 : Fin 2) * 1024 + 1 * (y 1).val = (y 1).val; rw [h1]; show 0 * 1024 + 1 * (y 1).val = _; omega

theorem blk2 (t : Fin cfg0.N) (y : S1024x2816.Idx) : iblk m c 2 t y = V m c main_v4 y := by
  have hi := (idxs t).2.2.1
  show V m c main_v4 (((cfg0.win 2).blk t).view.emb y) = _
  congr 1
  funext a
  apply Fin.ext
  have h0 := congrFun hi 0
  have h1 := congrFun hi 1
  match a with
  | ⟨0, _⟩ => show win0_2.index t (0 : Fin 2) * 1024 + 1 * (y 0).val = (y 0).val; rw [h0]; show 0 * 1024 + 1 * (y 0).val = _; omega
  | ⟨1, _⟩ => show win0_2.index t (1 : Fin 2) * 2816 + 1 * (y 1).val = (y 1).val; rw [h1]; show 0 * 2816 + 1 * (y 1).val = _; omega

theorem blk3 (t : Fin cfg0.N) (y : S1024x2816.Idx) : iblk m c 3 t y = V m c main_v5 y := by
  have hi := (idxs t).2.2.2.1
  show V m c main_v5 (((cfg0.win 3).blk t).view.emb y) = _
  congr 1
  funext a
  apply Fin.ext
  have h0 := congrFun hi 0
  have h1 := congrFun hi 1
  match a with
  | ⟨0, _⟩ => show win0_3.index t (0 : Fin 2) * 1024 + 1 * (y 0).val = (y 0).val; rw [h0]; show 0 * 1024 + 1 * (y 0).val = _; omega
  | ⟨1, _⟩ => show win0_3.index t (1 : Fin 2) * 2816 + 1 * (y 1).val = (y 1).val; rw [h1]; show 0 * 2816 + 1 * (y 1).val = _; omega

theorem blk4 (t : Fin cfg0.N) (y : S2816x1024.Idx) : iblk m c 4 t y = V m c main_v6 y := by
  have hi := (idxs t).2.2.2.2.1
  show V m c main_v6 (((cfg0.win 4).blk t).view.emb y) = _
  congr 1
  funext a
  apply Fin.ext
  have h0 := congrFun hi 0
  have h1 := congrFun hi 1
  match a with
  | ⟨0, _⟩ => show win0_4.index t (0 : Fin 2) * 2816 + 1 * (y 0).val = (y 0).val; rw [h0]; show 0 * 2816 + 1 * (y 0).val = _; omega
  | ⟨1, _⟩ => show win0_4.index t (1 : Fin 2) * 1024 + 1 * (y 1).val = (y 1).val; rw [h1]; show 0 * 1024 + 1 * (y 1).val = _; omega

theorem blk5 (t : Fin cfg0.N) (y : S8x2816.Idx) : iblk m c 5 t y = V m c main_v2 y := by
  have hi := (idxs t).2.2.2.2.2.1
  show V m c main_v2 (((cfg0.win 5).blk t).view.emb y) = _
  congr 1
  funext a
  apply Fin.ext
  have h0 := congrFun hi 0
  have h1 := congrFun hi 1
  match a with
  | ⟨0, _⟩ => show win0_5.index t (0 : Fin 2) * 8 + 1 * (y 0).val = (y 0).val; rw [h0]; show 0 * 8 + 1 * (y 0).val = _; omega
  | ⟨1, _⟩ => show win0_5.index t (1 : Fin 2) * 2816 + 1 * (y 1).val = (y 1).val; rw [h1]; show 0 * 2816 + 1 * (y 1).val = _; omega

end Cert.Proof.Ffn

end
-- ==== Proof.Ffn.Value.lean ====
/- What the feed-forward kernel computes: every entry of its two results, as the sums of Spec.lean over its arguments. -/
module

public import proofs.«01_k».proof.Proof.Ffn.Block

@[expose] public section

set_option maxRecDepth 16384

noncomputable section

namespace Cert.Proof.Ffn

open Cert.FfnIdeal Cert.FfnIdeal.Gen Idealize.ShloMosaic Idealize.ShloMosaic.TcCoe Idealize.ShloMosaic.Tactic Idealize.SL.Sem

variable (m : (ℓ : Loc nD τ sig) → Buf (Elt Ideal) ℓ) (c : Dev nD)

/-- The arguments as functions of plain indices. -/
abbrev aX : Fin 2 → Fin 8320 → Fin 1024 → EReal := fun n i k => m ((c : Thread nD τ).loc main_arg0) (ix3 n i k)
abbrev aS : Fin 1024 → EReal := fun k => m ((c : Thread nD τ).loc main_arg1) (ix1 k)
abbrev aG : Fin 1024 → Fin 2816 → EReal := fun k f => m ((c : Thread nD τ).loc main_arg2) (ix2 k f)
abbrev aU : Fin 1024 → Fin 2816 → EReal := fun k f => m ((c : Thread nD τ).loc main_arg3) (ix2 k f)
abbrev aT : Fin 3 → Fin 2816 → EReal := fun j f => m ((c : Thread nD τ).loc main_arg4) (ix2 j f)
abbrev aB : Fin 2816 → EReal := fun f => m ((c : Thread nD τ).loc main_arg5) (ix1 f)
abbrev aD : Fin 2816 → Fin 1024 → EReal := fun f d => m ((c : Thread nD τ).loc main_arg6) (ix2 f d)

/-- The batch entry of a point, and the token of a row of its block. -/
abbrev pn (t : ℕ) (h : t < 52) : Fin 2 := ⟨t / 26, by omega⟩
abbrev pi (t : ℕ) (r : Fin 320) : Fin 8320 := ⟨320 * (t % 26) + r.val, by omega⟩

theorem gate_at (t : Fin cfg0.N) (r : Fin 320) (f : Fin 2816) :
    (gate m c t (ix2 r f) : EReal) = gateAt (aX m c) (aS m c) (aG m c) (pn t.val (bound t)) (pi t.val r) f := by
  unfold gate gateAt
  rw [gate_of]
  simp only [blk0, blk1, blk2]
  exact congrArg₂ (fun a b => lin _ a b) (funext fun k => scale_at m c k) (funext fun k => wg_at m c k f)

theorem up_at (t : Fin cfg0.N) (r : Fin 320) (f : Fin 2816) :
    (k0_pay6 (iblk m c 0 t) (iblk m c 1 t) (iblk m c 3 t) (ix2 r f) : EReal)
      = gateAt (aX m c) (aS m c) (aU m c) (pn t.val (bound t)) (pi t.val r) f := by
  unfold gateAt
  rw [up_of]
  simp only [blk0, blk1, blk3]
  exact congrArg₂ (fun a b => lin _ a b) (funext fun k => scale_at m c k) (funext fun k => wu_at m c k f)

/-- The carried rows are the last gate rows of the block before, zero before the first. -/
theorem carry_at (n : ℕ) (h : n < cfg0.N) (s : Fin 8) (f : Fin 2816) :
    (carry m c n h (ix2 s f) : EReal)
      = if hq : n % 26 = 0 then 0 else gateAt (aX m c) (aS m c) (aG m c) (pn n h) ⟨320 * (n % 26) - 8 + s.val, by omega⟩ f := by
  match n with
  | 0 => rw [dif_pos rfl]; exact zeros_of s f
  | n + 1 =>
    refine (congrFun (show carry m c (n + 1) h = if (n + 1) % 26 = 0 then k0_pay2 else rows 312 (by omega) (gate m c ⟨n, Nat.lt_of_succ_lt h⟩) from rfl) _).trans ?_
    by_cases hq : (n + 1) % 26 = 0
    · rw [if_pos hq, dif_pos hq]; exact zeros_of s f
    · rw [if_neg hq, dif_neg hq]
      have hb : n + 1 < 52 := h
      refine (gate_at m c ⟨n, Nat.lt_of_succ_lt h⟩ ⟨s.val + 312, by omega⟩ f).trans ?_
      congr 1
      · apply Fin.ext; show n / 26 = (n + 1) / 26; omega
      · apply Fin.ext; show 320 * (n % 26) + (s.val + 312) = 320 * ((n + 1) % 26) - 8 + s.val; omega

/-- The gate rows `s` tokens earlier, across the block's edge. -/
theorem ext_at (t : Fin cfg0.N) (s o : ℕ) (hs : s + o = 8) (r : Fin 320) (f : Fin 2816) :
    (ext o (carry m c t.val t.isLt) (gate m c t) (ix2 r f) : EReal)
      = prevAt (aX m c) (aS m c) (aG m c) s (pn t.val (bound t)) (pi t.val r) f := by
  have hb := bound t
  unfold ext prevAt
  by_cases h : r.val + o < 8
  · refine (dif_pos h).trans ?_
    refine (carry_at m c t.val t.isLt ⟨r.val + o, h⟩ f).trans ?_
    by_cases hq : t.val % 26 = 0
    · rw [dif_pos hq, if_neg]
      show ¬ s ≤ 320 * (t.val % 26) + r.val
      omega
    · rw [dif_neg hq, if_pos (show s ≤ 320 * (t.val % 26) + r.val by omega)]
      congr 1
      apply Fin.ext
      show 320 * (t.val % 26) - 8 + (r.val + o) = 320 * (t.val % 26) + r.val - s
      omega
  · refine (dif_neg h).trans ((dif_pos (show r.val + o - 8 < 320 by omega)).trans ?_)
    refine (gate_at m c t ⟨r.val + o - 8, by omega⟩ f).trans ?_
    rw [if_pos (show s ≤ 320 * (t.val % 26) + r.val by omega)]
    congr 1
    apply Fin.ext
    show 320 * (t.val % 26) + (r.val + o - 8) = 320 * (t.val % 26) + r.val - s
    omega

theorem tap_at (o : ℕ) (ho : o < 8) (t : Fin cfg0.N) (f : Fin 2816) : (tap o ho (iblk m c 5 t) (ix2 0 f) : EReal) = V m c main_v2 (ix2 ⟨o, ho⟩ f) :=
  blk5 m c t (ix2 ⟨o, ho⟩ f)

/-- The output block, an entry. -/
theorem out_at (t : Fin cfg0.N) (r : Fin 320) (d : Fin 1024) :
    (outAt m c t (ix3 0 r d) : EReal) = rowAt (aX m c) (aS m c) (aG m c) (aU m c) (aT m c) (aB m c) (aD m c) (pn t.val (bound t)) (pi t.val r) d := by
  unfold outAt outX
  rw [out_of, reshape_of]
  unfold rowAt
  refine congrArg₂ (fun a b : EReal => a + b) (blk0 m c t r d) (Finset.sum_congr rfl fun f _ => ?_)
  refine congrArg₂ (fun a b : EReal => a * b) (congrArg₂ (fun a b : EReal => a * b) (congrArg silu ?_) (up_at m c t r f)) ((blk4 m c t _).trans (wd_at m c f d))
  unfold convSum
  have h0 := (tap_at m c 0 (by omega) t f).trans (tap0_at m c f)
  have h1 := (tap_at m c 1 (by omega) t f).trans (tap1_at m c f)
  have h2 := (tap_at m c 2 (by omega) t f).trans (tap2_at m c f)
  have h3 := (tap_at m c 3 (by omega) t f).trans (bias_at m c f)
  have e2 := ext_at m c t 2 6 rfl r f
  have e1 := ext_at m c t 1 7 rfl r f
  unfold gate at e2 e1
  rw [h0, h1, h2, h3, e2, e1]
  exact congrArg _ (gate_at m c t r f)

theorem conv_at (t : Fin cfg0.N) (s : Fin 8) (f : Fin 2816) :
    (convAt m c t (ix3 0 s f) : EReal) = gateAt (aX m c) (aS m c) (aG m c) (pn t.val (bound t)) (pi t.val ⟨s.val + 200, by omega⟩) f := by
  unfold convAt
  rw [state_of]
  exact gate_at m c t ⟨s.val + 200, by omega⟩ f

/-! The arrays after the run -/

theorem flush6 (t : Fin cfg0.N) : (cfg0.win 6).flush t = true := (by decide +kernel : ∀ t : Fin grid0.N, win0_6.flush t = true) t

theorem flush7 (t : Fin cfg0.N) (h : t.val % 26 = 25) : (cfg0.win 7).flush t = true :=
  (by decide +kernel : ∀ t : Fin grid0.N, t.val % 26 = 25 → win0_7.flush t = true) t h

theorem inj6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne ((by decide +kernel : ∀ t t' : Fin grid0.N, win0_6.index t = win0_6.index t' → t = t') t t' h)

theorem inj7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne
    ((by decide +kernel : ∀ t t' : Fin grid0.N, win0_7.flush t = true → win0_7.flush t' = true → win0_7.index t = win0_7.index t' → t = t') t t' hf hf' h)

theorem arr6 (t : Fin cfg0.N) (r : Fin 320) (d : Fin 1024) :
    ((dats m 0 c).arrAt 6 cfg0.N (ix3 (pn t.val (bound t)) (pi t.val r) d) : EReal) = outAt m c t (ix3 0 r d) := by
  have h := congrFun ((dats m 0 c).read_blk_arrAt_eq_flushed 6 inj6 cfg0.N t t.isLt (flush6 t)) (ix3 0 r d)
  have hi := (idxs t).2.2.2.2.2.2.1
  have he : ((cfg0.win 6).blk t).view.emb (ix3 0 r d) = ix3 (pn t.val (bound t)) (pi t.val r) d := by
    funext a
    apply Fin.ext
    have h0 := congrFun hi 0
    have h1 := congrFun hi 1
    have h2 := congrFun hi 2
    match a with
    | ⟨0, _⟩ => show win0_6.index t (0 : Fin 3) * 1 + 1 * 0 = t.val / 26; rw [h0]; show t.val / 26 * 1 + 1 * 0 = _; omega
    | ⟨1, _⟩ => show win0_6.index t (1 : Fin 3) * 320 + 1 * r.val = 320 * (t.val % 26) + r.val; rw [h1]; show t.val % 26 * 320 + 1 * r.val = _; omega
    | ⟨2, _⟩ => show win0_6.index t (2 : Fin 3) * 1024 + 1 * d.val = d.val; rw [h2]; show 0 * 1024 + 1 * d.val = _; omega
  rw [← he]
  exact h.trans (congrFun (after_6 m c t) (ix3 0 r d))

theorem arr7 (t : Fin cfg0.N) (ht : t.val % 26 = 25) (s : Fin 8) (f : Fin 2816) :
    ((dats m 0 c).arrAt 7 cfg0.N (ix3 (pn t.val (bound t)) s f) : EReal) = convAt m c t (ix3 0 s f) := by
  have h := congrFun ((dats m 0 c).read_blk_arrAt_eq_flushed 7 inj7 cfg0.N t t.isLt (flush7 t ht)) (ix3 0 s f)
  have hi := (idxs t).2.2.2.2.2.2.2
  have he : ((cfg0.win 7).blk t).view.emb (ix3 0 s f) = ix3 (pn t.val (bound t)) s f := by
    funext a
    apply Fin.ext
    have h0 := congrFun hi 0
    have h1 := congrFun hi 1
    have h2 := congrFun hi 2
    match a with
    | ⟨0, _⟩ => show win0_7.index t (0 : Fin 3) * 1 + 1 * 0 = t.val / 26; rw [h0]; show t.val / 26 * 1 + 1 * 0 = _; omega
    | ⟨1, _⟩ => show win0_7.index t (1 : Fin 3) * 8 + 1 * s.val = s.val; rw [h1]; show 0 * 8 + 1 * s.val = _; omega
    | ⟨2, _⟩ => show win0_7.index t (2 : Fin 3) * 2816 + 1 * f.val = f.val; rw [h2]; show 0 * 2816 + 1 * f.val = _; omega
  rw [← he]
  exact h.trans (congrFun (after_7 m c t) (ix3 0 s f))

/-- THE OUTPUT ARRAY, an entry. -/
theorem out_entry (n : Fin 2) (i : Fin 8320) (d : Fin 1024) :
    ((dats m 0 c).arrAt 6 cfg0.N (ix3 n i d) : EReal) = rowAt (aX m c) (aS m c) (aG m c) (aU m c) (aT m c) (aB m c) (aD m c) n i d := by
  have hn := n.isLt
  have hi := i.isLt
  have h := (arr6 m c ⟨26 * n.val + i.val / 320, by show _ < 52; omega⟩ ⟨i.val % 320, by omega⟩ d).trans (out_at m c _ _ _)
  have e1 : pn (26 * n.val + i.val / 320) (by omega) = n := Fin.ext (by show (26 * n.val + i.val / 320) / 26 = n.val; omega)
  have e2 : pi (26 * n.val + i.val / 320) ⟨i.val % 320, by omega⟩ = i :=
    Fin.ext (by show 320 * ((26 * n.val + i.val / 320) % 26) + i.val % 320 = i.val; omega)
  rw [e1, e2] at h
  exact h

/-- THE KEPT GATE ROWS, an entry. -/
theorem state_entry (n s : Fin 2) (f : Fin 2816) :
    (Pipeline.afterTail₀ cfgs (dats m) 0 (V0 m) [hostOps1] c main_v8 (ix3 n s f) : EReal)
      = gateAt (aX m c) (aS m c) (aG m c) n ⟨8206 + s.val, by omega⟩ f := by
  unfold Pipeline.afterTail₀
  after_reads_at
  have hn := n.isLt
  have h := congrFun (Pipeline.withArrays_arr spec0 (by decide) c (V0 m c) (fun w => (dats m 0 c).arrAt w cfg0.N) 7) (ix3 n ⟨6 + s.val, by omega⟩ f)
  refine h.trans ?_
  have h7 := (arr7 m c ⟨26 * n.val + 25, by show _ < 52; omega⟩ (by show (26 * n.val + 25) % 26 = 25; omega) ⟨6 + s.val, by omega⟩ f).trans (conv_at m c _ _ _)
  have e1 : pn (26 * n.val + 25) (by omega) = n := Fin.ext (by show (26 * n.val + 25) / 26 = n.val; omega)
  have e2 : pi (26 * n.val + 25) ⟨6 + s.val + 200, by omega⟩ = ⟨8206 + s.val, by omega⟩ :=
    Fin.ext (by show 320 * ((26 * n.val + 25) % 26) + (6 + s.val + 200) = 8206 + s.val; omega)
  rw [e1, e2] at h7
  exact h7

end Cert.Proof.Ffn

end
-- ==== Proof.Ffn.Ref.lean ====
/- The feed-forward reference's results read at an index: the block's output and the two gate rows it keeps. -/
module

public import proofs.«01_k».proof.Proof.Ffn.Spec
public import proofs.«01_k».proof.Proof.Gen.FfnRefIdeal.Read
public import Idealize.ShloMosaic.Lib.Pointwise
public import Idealize.ShloMosaic.Lib.Pipeline.ValueKit

@[expose] public section

set_option maxRecDepth 16384

noncomputable section

namespace Cert.Proof.Ffn.Ref

open Cert.FfnRefIdeal Cert.FfnRefIdeal.Gen Cert.FfnRefIdeal.Read Cert.Proof.Ffn Idealize.ShloMosaic Idealize.ShloMosaic.TcCoe Idealize.ShloMosaic.Tactic Idealize.SL.Sem

variable (x0 : Vec Ideal S2x8320x1024 .f32) (x1 : Vec Ideal S1024 .f32) (x2 x3 : Vec Ideal S1024x2816 .f32) (x4 : Vec Ideal S3x2816 .f32) (x5 : Vec Ideal S2816 .f32) (x6 : Vec Ideal S2816x1024 .f32)

/-- The arguments as functions of plain indices. -/
abbrev tok : Fin 2 → Fin 8320 → Fin 1024 → EReal := fun n i k => x0 (ix3 n i k)
abbrev vec1024 : Fin 1024 → EReal := fun k => x1 (ix1 k)
abbrev mat : Fin 1024 → Fin 2816 → EReal := fun k f => x2 (ix2 k f)
abbrev taps : Fin 3 → Fin 2816 → EReal := fun j f => x4 (ix2 j f)
abbrev bias : Fin 2816 → EReal := fun f => x5 (ix1 f)
abbrev down : Fin 2816 → Fin 1024 → EReal := fun f d => x6 (ix2 f d)

theorem gate_read (n : Fin 2) (i : Fin 8320) (f : Fin 2816) :
    (val_main_v14 x0 x1 x2 (ix3 n i f) : EReal) = gateAt (tok x0) (vec1024 x1) (mat x2) n i f := by
  rw [val_main_v14_apply]
  pointwise [val_main_v1, val_main_v2, val_main_v3, val_main_v4, val_main_v5, val_main_v6, val_main_v7, val_main_v8, val_main_v9, val_main_v10, val_main_v11, val_main_v12, val_main_v13, val_main_cst_0, val_main_cst_1, val_main_cst_2, val_main_cst]
  unfold gateAt lin
  refine Finset.sum_congr rfl fun k _ => ?_
  have e1 : lidx_main_v14 (ix3 n i f) k = ix3 n i k := by
    funext a
    match a with
    | ⟨0, _⟩ => rfl
    | ⟨1, _⟩ => rfl
    | ⟨2, _⟩ => rfl
  have e2 : ridx_main_v14 (ix3 n i f) k = ix2 k f := by
    funext a
    match a with
    | ⟨0, _⟩ => rfl
    | ⟨1, _⟩ => rfl
  rw [e1, e2]

theorem up_read (n : Fin 2) (i : Fin 8320) (f : Fin 2816) :
    (val_main_v15 x0 x1 x3 (ix3 n i f) : EReal) = gateAt (tok x0) (vec1024 x1) (mat x3) n i f :=
  gate_read x0 x1 x3 n i f

/-- The gate rows with two zero rows before them. -/
theorem pad_read (s : ℕ) (hs : s ≤ 2) (n : Fin 2) (i : Fin 8320) (f : Fin 2816) :
    (val_main_v16 x0 x1 x2 (ix3 n ⟨i.val + (2 - s), by omega⟩ f) : EReal) = prevAt (tok x0) (vec1024 x1) (mat x2) s n i f := by
  unfold val_main_v16 prevAt
  by_cases h : s ≤ i.val
  · rw [if_pos h, ← gate_read]
    refine concatenate_pair_apply_right (s₁ := S2x2x2816) (s₂ := S2x8320x2816) (t := S2x8322x2816) 1 _ _ _ _ rfl rfl (ix3 n ⟨i.val - s, by omega⟩ f) (fun b hb => ?_) ?_
    · match b with
      | ⟨0, _⟩ => rfl
      | ⟨1, _⟩ => exact absurd rfl hb
      | ⟨2, _⟩ => rfl
    · show i.val - s + 2 = i.val + (2 - s); omega
  · rw [if_neg h]
    refine (concatenate_pair_apply_left (s₁ := S2x2x2816) (s₂ := S2x8320x2816) (t := S2x8322x2816) 1 _ _ _ _ rfl (ix3 n ⟨i.val + (2 - s), by omega⟩ f) (fun b => ?_)).trans ?_
    · match b with
      | ⟨0, _⟩ => rfl
      | ⟨1, _⟩ => rfl
      | ⟨2, _⟩ => rfl
    · pointwise [val_main_v0, val_main_cst]

theorem conv_read (n : Fin 2) (i : Fin 8320) (f : Fin 2816) :
    (val_main_v41 x0 x1 x2 x4 x5 (ix3 n i f) : EReal) = convSum (tok x0) (vec1024 x1) (mat x2) (taps x4) (bias x5) n i f := by
  rw [val_main_v41_apply, val_main_v38_apply, val_main_v31_apply, val_main_v24_apply, val_main_v22_apply, val_main_v30_apply, val_main_v37_apply, val_main_v19_apply, val_main_v27_apply, val_main_v34_apply]
  pointwise [val_main_v17, val_main_v18, val_main_v20, val_main_v21, val_main_v23, val_main_v25, val_main_v26, val_main_v28, val_main_v29, val_main_v32, val_main_v33, val_main_v35, val_main_v36, val_main_v39, val_main_v40, val_main_cst_3]
  have e0 : idx_main_v19 (ix3 n i f) = ix3 n ⟨i.val + (2 - 2), by omega⟩ f := by
    funext a
    apply Fin.ext
    match a with
    | ⟨0, _⟩ => show _ = n.val; simp
    | ⟨1, _⟩ => show _ = i.val + (2 - 2); simp
    | ⟨2, _⟩ => show _ = f.val; simp
  have e1 : idx_main_v27 (ix3 n i f) = ix3 n ⟨i.val + (2 - 1), by omega⟩ f := by
    funext a
    apply Fin.ext
    match a with
    | ⟨0, _⟩ => show _ = n.val; simp
    | ⟨1, _⟩ => show _ = i.val + (2 - 1); simp; try omega
    | ⟨2, _⟩ => show _ = f.val; simp
  have e2 : idx_main_v34 (ix3 n i f) = ix3 n ⟨i.val + (2 - 0), by omega⟩ f := by
    funext a
    apply Fin.ext
    match a with
    | ⟨0, _⟩ => show _ = n.val; simp
    | ⟨1, _⟩ => show _ = i.val + (2 - 0); simp; try omega
    | ⟨2, _⟩ => show _ = f.val; simp
  rw [e0, e1, e2, pad_read x0 x1 x2 2 le_rfl, pad_read x0 x1 x2 1 (by omega), pad_read x0 x1 x2 0 (by omega)]
  rfl

/-- THE OUTPUT, an entry. -/
theorem row_read (n : Fin 2) (i : Fin 8320) (d : Fin 1024) :
    (val_main_v92 x0 x1 x2 x3 x4 x5 x6 (ix3 n i d) : EReal) = rowAt (tok x0) (vec1024 x1) (mat x2) (mat x3) (taps x4) (bias x5) (down x6) n i d := by
  rw [val_main_v92_apply, val_main_v44_apply]
  unfold rowAt
  have hl (k : Fin 2816) : lidx_main_v44 (ix3 n i d) k = ix3 n i k := by
    funext a
    match a with
    | ⟨0, _⟩ => rfl
    | ⟨1, _⟩ => rfl
    | ⟨2, _⟩ => rfl
  have hr (k : Fin 2816) : ridx_main_v44 (ix3 n i d) k = ix2 k d := by
    funext a
    match a with
    | ⟨0, _⟩ => rfl
    | ⟨1, _⟩ => rfl
  simp only [hl, hr, ← conv_read x0 x1 x2 x4 x5, ← up_read x0 x1 x3, ← mul_logistic]
  generalize hg : val_main_v41 x0 x1 x2 x4 x5 = c
  generalize hu : val_main_v15 x0 x1 x3 = u
  pointwise [val_main_v43, val_main_v42, val_main_call0_v0, val_main_call0_v1, val_main_call0_v2, val_main_call0_v3, val_main_call0_v4, val_main_call0_v5, val_main_call0_cst, val_main_call0_cst_0, hg, hu]

/-- THE KEPT ROWS, an entry: the gate rows of tokens 8206 and 8207. -/
theorem state_read (n s : Fin 2) (f : Fin 2816) :
    (val_main_v91 x0 x1 x2 (ix3 n s f) : EReal) = gateAt (tok x0) (vec1024 x1) (mat x2) n ⟨8206 + s.val, by omega⟩ f := by
  rw [val_main_v91_apply]
  unfold val_main_v62
  have hs : 8206 + s.val < 8208 := by omega
  refine (concatenate_pair_apply_right (s₁ := S2x2x2816) (s₂ := S2x8208x2816) (t := S2x8210x2816) 1 _ _ _ _ rfl rfl (ix3 n ⟨8206 + s.val, hs⟩ f) (fun b hb => ?_) ?_).trans ?_
  · match b with
    | ⟨0, _⟩ => show n.val = _; simp
    | ⟨1, _⟩ => exact absurd rfl hb
    | ⟨2, _⟩ => show f.val = _; simp
  · show 8206 + s.val + 2 = _; simp; omega
  rw [val_main_v60_apply]
  pointwise [val_main_v46, val_main_v47, val_main_v48, val_main_v49, val_main_v50, val_main_v51, val_main_v52, val_main_v53, val_main_v54, val_main_v55, val_main_v56, val_main_v57, val_main_v58, val_main_v59, val_main_cst_4, val_main_cst_5, val_main_cst_6]
  unfold gateAt lin
  refine Finset.sum_congr rfl fun k _ => ?_
  have e2 : ridx_main_v60 (ix3 n ⟨8206 + s.val, hs⟩ f) k = ix2 k f := by
    funext a
    match a with
    | ⟨0, _⟩ => rfl
    | ⟨1, _⟩ => rfl
  rw [e2]

end Cert.Proof.Ffn.Ref

end
-- ==== Proof.Ffn.Final.lean ====
/- The feed-forward call at real numbers: the kernel's run with its results named, and those results equal to the reference's. -/
module

public import proofs.«01_k».proof.Proof.Ffn.Value
public import proofs.«01_k».proof.Proof.Ffn.Ref
public import proofs.«01_k».proof.Proof.Gen.FfnRefIdeal.Run
public import Idealize.ShloMosaic.Lib.Claim

@[expose] public section

set_option maxRecDepth 16384

noncomputable section

namespace Cert.Proof.Ffn

open Cert.FfnIdeal Cert.FfnIdeal.Gen Idealize.ShloMosaic Idealize.ShloMosaic.TcCoe Idealize.ShloMosaic.Tactic Idealize.SL.Sem

variable (m : (ℓ : Loc nD τ sig) → Buf (Elt Ideal) ℓ) (ρ : Dev nD → PrngReg)

/-- The two results. -/
def resOut (c : Dev nD) : Buf (Elt Ideal) ((c.tc : Thread nD τ).loc main_v7_0) := (dats m 0 c).arrAt 6 cfg0.N
def resState (c : Dev nD) : Buf (Elt Ideal) ((c.tc : Thread nD τ).loc main_v8) :=
  Pipeline.afterTail₀ cfgs (dats m) 0 (V0 m) [hostOps1] c main_v8

theorem run_values : θ_run defs (onTc (τ := τ) (main (F := Ideal))) ⟨m, fun _ => 0, ρ⟩ (fun r => ∀ c : Dev nD,
      r.2.mem ((c.tc : Thread nD τ).loc main_v7_0) = resOut m c
      ∧ r.2.mem ((c.tc : Thread nD τ).loc main_v8) = resState m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 6, (h.1 c).2 main_v8 (Pipeline.mem_restRefs_of main_v8 (by decide) (by decide)), h.2.1 c⟩)
    (θ_run_and (run_main m ρ) (frame m ρ))

theorem out_eq (c : Dev nD) :
    Cert.FfnRefIdeal.Read.val_main_v92 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) = resOut m c := by
  funext j
  have hj : j = ix3 (j 0) (j 1) (j 2) := by
    funext a
    match a with
    | ⟨0, _⟩ => rfl
    | ⟨1, _⟩ => rfl
    | ⟨2, _⟩ => rfl
  rw [hj]
  exact (Ref.row_read _ _ _ _ _ _ _ (j 0) (j 1) (j 2)).trans (out_entry m c (j 0) (j 1) (j 2)).symm

theorem state_eq (c : Dev nD) :
    Cert.FfnRefIdeal.Read.val_main_v91 (F := Ideal) (m ((c : Thread nD τ).loc main_arg0)) (m ((c : Thread nD τ).loc main_arg1)) (m ((c : Thread nD τ).loc main_arg2)) = resState m c := by
  funext j
  have hj : j = ix3 (j 0) (j 1) (j 2) := by
    funext a
    match a with
    | ⟨0, _⟩ => rfl
    | ⟨1, _⟩ => rfl
    | ⟨2, _⟩ => rfl
  rw [hj]
  exact (Ref.state_read _ _ _ (j 0) (j 1) (j 2)).trans (state_entry m c (j 0) (j 1) (j 2)).symm

end Cert.Proof.Ffn

end
-- ==== Proof.Proj.Spec.lean ====
/- The projection call on real numbers, over plain column numbers: a column of the normalized product, the rotation of the
   pairs of a head's columns, and a head's columns scaled to unit mean square. What both the kernel and the reference compute. -/
module

public import proofs.«01_k».proof.Proof.Ffn.Spec

@[expose] public section

noncomputable section

namespace Cert.Proof.Proj

open Idealize.ShloMosaic Cert.Proof.Ffn

/-- Column `c` of a token's normalized row through the whole matrix. -/
def column (x g : Fin 1024 → EReal) (w : Fin 1024 → Fin 4040 → EReal) (c : ℕ) : EReal :=
  lin x g (fun k => if h : c < 4040 then w k ⟨c, h⟩ else 0)

/-- The angle of position `i` at frequency `j`: the base's logarithm `b` and the number of frequencies `hf` as float patterns. -/
def ang (b hf : BitVec 32) (i j : ℕ) : EReal :=
  FloatOps.sitofp (F := Ideal) FTy.f32 (BitVec.ofNat 32 i)
    * Ideal.exp (Ideal.div (Ideal.ofBits FTy.f32 b * FloatOps.sitofp (F := Ideal) FTy.f32 (BitVec.ofNat 32 j)) (Ideal.ofBits FTy.f32 hf))

/-- The cosine and sine factors of column `k` among heads of `D` columns whose first `h` are paired with the next `h`. -/
def cosAt (D h : ℕ) (b hf : BitVec 32) (i k : ℕ) : EReal :=
  if k % D < h then Ideal.cos (ang b hf i (k % D)) else if k % D - h < h then Ideal.cos (ang b hf i (k % D - h)) else 1

def sinAt (D h : ℕ) (b hf : BitVec 32) (i k : ℕ) : EReal :=
  if k % D < h then -Ideal.sin (ang b hf i (k % D)) else if k % D - h < h then Ideal.sin (ang b hf i (k % D - h)) else 0

/-- The factors on a head's first columns, on their partners and on the rest. -/
theorem cos_lo {D h : ℕ} {b hf : BitVec 32} {i k : ℕ} (h1 : k % D < h) : cosAt D h b hf i k = Ideal.cos (ang b hf i (k % D)) := if_pos h1

theorem cos_hi {D h : ℕ} {b hf : BitVec 32} {i k : ℕ} (h1 : ¬k % D < h) (h2 : k % D - h < h) : cosAt D h b hf i k = Ideal.cos (ang b hf i (k % D - h)) :=
  (if_neg h1).trans (if_pos h2)

theorem cos_rest {D h : ℕ} {b hf : BitVec 32} {i k : ℕ} (h1 : ¬k % D < h) (h2 : ¬k % D - h < h) : cosAt D h b hf i k = 1 :=
  (if_neg h1).trans (if_neg h2)

theorem sin_lo {D h : ℕ} {b hf : BitVec 32} {i k : ℕ} (h1 : k % D < h) : sinAt D h b hf i k = -Ideal.sin (ang b hf i (k % D)) := if_pos h1

theorem sin_hi {D h : ℕ} {b hf : BitVec 32} {i k : ℕ} (h1 : ¬k % D < h) (h2 : k % D - h < h) : sinAt D h b hf i k = Ideal.sin (ang b hf i (k % D - h)) :=
  (if_neg h1).trans (if_pos h2)

theorem sin_rest {D h : ℕ} {b hf : BitVec 32} {i k : ℕ} (h1 : ¬k % D < h) (h2 : ¬k % D - h < h) : sinAt D h b hf i k = 0 :=
  (if_neg h1).trans (if_neg h2)

/-- Column `k` of the heads' columns `u`, each pair turned by its angle. -/
def rot (D h : ℕ) (b hf : BitVec 32) (i : ℕ) (u : ℕ → EReal) (k : ℕ) : EReal :=
  if k % D < h then u k * Ideal.cos (ang b hf i (k % D)) - u (k + h) * Ideal.sin (ang b hf i (k % D))
  else if k % D - h < h then u k * Ideal.cos (ang b hf i (k % D - h)) + u (k - h) * Ideal.sin (ang b hf i (k % D - h))
  else u k

/-- Column `k`, its head of `D` columns scaled to unit mean square and by the gains `g`. -/
def unit (D : ℕ) (db : BitVec 32) (v g : ℕ → EReal) (k : ℕ) : EReal :=
  v k * Ideal.rsqrt (Ideal.div (∑ x : Fin D, v (k / D * D + x.val) * v (k / D * D + x.val)) (Ideal.ofBits FTy.f32 db)
    + Ideal.ofBits FTy.f32 897988541#32) * g (k % D)

/-- A vector of gains by column number. -/
def gain {n : ℕ} (x : Vec Ideal (⟨1, ![n]⟩ : Shape) .f32) (d : ℕ) : EReal := if h : d < n then x (ix1 ⟨d, h⟩) else 0

theorem mod_head (D a d : ℕ) (hd : d < D) : (a * D + d) % D = d := by
  rw [Nat.mul_comm, Nat.mul_add_mod, Nat.mod_eq_of_lt hd]

theorem div_head (D a d : ℕ) (hd : d < D) : (a * D + d) / D = a := by
  rw [Nat.mul_comm, Nat.mul_add_div (by omega), Nat.div_eq_of_lt hd, Nat.add_zero]

/-- The rotation by head and column of the head. -/
theorem rot_head (D h : ℕ) (b hf : BitVec 32) (i : ℕ) (u : ℕ → EReal) (a d : ℕ) (hd : d < D) :
    rot D h b hf i u (a * D + d) =
      if d < h then u (a * D + d) * Ideal.cos (ang b hf i d) - u (a * D + (h + d)) * Ideal.sin (ang b hf i d)
      else if d - h < h then u (a * D + (h + (d - h))) * Ideal.cos (ang b hf i (d - h)) + u (a * D + (d - h)) * Ideal.sin (ang b hf i (d - h))
      else u (a * D + (2 * h + (d - h - h))) := by
  unfold rot
  rw [mod_head D a d hd]
  by_cases h1 : d < h
  · rw [if_pos h1, if_pos h1, show a * D + d + h = a * D + (h + d) from by omega]
  · rw [if_neg h1, if_neg h1]
    by_cases h2 : d - h < h
    · rw [if_pos h2, if_pos h2, show a * D + d - h = a * D + (d - h) from by omega, show h + (d - h) = d from by omega]
    · rw [if_neg h2, if_neg h2, show 2 * h + (d - h - h) = d from by omega]

theorem unit_head (D : ℕ) (db : BitVec 32) (v g : ℕ → EReal) (a d : ℕ) (hd : d < D) :
    unit D db v g (a * D + d) = v (a * D + d) * Ideal.rsqrt (Ideal.div (∑ x : Fin D, v (a * D + x.val) * v (a * D + x.val)) (Ideal.ofBits FTy.f32 db)
      + Ideal.ofBits FTy.f32 897988541#32) * g d := by
  unfold unit
  rw [mod_head D a d hd, div_head D a d hd]

/-- A vector of gains at a column of it. -/
theorem gain_at {n : ℕ} (x : Vec Ideal (⟨1, ![n]⟩ : Shape) .f32) (d : Fin n) : (x (ix1 d) : EReal) = gain x d.val := by
  unfold gain
  rw [dif_pos d.isLt]

/-- The rotation of scaled heads, by head and column of the head. -/
theorem rot_unit_head (D h : ℕ) (b hf : BitVec 32) (i : ℕ) (db : BitVec 32) (v g : ℕ → EReal) (a d : ℕ) (hd : d < D) (hh : 2 * h ≤ D) :
    rot D h b hf i (unit D db v g) (a * D + d) =
      if d < h then
        v (a * D + d) * Ideal.rsqrt (Ideal.div (∑ x : Fin D, v (a * D + x.val) * v (a * D + x.val)) (Ideal.ofBits FTy.f32 db) + Ideal.ofBits FTy.f32 897988541#32) * g d
            * Ideal.cos (ang b hf i d)
          - v (a * D + (h + d)) * Ideal.rsqrt (Ideal.div (∑ x : Fin D, v (a * D + x.val) * v (a * D + x.val)) (Ideal.ofBits FTy.f32 db) + Ideal.ofBits FTy.f32 897988541#32) * g (h + d)
            * Ideal.sin (ang b hf i d)
      else if d - h < h then
        v (a * D + (h + (d - h))) * Ideal.rsqrt (Ideal.div (∑ x : Fin D, v (a * D + x.val) * v (a * D + x.val)) (Ideal.ofBits FTy.f32 db) + Ideal.ofBits FTy.f32 897988541#32) * g (h + (d - h))
            * Ideal.cos (ang b hf i (d - h))
          + v (a * D + (d - h)) * Ideal.rsqrt (Ideal.div (∑ x : Fin D, v (a * D + x.val) * v (a * D + x.val)) (Ideal.ofBits FTy.f32 db) + Ideal.ofBits FTy.f32 897988541#32) * g (d - h)
            * Ideal.sin (ang b hf i (d - h))
      else v (a * D + (2 * h + (d - h - h))) * Ideal.rsqrt (Ideal.div (∑ x : Fin D, v (a * D + x.val) * v (a * D + x.val)) (Ideal.ofBits FTy.f32 db) + Ideal.ofBits FTy.f32 897988541#32) * g (2 * h + (d - h - h)) := by
  rw [rot_head D h b hf i _ a d hd]
  by_cases h1 : d < h
  · rw [if_pos h1, if_pos h1, unit_head D db v g a d hd, unit_head D db v g a (h + d) (by omega)]
  · rw [if_neg h1, if_neg h1]
    by_cases h2 : d - h < h
    · rw [if_pos h2, if_pos h2, unit_head D db v g a (h + (d - h)) (by omega), unit_head D db v g a (d - h) (by omega)]
    · rw [if_neg h2, if_neg h2, unit_head D db v g a (2 * h + (d - h - h)) (by omega)]

/-- Two rolls of a row of `W` columns, chosen by the column's place in its head, times the sine factors: the rotation. -/
theorem rot_rolled (W D h w : ℕ) (b hf : BitVec 32) (i : ℕ) (sel : Fin W → BitVec 1) (v : Fin W → EReal) (u : ℕ → EReal)
    (hsel : ∀ k : Fin W, sel k = if k.val % D < h then 1#1 else 0#1)
    (hD : 0 < D) (hw : w % D = 0) (hh : 2 * h ≤ D) (hwW : w ≤ W) (hv : ∀ k : Fin W, k.val < w → v k = u k.val)
    (k : Fin W) (hk : k.val < w) (p1 : (k.val + W - (W - h)) % W < W) (p2 : (k.val + W - h) % W < W) :
    v k * cosAt D h b hf i k.val + Scalar.select (sel k) (v ⟨(k.val + W - (W - h)) % W, p1⟩) (v ⟨(k.val + W - h) % W, p2⟩) * sinAt D h b hf i k.val
      = rot D h b hf i u k.val := by
  have hkW := k.isLt
  have hdm : D * (k.val / D) + k.val % D = k.val := Nat.div_add_mod _ _
  have hwd : D * (w / D) + w % D = w := Nat.div_add_mod _ _
  have hml := Nat.mod_lt k.val hD
  have hle : D * (k.val / D) + D ≤ w := by
    have h1 : k.val / D < w / D := by
      rw [Nat.div_lt_iff_lt_mul hD, Nat.div_mul_cancel (Nat.dvd_of_mod_eq_zero hw)]; exact hk
    have h2 := Nat.mul_le_mul_left D h1
    rw [Nat.mul_succ] at h2
    omega
  unfold cosAt sinAt rot
  rw [hsel k]
  by_cases h1 : k.val % D < h
  · simp only [if_pos h1]
    have e1 : (k.val + W - (W - h)) % W = k.val + h := by
      rw [show k.val + W - (W - h) = k.val + h from by omega, Nat.mod_eq_of_lt (by omega)]
    have e2 : v ⟨(k.val + W - (W - h)) % W, p1⟩ = u (k.val + h) := by
      rw [hv ⟨(k.val + W - (W - h)) % W, p1⟩ (by show (k.val + W - (W - h)) % W < w; omega)]
      exact congrArg u e1
    show v k * _ + v ⟨(k.val + W - (W - h)) % W, p1⟩ * _ = _
    rw [e2, hv k hk, mul_neg]
    rfl
  · simp only [if_neg h1]
    by_cases h2 : k.val % D - h < h
    · simp only [if_pos h2]
      have e1 : (k.val + W - h) % W = k.val - h := by
        rw [show k.val + W - h = (k.val - h) + W from by omega, Nat.add_mod_right, Nat.mod_eq_of_lt (by omega)]
      have e2 : v ⟨(k.val + W - h) % W, p2⟩ = u (k.val - h) := by
        rw [hv ⟨(k.val + W - h) % W, p2⟩ (by show (k.val + W - h) % W < w; omega)]
        exact congrArg u e1
      show v k * _ + v ⟨(k.val + W - h) % W, p2⟩ * _ = _
      rw [e2, hv k hk]
    · simp only [if_neg h2]
      rw [mul_zero, add_zero, mul_one, hv k hk]

/-- A finite extended real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ j, IsReal (f j)) : IsReal (∑ j ∈ s, f j) := by
  induction s using Finset.cons_induction with
  | empty => exact ⟨0, by simp⟩
  | cons a s ha ih => obtain ⟨p, hp⟩ := h a; obtain ⟨q, hq⟩ := ih; exact ⟨p + q, by rw [Finset.sum_cons, hp, hq, EReal.coe_add]⟩

theorem IsReal.sub_self {x : EReal} (h : IsReal x) : x - x = 0 := by
  obtain ⟨a, rfl⟩ := h; rw [← EReal.coe_sub, _root_.sub_self]; rfl

theorem f1024 : Ideal.ofBits .f32 1149239296#32 = ((1024 : ℝ) : EReal) := by
  simp [Ideal.ofBits, Ideal.ieee, -EReal.coe_mul]; norm_num

theorem f64 : Ideal.ofBits .f32 1115684864#32 = ((64 : ℝ) : EReal) := by
  simp [Ideal.ofBits, Ideal.ieee, -EReal.coe_mul]; norm_num

theorem f32 : Ideal.ofBits .f32 1107296256#32 = ((32 : ℝ) : EReal) := by
  simp [Ideal.ofBits, Ideal.ieee, -EReal.coe_mul]; norm_num

theorem f64i : Ideal.ofBits .f32 1015021568#32 = ((1 / 64 : ℝ) : EReal) := by
  simp [Ideal.ofBits, Ideal.ieee, -EReal.coe_mul]; norm_num

theorem f32i : Ideal.ofBits .f32 1023410176#32 = ((1 / 32 : ℝ) : EReal) := by
  simp [Ideal.ofBits, Ideal.ieee, -EReal.coe_mul]; norm_num

theorem eps_pos : ∃ r : ℝ, 0 < r ∧ Ideal.ofBits .f32 897988541#32 = (r : EReal) := by
  refine ⟨8796093 * 2 ^ (-43 : ℤ), by positivity, ?_⟩
  simp [Ideal.ofBits, Ideal.ieee, -EReal.coe_mul]

/-- Dividing by a positive real is multiplying by its inverse. -/
theorem div_real (x : EReal) (r : ℝ) (hr : 0 < r) : Ideal.div x (r : EReal) = x * ((1 / r : ℝ) : EReal) := by
  unfold Ideal.div
  rw [if_neg (by intro h; exact hr.ne' (by exact_mod_cast h)), one_div, EReal.coe_inv]

theorem div64 (x : EReal) : x * Ideal.ofBits .f32 1015021568#32 = Ideal.div x (Ideal.ofBits .f32 1115684864#32) := by
  rw [f64i, f64, div_real x 64 (by norm_num)]

theorem div32 (x : EReal) : x * Ideal.ofBits .f32 1023410176#32 = Ideal.div x (Ideal.ofBits .f32 1107296256#32) := by
  rw [f32i, f32, div_real x 32 (by norm_num)]

/-- Finite tokens, gains and weights make every column finite. -/
theorem column_real (x g : Fin 1024 → EReal) (w : Fin 1024 → Fin 4040 → EReal) (hx : ∀ k, IsReal (x k)) (hg : ∀ k, IsReal (g k))
    (hw : ∀ k c, IsReal (w k c)) (c : ℕ) : IsReal (column x g w c) := by
  have hr : IsReal (Ideal.rsqrt (Ideal.div (∑ j, x j * x j) (Ideal.ofBits FTy.f32 1149239296#32) + Ideal.ofBits FTy.f32 897988541#32)) := by
    choose r hr using hx
    have e : (∑ j, x j * x j) = ((∑ j, r j * r j : ℝ) : EReal) := by
      simp only [hr, ← EReal.coe_mul]
      induction (Finset.univ : Finset (Fin 1024)) using Finset.cons_induction with
      | empty => simp
      | cons a s ha ih => rw [Finset.sum_cons, Finset.sum_cons, ih, EReal.coe_add]
    obtain ⟨ε, hε, he⟩ := eps_pos
    have hs : 0 ≤ ∑ j, r j * r j := Finset.sum_nonneg fun j _ => mul_self_nonneg _
    have hp : 0 < (∑ j, r j * r j) * (1 / 1024) + ε := by positivity
    rw [e, f1024, div_real _ 1024 (by norm_num), he, ← EReal.coe_mul, ← EReal.coe_add, Ideal.rsqrt_coe, if_neg (not_lt.mpr hp.le), if_neg hp.ne']
    exact ⟨_, rfl⟩
  unfold column lin
  refine IsReal.sum _ _ fun k => ((hx k).mul hr |>.mul (hg k)).mul ?_
  show IsReal (if h : c < 4040 then w k ⟨c, h⟩ else 0)
  by_cases h : c < 4040
  · rw [dif_pos h]; exact hw k _
  · rw [dif_neg h]; exact ⟨0, rfl⟩

/-- The sum of the columns of one head, picked out of a row of `W` by a matrix of ones and zeros. -/
theorem sum_head (W D w : ℕ) (f : Fin W → EReal) (b : Fin W → EReal) (k : Fin W) (hD : 0 < D) (hw : w % D = 0) (hwW : w ≤ W) (hk : k.val < w)
    (hb : ∀ q, b q = if q.val / D = k.val / D then 1 else 0) (F : ℕ → EReal) (hf : ∀ q : Fin W, q.val < w → f q = F q.val) :
    ∑ q, f q * b q = ∑ x : Fin D, F (k.val / D * D + x.val) := by
  have hle : k.val / D * D + D ≤ w := by
    have h1 : k.val / D < w / D := by
      rw [Nat.div_lt_iff_lt_mul hD, Nat.div_mul_cancel (Nat.dvd_of_mod_eq_zero hw)]; exact hk
    have h2 := Nat.mul_le_mul_right D h1
    rw [Nat.succ_mul, Nat.div_mul_cancel (Nat.dvd_of_mod_eq_zero hw)] at h2
    omega
  let e : Fin D ↪ Fin W := ⟨fun x => ⟨k.val / D * D + x.val, by omega⟩, fun x y h => Fin.ext (by have := congrArg Fin.val h; dsimp only at this; omega)⟩
  have h1 : ∑ x : Fin D, F (k.val / D * D + x.val) = ∑ q ∈ Finset.univ.map e, f q * b q := by
    rw [Finset.sum_map]
    refine Finset.sum_congr rfl fun x _ => ?_
    have hx := x.isLt
    have hq : (e x).val / D = k.val / D := div_head D (k.val / D) x.val hx
    rw [hb (e x), if_pos hq, mul_one, hf (e x) (by show k.val / D * D + x.val < w; omega)]
    rfl
  rw [h1]
  refine (Finset.sum_subset (Finset.subset_univ _) fun q _ hq => ?_).symm
  rw [hb q, if_neg, mul_zero]
  intro hqk
  refine hq (Finset.mem_map.mpr ⟨⟨q.val % D, Nat.mod_lt _ hD⟩, Finset.mem_univ _, Fin.ext ?_⟩)
  show k.val / D * D + q.val % D = q.val
  rw [← hqk, Nat.mul_comm]
  exact Nat.div_add_mod _ _

/-- The kernel's sum of squares in three pieces, the last two of which vanish on finite columns. -/
theorem squares_split (W D w : ℕ) (v : Fin W → EReal) (b : Fin W → EReal) (k : Fin W) (hD : 0 < D) (hw : w % D = 0) (hwW : w ≤ W) (hk : k.val < w)
    (hb : ∀ q, b q = if q.val / D = k.val / D then 1 else 0) (u : ℕ → EReal) (hu : ∀ c, IsReal (u c)) (hv : ∀ q : Fin W, q.val < w → v q = u q.val) :
    (∑ q, v q * v q * b q) + (∑ q, (v q * v q - v q * v q) * b q) + (∑ q, (v q * v q - v q * v q - (v q * v q - v q * v q)) * b q)
      = ∑ x : Fin D, u (k.val / D * D + x.val) * u (k.val / D * D + x.val) := by
  rw [sum_head W D w (fun q => v q * v q) b k hD hw hwW hk hb (fun c => u c * u c) (fun q hq => by rw [hv q hq]),
    sum_head W D w (fun q => v q * v q - v q * v q) b k hD hw hwW hk hb (fun _ => 0) (fun q hq => by rw [hv q hq]; exact ((hu _).mul (hu _)).sub_self),
    sum_head W D w (fun q => v q * v q - v q * v q - (v q * v q - v q * v q)) b k hD hw hwW hk hb (fun _ => 0)
      (fun q hq => by rw [hv q hq, ((hu _).mul (hu _)).sub_self, sub_zero])]
  simp

end Cert.Proof.Proj

end
-- ==== Proof.Proj.Pay.lean ====
/- The projection kernel's block values at real numbers, read at an index: heads turned by their angles, heads scaled to unit
   mean square and turned, and plain columns, each from the products of the block's rows with its columns of weights. -/
module

public import proofs.«01_k».proof.Proof.Proj.Spec
public import proofs.«01_k».proof.Proof.Gen.ProjIdeal.Frame
public import Idealize.ShloMosaic.Lib.Pointwise
public import Idealize.ShloMosaic.Lib.Pipeline.ValueKit

@[expose] public section

set_option maxRecDepth 16384

noncomputable section

namespace Cert.Proof.Proj

open Cert.Proof.Ffn (lin)
open Cert.ProjIdeal Cert.ProjIdeal.Gen Idealize.ShloMosaic Idealize.ShloMosaic.TcCoe Idealize.ShloMosaic.Tactic Idealize.SL.Sem

/-- A column scaled by its head's mean square, the mean square taken by three products with the matrix of heads. -/
theorem normed (D : ℕ) (c db : BitVec 32) (hdiv : ∀ x : EReal, x * Ideal.ofBits .f32 c = Ideal.div x (Ideal.ofBits .f32 db)) (hD : 0 < D) (hw : 320 % D = 0)
    (v : Fin 384 → EReal) (b : Fin 384 → Fin 384 → EReal) (g : Fin 384 → EReal) (u gn : ℕ → EReal) (hu : ∀ c, IsReal (u c))
    (hv : ∀ q : Fin 384, q.val < 320 → v q = u q.val) (hb : ∀ p q : Fin 384, b p q = if p.val / D = q.val / D then (1 : EReal) else 0)
    (hg : ∀ q : Fin 384, q.val < 320 → g q = gn (q.val % D)) (q : Fin 384) (hq : q.val < 320) :
    v q * Ideal.rsqrt (((∑ p, v p * v p * b p q) + (∑ p, (v p * v p - v p * v p) * b p q)
        + (∑ p, (v p * v p - v p * v p - (v p * v p - v p * v p)) * b p q)) * Ideal.ofBits .f32 c + Ideal.ofBits .f32 897988541#32) * g q
      = unit D db u gn q.val := by
  rw [squares_split 384 D 320 v (fun p => b p q) q hD hw (by omega) hq (fun p => hb p q) u hu hv, hdiv, hg q hq, hv q hq]
  rfl

theorem sel32 : ∀ k : Fin 384, IntOp.cmpi CmpIPredicate.slt (IntOp.andi (BitVec.ofNat 32 k.val) 63#32) 32#32 = if k.val % 64 < 32 then 1#1 else 0#1 := by decide +kernel
theorem sel8 : ∀ k : Fin 512, IntOp.cmpi CmpIPredicate.slt (IntOp.andi (BitVec.ofNat 32 k.val) 63#32) 8#32 = if k.val % 64 < 8 then 1#1 else 0#1 := by decide +kernel
theorem sel4 : ∀ k : Fin 384, IntOp.cmpi CmpIPredicate.slt (IntOp.andi (BitVec.ofNat 32 k.val) 31#32) 4#32 = if k.val % 32 < 4 then 1#1 else 0#1 := by decide +kernel

/-- The product of a row with a column of weights. -/
abbrev prod {n : ℕ} (h : Vec Ideal S320x1024 .bf16) (w : Vec Ideal (⟨2, ![1024, n]⟩ : Shape) .bf16) (r : Fin 320) (q : Fin n) : EReal :=
  ∑ x : Fin 1024, h (ix2 r x) * w (ix2 x q)

variable (h : Vec Ideal S320x1024 .bf16) (r : Fin 320) (i : ℕ) (u gn : ℕ → EReal)

theorem rows_of (x0 : Vec Ideal S320x1024 .f32) (x1 : Vec Ideal S1x1024 .f32) (w : Vec Ideal S1024x384 .bf16) (f : Fin 384) :
    (prod (n := 384) (k0_pay5 x0 x1) w r f : EReal) = lin (fun k => x0 (ix2 r k)) (fun k => x1 (ix2 0 k)) (fun k => w (ix2 k f)) := by
  unfold prod lin
  refine Finset.sum_congr rfl fun k _ => ?_
  refine congrArg (· * w (ix2 k f)) ?_
  unfold_payloads
  pointwise []

theorem rq_of (x0 : Vec Ideal S320x1024 .f32) (x1 : Vec Ideal S1x1024 .f32) (w : Vec Ideal S1024x384 .bf16) (cs sn : Vec Ideal S320x384 .f32)
    (hv : ∀ q : Fin 384, prod (k0_pay5 x0 x1) w r q = u q.val) (k : Fin 384) (hc : (cs (ix2 r k) : EReal) = cosAt 64 32 3239271822#32 1107296256#32 i k.val) (hs : (sn (ix2 r k) : EReal) = sinAt 64 32 3239271822#32 1107296256#32 i k.val) :
    (k0_pay6 x0 x1 w cs sn (ix2 r k) : EReal) = rot 64 32 3239271822#32 1107296256#32 i u k.val := by
  unfold k0_pay6
  generalize k0_pay5 x0 x1 = h at hv ⊢
  pointwise []
  rw [hc, hs]
  exact rot_rolled 384 64 32 384 _ _ i _ (prod h w r) u sel32 (by omega) rfl (by omega) (by omega) (fun q _ => hv q) k k.isLt _ _

theorem rk_of (w : Vec Ideal S1024x384 .bf16) (cs sn : Vec Ideal S320x384 .f32)
    (hv : ∀ q : Fin 384, prod h w r q = u q.val) (k : Fin 384) (hc : (cs (ix2 r k) : EReal) = cosAt 64 32 3239271822#32 1107296256#32 i k.val) (hs : (sn (ix2 r k) : EReal) = sinAt 64 32 3239271822#32 1107296256#32 i k.val) :
    (k0_pay7 h w cs sn (ix2 r k) : EReal) = rot 64 32 3239271822#32 1107296256#32 i u k.val * Ideal.ofBits FTy.f32 1040187392#32 := by
  unfold_payloads
  pointwise []
  rw [hc, hs]
  exact congrArg (· * _) (rot_rolled 384 64 32 384 _ _ i _ (prod h w r) u sel32 (by omega) rfl (by omega) (by omega) (fun q _ => hv q) k k.isLt _ _)

theorem rv_of (w : Vec Ideal S1024x384 .bf16) (k : Fin 384) : (k0_pay8 h w (ix2 r k) : EReal) = prod h w r k := by
  unfold_payloads
  pointwise []

theorem rg_of (w : Vec Ideal S1024x384 .bf16) (k : Fin 384) : (k0_pay9 h w (ix2 r k) : EReal) = prod h w r k := by
  unfold_payloads
  pointwise []

theorem bv_of (w : Vec Ideal S1024x384 .bf16) (k : Fin 320) : (k0_pay23 h (k0_pay22 w) (ix2 r k) : EReal) = prod h w r ⟨k.val, by omega⟩ := by
  unfold_payloads
  pointwise []

theorem cv_of (w : Vec Ideal S1024x384 .bf16) (k : Fin 320) : (k0_pay4 h w (ix2 r k) : EReal) = prod h w r ⟨k.val, by omega⟩ := by
  unfold_payloads
  pointwise []

theorem iw_of (w : Vec Ideal S1024x128 .bf16) (k : Fin 8) : (k0_pay28 h w (ix2 r k) : EReal) = prod h w r ⟨k.val, by omega⟩ * Ideal.ofBits FTy.f32 1026884851#32 := by
  unfold_payloads
  pointwise []

theorem iq_of (w : Vec Ideal S1024x512 .bf16) (cs sn : Vec Ideal S320x512 .f32)
    (hv : ∀ q : Fin 512, prod h w r q = u q.val) (k : Fin 512) (hc : (cs (ix2 r k) : EReal) = cosAt 64 8 3243373875#32 1090519040#32 i k.val) (hs : (sn (ix2 r k) : EReal) = sinAt 64 8 3243373875#32 1090519040#32 i k.val) :
    (k0_pay24 h w cs sn (ix2 r k) : EReal) = rot 64 8 3243373875#32 1090519040#32 i u k.val := by
  unfold_payloads
  pointwise []
  rw [hc, hs]
  exact rot_rolled 512 64 8 512 _ _ i _ (prod h w r) u sel8 (by omega) rfl (by omega) (by omega) (fun q _ => hv q) k k.isLt _ _

theorem ik_of (w : Vec Ideal S1024x128 .bf16) (cs sn : Vec Ideal S320x128 .f32)
    (hv : ∀ q : Fin 128, q.val < 64 → prod h w r q = u q.val) (k : Fin 64) (hc : (cs (ix2 r ⟨k.val, by omega⟩) : EReal) = cosAt 64 8 3243373875#32 1090519040#32 i k.val) (hs : (sn (ix2 r ⟨k.val, by omega⟩) : EReal) = sinAt 64 8 3243373875#32 1090519040#32 i k.val) :
    (k0_pay27 (k0_pay25 h w) (k0_pay26 h w) cs sn (ix2 r k) : EReal) = rot 64 8 3243373875#32 1090519040#32 i u k.val := by
  unfold_payloads
  pointwise []
  rw [hc, hs]
  exact rot_rolled 128 64 8 64 _ _ i _ (prod h w r) u (fun q => sel8 ⟨q.val, by omega⟩) (by omega) rfl (by omega) (by omega) hv ⟨k.val, by omega⟩ k.isLt _ _

set_option maxHeartbeats 1000000 in
theorem bq_of (w : Vec Ideal S1024x384 .bf16) (b : Vec Ideal S384x384 .bf16) (g : Vec Ideal S1x384 .f32) (cs sn : Vec Ideal S320x384 .f32) (hu : ∀ c, IsReal (u c))
    (hv : ∀ q : Fin 384, q.val < 320 → prod h w r q = u q.val) (hb : ∀ p q : Fin 384, (b (ix2 p q) : EReal) = if p.val / 64 = q.val / 64 then (1 : EReal) else 0)
    (hg : ∀ q : Fin 384, q.val < 320 → (g (ix2 0 q) : EReal) = gn (q.val % 64)) (k : Fin 320)
    (hc : (cs (ix2 r ⟨k.val, by omega⟩) : EReal) = cosAt 64 8 3243373875#32 1090519040#32 i k.val) (hs : (sn (ix2 r ⟨k.val, by omega⟩) : EReal) = sinAt 64 8 3243373875#32 1090519040#32 i k.val) :
    (k0_pay11 h (k0_pay10 b) w g cs sn (ix2 r k) : EReal) = rot 64 8 3243373875#32 1090519040#32 i (unit 64 1115684864#32 u gn) k.val := by
  unfold_payloads
  pointwise []
  rw [hc, hs]
  exact rot_rolled 384 64 8 320 _ _ i _ _ (unit 64 1115684864#32 u gn) (fun q => sel8 ⟨q.val, by omega⟩) (by omega) rfl (by omega) (by omega)
    (normed 64 1015021568#32 1115684864#32 div64 (by omega) rfl (prod h w r) (fun p q => b (ix2 p q)) (fun q => g (ix2 0 q)) u gn hu hv hb hg) ⟨k.val, by omega⟩ k.isLt _ _

set_option maxHeartbeats 1000000 in
theorem bk_of (w : Vec Ideal S1024x384 .bf16) (b : Vec Ideal S384x384 .bf16) (g : Vec Ideal S1x384 .f32) (cs sn : Vec Ideal S320x384 .f32) (hu : ∀ c, IsReal (u c))
    (hv : ∀ q : Fin 384, q.val < 320 → prod h w r q = u q.val) (hb : ∀ p q : Fin 384, (b (ix2 p q) : EReal) = if p.val / 64 = q.val / 64 then (1 : EReal) else 0)
    (hg : ∀ q : Fin 384, q.val < 320 → (g (ix2 0 q) : EReal) = gn (q.val % 64)) (k : Fin 320)
    (hc : (cs (ix2 r ⟨k.val, by omega⟩) : EReal) = cosAt 64 8 3243373875#32 1090519040#32 i k.val) (hs : (sn (ix2 r ⟨k.val, by omega⟩) : EReal) = sinAt 64 8 3243373875#32 1090519040#32 i k.val) :
    (k0_pay16 (k0_pay13 h (k0_pay10 b) w g cs) (k0_pay14 h (k0_pay10 b) w g sn) (ix2 r k) : EReal) = rot 64 8 3243373875#32 1090519040#32 i (unit 64 1115684864#32 u gn) k.val := by
  unfold_payloads
  pointwise []
  rw [hc, hs]
  exact rot_rolled 384 64 8 320 _ _ i _ _ (unit 64 1115684864#32 u gn) (fun q => sel8 ⟨q.val, by omega⟩) (by omega) rfl (by omega) (by omega)
    (normed 64 1015021568#32 1115684864#32 div64 (by omega) rfl (prod h w r) (fun p q => b (ix2 p q)) (fun q => g (ix2 0 q)) u gn hu hv hb hg) ⟨k.val, by omega⟩ k.isLt _ _

set_option maxHeartbeats 1000000 in
theorem cq_of (w : Vec Ideal S1024x384 .bf16) (b : Vec Ideal S384x384 .bf16) (g : Vec Ideal S1x384 .f32) (cs sn : Vec Ideal S320x384 .f32) (hu : ∀ c, IsReal (u c))
    (hv : ∀ q : Fin 384, q.val < 320 → prod h w r q = u q.val) (hb : ∀ p q : Fin 384, (b (ix2 p q) : EReal) = if p.val / 32 = q.val / 32 then (1 : EReal) else 0)
    (hg : ∀ q : Fin 384, q.val < 320 → (g (ix2 0 q) : EReal) = gn (q.val % 32)) (k : Fin 320)
    (hc : (cs (ix2 r ⟨k.val, by omega⟩) : EReal) = cosAt 32 4 3243373875#32 1082130432#32 i k.val) (hs : (sn (ix2 r ⟨k.val, by omega⟩) : EReal) = sinAt 32 4 3243373875#32 1082130432#32 i k.val) :
    (k0_pay32 (k0_pay30 h w) (k0_pay31 h b w) g cs sn (ix2 r k) : EReal) = rot 32 4 3243373875#32 1082130432#32 i (unit 32 1107296256#32 u gn) k.val := by
  unfold_payloads
  pointwise []
  rw [hc, hs]
  exact rot_rolled 384 32 4 320 _ _ i _ _ (unit 32 1107296256#32 u gn) sel4 (by omega) rfl (by omega) (by omega)
    (normed 32 1023410176#32 1107296256#32 div32 (by omega) rfl (prod h w r) (fun p q => b (ix2 p q)) (fun q => g (ix2 0 q)) u gn hu hv hb hg) ⟨k.val, by omega⟩ k.isLt _ _

set_option maxHeartbeats 1000000 in
theorem ck_of (w : Vec Ideal S1024x384 .bf16) (b : Vec Ideal S384x384 .bf16) (g : Vec Ideal S1x384 .f32) (cs sn : Vec Ideal S320x384 .f32) (hu : ∀ c, IsReal (u c))
    (hv : ∀ q : Fin 384, q.val < 320 → prod h w r q = u q.val) (hb : ∀ p q : Fin 384, (b (ix2 p q) : EReal) = if p.val / 32 = q.val / 32 then (1 : EReal) else 0)
    (hg : ∀ q : Fin 384, q.val < 320 → (g (ix2 0 q) : EReal) = gn (q.val % 32)) (k : Fin 320)
    (hc : (cs (ix2 r ⟨k.val, by omega⟩) : EReal) = cosAt 32 4 3243373875#32 1082130432#32 i k.val) (hs : (sn (ix2 r ⟨k.val, by omega⟩) : EReal) = sinAt 32 4 3243373875#32 1082130432#32 i k.val) :
    (k0_pay37 (k0_pay33 h w) (k0_pay34 h (k0_pay29 b) w) k0_pay35 g cs sn (ix2 r k) : EReal) = rot 32 4 3243373875#32 1082130432#32 i (unit 32 1107296256#32 u gn) k.val := by
  unfold_payloads
  pointwise []
  rw [hc, hs]
  exact rot_rolled 384 32 4 320 _ _ i _ _ (unit 32 1107296256#32 u gn) sel4 (by omega) rfl (by omega) (by omega)
    (normed 32 1023410176#32 1107296256#32 div32 (by omega) rfl (prod h w r) (fun p q => b (ix2 p q)) (fun q => g (ix2 0 q)) u gn hu hv hb hg) ⟨k.val, by omega⟩ k.isLt _ _

end Cert.Proof.Proj

end
-- ==== Proof.Proj.Host.lean ====
/- The arrays the projection kernel is launched on, read at an index: the rows of tokens, the columns of weights laid out in
   padded groups, the tiled gains, the matrices that pick out a head's columns, and the cosine and sine tables. -/
module

public import proofs.«01_k».proof.Proof.Proj.Spec
public import proofs.«01_k».proof.Proof.Gen.ProjIdeal.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Proj

open Cert.ProjIdeal Cert.ProjIdeal.Gen Idealize.ShloMosaic Idealize.ShloMosaic.TcCoe Idealize.ShloMosaic.Tactic Idealize.SL.Sem

variable (m : (ℓ : Loc nD τ sig) → Buf (Elt Ideal) ℓ) (c : Dev nD)

theorem x_at (i : Fin 16640) (k : Fin 1024) : (V m c main_v199 (ix2 i k) : EReal)
    = m ((c : Thread nD τ).loc main_arg0) (ix3 ⟨i.val / 8320, by omega⟩ ⟨i.val % 8320, by omega⟩ k) := by
  unfold V
  after_reads_at

theorem scale_at (k : Fin 1024) : (V m c main_v50 (ix2 0 k) : EReal) = m ((c : Thread nD τ).loc main_arg1) (ix1 k) := by
  unfold V
  after_reads_at

set_option maxHeartbeats 2000000 in
theorem w_rq (k : Fin 1024) (j : Fin 384) : (V m c main_v27 (ix2 k ⟨0 + j.val, by omega⟩) : EReal)
    = m ((c : Thread nD τ).loc main_arg2) (ix2 k ⟨0 + j.val, by omega⟩) := by
  have hj := j.isLt
  unfold V
  after_reads_at
  after_reads_at

set_option maxHeartbeats 2000000 in
theorem w_rk (k : Fin 1024) (j : Fin 384) : (V m c main_v27 (ix2 k ⟨384 + j.val, by omega⟩) : EReal)
    = m ((c : Thread nD τ).loc main_arg2) (ix2 k ⟨384 + j.val, by omega⟩) := by
  have hj := j.isLt
  unfold V
  after_reads_at
  after_reads_at

set_option maxHeartbeats 2000000 in
theorem w_rv (k : Fin 1024) (j : Fin 384) : (V m c main_v27 (ix2 k ⟨768 + j.val, by omega⟩) : EReal)
    = m ((c : Thread nD τ).loc main_arg2) (ix2 k ⟨768 + j.val, by omega⟩) := by
  have hj := j.isLt
  unfold V
  after_reads_at
  rw [dif_neg (by omega), dif_neg (by omega), dif_pos (by omega)]
  after_reads_at
  rw [dif_pos (by omega)]
  exact congrArg (fun z => m ((c : Thread nD τ).loc main_arg2) (ix2 k z)) (Fin.ext (by show 768 + (768 + j.val - 384 - 384) = 768 + j.val; omega))

set_option maxHeartbeats 2000000 in
theorem w_rg (k : Fin 1024) (j : Fin 384) : (V m c main_v27 (ix2 k ⟨1152 + j.val, by omega⟩) : EReal)
    = m ((c : Thread nD τ).loc main_arg2) (ix2 k ⟨1152 + j.val, by omega⟩) := by
  have hj := j.isLt
  unfold V
  after_reads_at
  rw [dif_neg (by omega), dif_neg (by omega), dif_neg (by omega), dif_pos (by omega)]
  after_reads_at
  rw [dif_pos (by omega)]
  exact congrArg (fun z => m ((c : Thread nD τ).loc main_arg2) (ix2 k z)) (Fin.ext (by show 1152 + (1152 + j.val - 384 - 384 - 384) = 1152 + j.val; omega))

set_option maxHeartbeats 2000000 in
theorem w_bq (k : Fin 1024) (j : Fin 320) : (V m c main_v27 (ix2 k ⟨1536 + j.val, by omega⟩) : EReal)
    = m ((c : Thread nD τ).loc main_arg2) (ix2 k ⟨1536 + j.val, by omega⟩) := by
  have hj := j.isLt
  unfold V
  after_reads_at
  rw [dif_neg (by omega), dif_neg (by omega), dif_neg (by omega), dif_neg (by omega), dif_pos (by omega)]
  after_reads_at
  rw [dif_pos (by omega)]
  exact congrArg (fun z => m ((c : Thread nD τ).loc main_arg2) (ix2 k z)) (Fin.ext (by show 1536 + (1536 + j.val - 384 - 384 - 384 - 384) = 1536 + j.val; omega))

set_option maxHeartbeats 2000000 in
theorem w_bk (k : Fin 1024) (j : Fin 320) : (V m c main_v27 (ix2 k ⟨1920 + j.val, by omega⟩) : EReal)
    = m ((c : Thread nD τ).loc main_arg2) (ix2 k ⟨1856 + j.val, by omega⟩) := by
  have hj := j.isLt
  unfold V
  after_reads_at
  rw [dif_neg (by omega), dif_neg (by omega), dif_neg (by omega), dif_neg (by omega), dif_neg (by omega), dif_pos (by omega)]
  after_reads_at
  rw [dif_pos (by omega)]
  exact congrArg (fun z => m ((c : Thread nD τ).loc main_arg2) (ix2 k z)) (Fin.ext (by show 1856 + (1920 + j.val - 384 - 384 - 384 - 384 - 384) = 1856 + j.val; omega))

set_option maxHeartbeats 2000000 in
theorem w_bv (k : Fin 1024) (j : Fin 320) : (V m c main_v27 (ix2 k ⟨2304 + j.val, by omega⟩) : EReal)
    = m ((c : Thread nD τ).loc main_arg2) (ix2 k ⟨2176 + j.val, by omega⟩) := by
  have hj := j.isLt
  unfold V
  after_reads_at
  rw [dif_neg (by omega), dif_neg (by omega), dif_neg (by omega), dif_neg (by omega), dif_neg (by omega), dif_neg (by omega), dif_pos (by omega)]
  after_reads_at
  rw [dif_pos (by omega)]
  exact congrArg (fun z => m ((c : Thread nD τ).loc main_arg2) (ix2 k z)) (Fin.ext (by show 2176 + (2304 + j.val - 384 - 384 - 384 - 384 - 384 - 384) = 2176 + j.val; omega))

set_option maxHeartbeats 2000000 in
theorem w_iq (k : Fin 1024) (j : Fin 512) : (V m c main_v27 (ix2 k ⟨2688 + j.val, by omega⟩) : EReal)
    = m ((c : Thread nD τ).loc main_arg2) (ix2 k ⟨2496 + j.val, by omega⟩) := by
  have hj := j.isLt
  unfold V
  after_reads_at
  rw [dif_neg (by omega), dif_neg (by omega), dif_neg (by omega), dif_neg (by omega), dif_neg (by omega), dif_neg (by omega), dif_neg (by omega), dif_pos (by omega)]
  after_reads_at
  rw [dif_pos (by omega)]
  exact congrArg (fun z => m ((c : Thread nD τ).loc main_arg2) (ix2 k z)) (Fin.ext (by show 2496 + (2688 + j.val - 384 - 384 - 384 - 384 - 384 - 384 - 384) = 2496 + j.val; omega))

set_option maxHeartbeats 2000000 in
theorem w_ik (k : Fin 1024) (j : Fin 64) : (V m c main_v27 (ix2 k ⟨3200 + j.val, by omega⟩) : EReal)
    = m ((c : Thread nD τ).loc main_arg2) (ix2 k ⟨3008 + j.val, by omega⟩) := by
  have hj := j.isLt
  unfold V
  after_reads_at
  rw [dif_neg (by omega), dif_neg (by omega), dif_neg (by omega), dif_neg (by omega), dif_neg (by omega), dif_neg (by omega), dif_neg (by omega), dif_neg (by omega), dif_pos (by omega)]
  after_reads_at
  rw [dif_pos (by omega)]
  exact congrArg (fun z => m ((c : Thread nD τ).loc main_arg2) (ix2 k z)) (Fin.ext (by show 3008 + (3200 + j.val - 384 - 384 - 384 - 384 - 384 - 384 - 384 - 512) = 3008 + j.val; omega))

set_option maxHeartbeats 2000000 in
theorem w_iw (k : Fin 1024) (j : Fin 8) : (V m c main_v27 (ix2 k ⟨3328 + j.val, by omega⟩) : EReal)
    = m ((c : Thread nD τ).loc main_arg2) (ix2 k ⟨3072 + j.val, by omega⟩) := by
  have hj := j.isLt
  unfold V
  after_reads_at
  rw [dif_neg (by omega), dif_neg (by omega), dif_neg (by omega), dif_neg (by omega), dif_neg (by omega), dif_neg (by omega), dif_neg (by omega), dif_neg (by omega), dif_neg (by omega), dif_pos (by omega)]
  after_reads_at
  rw [dif_pos (by omega)]
  exact congrArg (fun z => m ((c : Thread nD τ).loc main_arg2) (ix2 k z)) (Fin.ext (by show 3072 + (3328 + j.val - 384 - 384 - 384 - 384 - 384 - 384 - 384 - 512 - 128) = 3072 + j.val; omega))

set_option maxHeartbeats 2000000 in
theorem w_cq (k : Fin 1024) (j : Fin 320) : (V m c main_v27 (ix2 k ⟨3456 + j.val, by omega⟩) : EReal)
    = m ((c : Thread nD τ).loc main_arg2) (ix2 k ⟨3080 + j.val, by omega⟩) := by
  have hj := j.isLt
  unfold V
  after_reads_at
  rw [dif_neg (by omega), dif_neg (by omega), dif_neg (by omega), dif_neg (by omega), dif_neg (by omega), dif_neg (by omega), dif_neg (by omega), dif_neg (by omega), dif_neg (by omega), dif_neg (by omega), dif_pos (by omega)]
  after_reads_at
  rw [dif_pos (by omega)]
  exact congrArg (fun z => m ((c : Thread nD τ).loc main_arg2) (ix2 k z)) (Fin.ext (by show 3080 + (3456 + j.val - 384 - 384 - 384 - 384 - 384 - 384 - 384 - 512 - 128 - 128) = 3080 + j.val; omega))

set_option maxHeartbeats 2000000 in
theorem w_ck (k : Fin 1024) (j : Fin 320) : (V m c main_v27 (ix2 k ⟨3840 + j.val, by omega⟩) : EReal)
    = m ((c : Thread nD τ).loc main_arg2) (ix2 k ⟨3400 + j.val, by omega⟩) := by
  have hj := j.isLt
  unfold V
  after_reads_at
  rw [dif_neg (by omega), dif_neg (by omega), dif_neg (by omega), dif_neg (by omega), dif_neg (by omega), dif_neg (by omega), dif_neg (by omega), dif_neg (by omega), dif_neg (by omega), dif_neg (by omega), dif_neg (by omega), dif_pos (by omega)]
  after_reads_at
  rw [dif_pos (by omega)]
  exact congrArg (fun z => m ((c : Thread nD τ).loc main_arg2) (ix2 k z)) (Fin.ext (by show 3400 + (3840 + j.val - 384 - 384 - 384 - 384 - 384 - 384 - 384 - 512 - 128 - 128 - 384) = 3400 + j.val; omega))

set_option maxHeartbeats 2000000 in
theorem w_cv (k : Fin 1024) (j : Fin 320) : (V m c main_v27 (ix2 k ⟨4224 + j.val, by omega⟩) : EReal)
    = m ((c : Thread nD τ).loc main_arg2) (ix2 k ⟨3720 + j.val, by omega⟩) := by
  have hj := j.isLt
  unfold V
  after_reads_at
  rw [dif_neg (by omega), dif_neg (by omega), dif_neg (by omega), dif_neg (by omega), dif_neg (by omega), dif_neg (by omega), dif_neg (by omega), dif_neg (by omega), dif_neg (by omega), dif_neg (by omega), dif_neg (by omega), dif_neg (by omega)]
  after_reads_at
  rw [dif_pos (by omega)]
  exact congrArg (fun z => m ((c : Thread nD τ).loc main_arg2) (ix2 k z)) (Fin.ext (by show 3720 + (4224 + j.val - 384 - 384 - 384 - 384 - 384 - 384 - 384 - 512 - 128 - 128 - 384 - 384) = 3720 + j.val; omega))

theorem gain_bq (k : Fin 320) : (V m c main_v49 (ix2 0 ⟨k.val, by omega⟩) : EReal) = gain (m ((c : Thread nD τ).loc main_arg3)) (k.val % 64) := by
  have hk := k.isLt
  refine Eq.trans ?_ (gain_at (m ((c : Thread nD τ).loc main_arg3)) ⟨k.val % 64, Nat.mod_lt _ (by omega)⟩)
  unfold V
  after_reads_at
  after_reads_at

theorem gain_bk (k : Fin 320) : (V m c main_v49 (ix2 1 ⟨k.val, by omega⟩) : EReal) = gain (m ((c : Thread nD τ).loc main_arg4)) (k.val % 64) := by
  have hk := k.isLt
  refine Eq.trans ?_ (gain_at (m ((c : Thread nD τ).loc main_arg4)) ⟨k.val % 64, Nat.mod_lt _ (by omega)⟩)
  unfold V
  after_reads_at
  after_reads_at

theorem gain_cq (k : Fin 320) : (V m c main_v49 (ix2 2 ⟨k.val, by omega⟩) : EReal) = gain (m ((c : Thread nD τ).loc main_arg5)) (k.val % 32) := by
  have hk := k.isLt
  refine Eq.trans ?_ (gain_at (m ((c : Thread nD τ).loc main_arg5)) ⟨k.val % 32, Nat.mod_lt _ (by omega)⟩)
  unfold V
  after_reads_at
  after_reads_at

theorem gain_ck (k : Fin 320) : (V m c main_v49 (ix2 3 ⟨k.val, by omega⟩) : EReal) = gain (m ((c : Thread nD τ).loc main_arg6)) (k.val % 32) := by
  have hk := k.isLt
  refine Eq.trans ?_ (gain_at (m ((c : Thread nD τ).loc main_arg6)) ⟨k.val % 32, Nat.mod_lt _ (by omega)⟩)
  unfold V
  after_reads_at
  after_reads_at

theorem uitofp_bit (b : BitVec 1) : (FloatOps.uitofp FTy.bf16 b : Ideal .bf16) = if b = 1#1 then (1 : EReal) else 0 := by
  revert b
  intro b
  rcases BitVec.eq_zero_or_eq_one b with h | h
  · rw [h, if_neg (by decide)]
    show (((0#1).toNat : ℝ) : EReal) = 0
    simp
  · rw [h, if_pos rfl]
    show (((1#1).toNat : ℝ) : EReal) = 1
    simp

/-- The floor division of a column number by a group's width, as the host computes it. -/
abbrev group (d x : BitVec 32) : BitVec 32 :=
  Scalar.select
    (IntOp.andi
      (IntOp.cmpi CmpIPredicate.ne (if x = 0 then (0 : BitVec 32) else if x.msb = true then -1 else 1) (if d = 0 then (0 : BitVec 32) else if d.msb = true then -1 else 1))
      (IntOp.cmpi CmpIPredicate.ne (IntOp.remsi ArithUnit.host x d) 0#32))
    (IntOp.subi (IntOp.divsi ArithUnit.host x d) 1#32)
    (IntOp.divsi ArithUnit.host x d)

theorem group64 : ∀ k : Fin 384, group 64#32 (BitVec.ofNat 32 k.val) = BitVec.ofNat 32 (k.val / 64) := by decide +kernel

theorem group32 : ∀ k : Fin 384, group 32#32 (BitVec.ofNat 32 k.val) = BitVec.ofNat 32 (k.val / 32) := by decide +kernel

theorem same_group (D : ℕ) (q k : Fin 384) : IntOp.cmpi CmpIPredicate.eq (BitVec.ofNat 32 (q.val / D)) (BitVec.ofNat 32 (k.val / D)) = 1#1 ↔ q.val / D = k.val / D := by
  have h1 : q.val / D ≤ q.val := Nat.div_le_self _ _
  have h2 : k.val / D ≤ k.val := Nat.div_le_self _ _
  have h3 := q.isLt
  have h4 := k.isLt
  generalize q.val / D = a at h1 ⊢
  generalize k.val / D = b at h2 ⊢
  show BitVec.ofBool (BitVec.ofNat 32 a == BitVec.ofNat 32 b) = 1#1 ↔ _
  constructor
  · intro h
    by_contra hn
    rw [beq_eq_false_iff_ne.mpr (fun e => hn (by have := congrArg BitVec.toNat e; simp only [BitVec.toNat_ofNat] at this; omega))] at h
    exact absurd h (by decide)
  · intro h
    rw [h]
    simp

theorem b64_at (q k : Fin 384) : (V m c main_v58 (ix2 q k) : EReal) = if q.val / 64 = k.val / 64 then (1 : EReal) else 0 := by
  unfold V
  after_reads_at
  refine (uitofp_bit _).trans ?_
  refine if_congr (Iff.trans (Eq.to_iff (congrArg (· = 1#1) (congrArg₂ (IntOp.cmpi CmpIPredicate.eq) (group64 q) (group64 k)))) (same_group 64 q k)) rfl rfl

theorem b32_at (q k : Fin 384) : (V m c main_v66 (ix2 q k) : EReal) = if q.val / 32 = k.val / 32 then (1 : EReal) else 0 := by
  unfold V
  after_reads_at
  refine (uitofp_bit _).trans ?_
  refine if_congr (Iff.trans (Eq.to_iff (congrArg (· = 1#1) (congrArg₂ (IntOp.cmpi CmpIPredicate.eq) (group32 q) (group32 k)))) (same_group 32 q k)) rfl rfl

end Cert.Proof.Proj

end
-- ==== Proof.Proj.Table.lean ====
/- The arrays the projection kernel is launched on, read at an index: the rows of tokens, the columns of weights laid out in
   padded groups, the tiled gains, the matrices that pick out a head's columns, and the cosine and sine tables. -/
module

public import proofs.«01_k».proof.Proof.Proj.Spec
public import proofs.«01_k».proof.Proof.Gen.ProjIdeal.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Proj

open Cert.ProjIdeal Cert.ProjIdeal.Gen Idealize.ShloMosaic Idealize.ShloMosaic.TcCoe Idealize.ShloMosaic.Tactic Idealize.SL.Sem

variable (m : (ℓ : Loc nD τ sig) → Buf (Elt Ideal) ℓ) (c : Dev nD)

set_option maxHeartbeats 4000000 in
theorem cos_ret (i : Fin 8320) (k : Fin 384) : (V m c main_v198 (ix2 i ⟨0 + k.val, by omega⟩) : EReal)
    = cosAt 64 32 3239271822#32 1107296256#32 i.val k.val := by
  have hk := k.isLt
  unfold V
  after_reads_at
  after_reads_at
  by_cases h1 : k.val % 64 < 32
  · rewrite [dif_pos (by omega)]
    refine Eq.trans ?_ (cos_lo h1).symm
    after_reads_at
    rfl
  by_cases h2 : k.val % 64 - 32 < 32
  · rewrite [dif_neg (by omega), dif_pos (by omega)]
    refine Eq.trans ?_ (cos_hi h1 h2).symm
    after_reads_at
    rfl
  · exfalso
    omega

set_option maxHeartbeats 4000000 in
theorem sin_ret (i : Fin 8320) (k : Fin 384) : (V m c main_v198 (ix2 i ⟨384 + k.val, by omega⟩) : EReal)
    = sinAt 64 32 3239271822#32 1107296256#32 i.val k.val := by
  have hk := k.isLt
  unfold V
  after_reads_at
  after_reads_at
  by_cases h1 : k.val % 64 < 32
  · rewrite [dif_pos (by omega)]
    refine Eq.trans ?_ (sin_lo h1).symm
    after_reads_at
    rfl
  by_cases h2 : k.val % 64 - 32 < 32
  · rewrite [dif_neg (by omega), dif_pos (by omega)]
    refine Eq.trans ?_ (sin_hi h1 h2).symm
    after_reads_at
    rfl
  · exfalso
    omega

set_option maxHeartbeats 4000000 in
theorem cos_dsa (i : Fin 8320) (k : Fin 320) : (V m c main_v198 (ix2 i ⟨768 + k.val, by omega⟩) : EReal)
    = cosAt 64 8 3243373875#32 1090519040#32 i.val k.val := by
  have hk := k.isLt
  have ek : 768 + k.val - 384 - 384 = k.val := by omega
  unfold V
  after_reads_at
  rewrite [dif_neg (by omega), dif_neg (by omega), dif_pos (by omega)]
  after_reads_at
  rewrite [dif_pos (by omega)]
  by_cases h1 : k.val % 64 < 8
  · rewrite [dif_pos (by omega)]
    refine Eq.trans ?_ (cos_lo h1).symm
    after_reads_at
    rewrite [ek]
    rfl
  by_cases h2 : k.val % 64 - 8 < 8
  · rewrite [dif_neg (by omega), dif_pos (by omega)]
    refine Eq.trans ?_ (cos_hi h1 h2).symm
    after_reads_at
    rewrite [ek]
    rfl
  · rewrite [dif_neg (by omega), dif_neg (by omega)]
    refine Eq.trans ?_ (cos_rest h1 h2).symm
    after_reads_at

set_option maxHeartbeats 4000000 in
theorem sin_dsa (i : Fin 8320) (k : Fin 320) : (V m c main_v198 (ix2 i ⟨1152 + k.val, by omega⟩) : EReal)
    = sinAt 64 8 3243373875#32 1090519040#32 i.val k.val := by
  have hk := k.isLt
  have ek : 1152 + k.val - 384 - 384 - 384 = k.val := by omega
  unfold V
  after_reads_at
  rewrite [dif_neg (by omega), dif_neg (by omega), dif_neg (by omega), dif_pos (by omega)]
  after_reads_at
  rewrite [dif_pos (by omega)]
  by_cases h1 : k.val % 64 < 8
  · rewrite [dif_pos (by omega)]
    refine Eq.trans ?_ (sin_lo h1).symm
    after_reads_at
    rewrite [ek]
    rfl
  by_cases h2 : k.val % 64 - 8 < 8
  · rewrite [dif_neg (by omega), dif_pos (by omega)]
    refine Eq.trans ?_ (sin_hi h1 h2).symm
    after_reads_at
    rewrite [ek]
    rfl
  · rewrite [dif_neg (by omega), dif_neg (by omega)]
    refine Eq.trans ?_ (sin_rest h1 h2).symm
    after_reads_at

set_option maxHeartbeats 4000000 in
theorem cos_idx (i : Fin 8320) (k : Fin 512) : (V m c main_v198 (ix2 i ⟨1536 + k.val, by omega⟩) : EReal)
    = cosAt 64 8 3243373875#32 1090519040#32 i.val k.val := by
  have hk := k.isLt
  have ek : 1536 + k.val - 384 - 384 - 384 - 384 = k.val := by omega
  unfold V
  after_reads_at
  rewrite [dif_neg (by omega), dif_neg (by omega), dif_neg (by omega), dif_neg (by omega), dif_pos (by omega)]
  after_reads_at
  rewrite [dif_pos (by omega)]
  by_cases h1 : k.val % 64 < 8
  · rewrite [dif_pos (by omega)]
    refine Eq.trans ?_ (cos_lo h1).symm
    after_reads_at
    rewrite [ek]
    rfl
  by_cases h2 : k.val % 64 - 8 < 8
  · rewrite [dif_neg (by omega), dif_pos (by omega)]
    refine Eq.trans ?_ (cos_hi h1 h2).symm
    after_reads_at
    rewrite [ek]
    rfl
  · rewrite [dif_neg (by omega), dif_neg (by omega)]
    refine Eq.trans ?_ (cos_rest h1 h2).symm
    after_reads_at

set_option maxHeartbeats 4000000 in
theorem sin_idx (i : Fin 8320) (k : Fin 512) : (V m c main_v198 (ix2 i ⟨2048 + k.val, by omega⟩) : EReal)
    = sinAt 64 8 3243373875#32 1090519040#32 i.val k.val := by
  have hk := k.isLt
  have ek : 2048 + k.val - 384 - 384 - 384 - 384 - 512 = k.val := by omega
  unfold V
  after_reads_at
  rewrite [dif_neg (by omega), dif_neg (by omega), dif_neg (by omega), dif_neg (by omega), dif_neg (by omega), dif_pos (by omega)]
  after_reads_at
  rewrite [dif_pos (by omega)]
  by_cases h1 : k.val % 64 < 8
  · rewrite [dif_pos (by omega)]
    refine Eq.trans ?_ (sin_lo h1).symm
    after_reads_at
    rewrite [ek]
    rfl
  by_cases h2 : k.val % 64 - 8 < 8
  · rewrite [dif_neg (by omega), dif_pos (by omega)]
    refine Eq.trans ?_ (sin_hi h1 h2).symm
    after_reads_at
    rewrite [ek]
    rfl
  · rewrite [dif_neg (by omega), dif_neg (by omega)]
    refine Eq.trans ?_ (sin_rest h1 h2).symm
    after_reads_at

set_option maxHeartbeats 4000000 in
theorem cos_ik (i : Fin 8320) (k : Fin 64) : (V m c main_v198 (ix2 i ⟨2560 + k.val, by omega⟩) : EReal)
    = cosAt 64 8 3243373875#32 1090519040#32 i.val k.val := by
  have hk := k.isLt
  have ek : 2560 + k.val - 384 - 384 - 384 - 384 - 512 - 512 = k.val := by omega
  unfold V
  have e64 : k.val % 64 = k.val := Nat.mod_eq_of_lt hk
  after_reads_at
  rewrite [dif_neg (by omega), dif_neg (by omega), dif_neg (by omega), dif_neg (by omega), dif_neg (by omega), dif_neg (by omega), dif_pos (by omega)]
  after_reads_at
  rewrite [dif_pos (by omega)]
  by_cases h1 : k.val % 64 < 8
  · rewrite [dif_pos (by omega)]
    refine Eq.trans ?_ (cos_lo h1).symm
    after_reads_at
    rewrite [ek, e64]
    rfl
  by_cases h2 : k.val % 64 - 8 < 8
  · rewrite [dif_neg (by omega), dif_pos (by omega)]
    refine Eq.trans ?_ (cos_hi h1 h2).symm
    after_reads_at
    rewrite [ek, e64]
    rfl
  · rewrite [dif_neg (by omega), dif_neg (by omega)]
    refine Eq.trans ?_ (cos_rest h1 h2).symm
    after_reads_at

set_option maxHeartbeats 4000000 in
theorem sin_ik (i : Fin 8320) (k : Fin 64) : (V m c main_v198 (ix2 i ⟨2688 + k.val, by omega⟩) : EReal)
    = sinAt 64 8 3243373875#32 1090519040#32 i.val k.val := by
  have hk := k.isLt
  have ek : 2688 + k.val - 384 - 384 - 384 - 384 - 512 - 512 - 128 = k.val := by omega
  unfold V
  have e64 : k.val % 64 = k.val := Nat.mod_eq_of_lt hk
  after_reads_at
  rewrite [dif_neg (by omega), dif_neg (by omega), dif_neg (by omega), dif_neg (by omega), dif_neg (by omega), dif_neg (by omega), dif_neg (by omega), dif_pos (by omega)]
  after_reads_at
  rewrite [dif_pos (by omega)]
  by_cases h1 : k.val % 64 < 8
  · rewrite [dif_pos (by omega)]
    refine Eq.trans ?_ (sin_lo h1).symm
    after_reads_at
    rewrite [ek, e64]
    rfl
  by_cases h2 : k.val % 64 - 8 < 8
  · rewrite [dif_neg (by omega), dif_pos (by omega)]
    refine Eq.trans ?_ (sin_hi h1 h2).symm
    after_reads_at
    rewrite [ek, e64]
    rfl
  · rewrite [dif_neg (by omega), dif_neg (by omega)]
    refine Eq.trans ?_ (sin_rest h1 h2).symm
    after_reads_at

set_option maxHeartbeats 4000000 in
theorem cos_dif (i : Fin 8320) (k : Fin 320) : (V m c main_v198 (ix2 i ⟨2816 + k.val, by omega⟩) : EReal)
    = cosAt 32 4 3243373875#32 1082130432#32 i.val k.val := by
  have hk := k.isLt
  have ek : 2816 + k.val - 384 - 384 - 384 - 384 - 512 - 512 - 128 - 128 = k.val := by omega
  unfold V
  after_reads_at
  rewrite [dif_neg (by omega), dif_neg (by omega), dif_neg (by omega), dif_neg (by omega), dif_neg (by omega), dif_neg (by omega), dif_neg (by omega), dif_neg (by omega), dif_pos (by omega)]
  after_reads_at
  rewrite [dif_pos (by omega)]
  by_cases h1 : k.val % 32 < 4
  · rewrite [dif_pos (by omega)]
    refine Eq.trans ?_ (cos_lo h1).symm
    after_reads_at
    rewrite [ek]
    rfl
  by_cases h2 : k.val % 32 - 4 < 4
  · rewrite [dif_neg (by omega), dif_pos (by omega)]
    refine Eq.trans ?_ (cos_hi h1 h2).symm
    after_reads_at
    rewrite [ek]
    rfl
  · rewrite [dif_neg (by omega), dif_neg (by omega)]
    refine Eq.trans ?_ (cos_rest h1 h2).symm
    after_reads_at

set_option maxHeartbeats 4000000 in
theorem sin_dif (i : Fin 8320) (k : Fin 320) : (V m c main_v198 (ix2 i ⟨3200 + k.val, by omega⟩) : EReal)
    = sinAt 32 4 3243373875#32 1082130432#32 i.val k.val := by
  have hk := k.isLt
  have ek : 3200 + k.val - 384 - 384 - 384 - 384 - 512 - 512 - 128 - 128 - 384 = k.val := by omega
  unfold V
  after_reads_at
  rewrite [dif_neg (by omega), dif_neg (by omega), dif_neg (by omega), dif_neg (by omega), dif_neg (by omega), dif_neg (by omega), dif_neg (by omega), dif_neg (by omega), dif_neg (by omega)]
  after_reads_at
  rewrite [dif_pos (by omega)]
  by_cases h1 : k.val % 32 < 4
  · rewrite [dif_pos (by omega)]
    refine Eq.trans ?_ (sin_lo h1).symm
    after_reads_at
    rewrite [ek]
    rfl
  by_cases h2 : k.val % 32 - 4 < 4
  · rewrite [dif_neg (by omega), dif_pos (by omega)]
    refine Eq.trans ?_ (sin_hi h1 h2).symm
    after_reads_at
    rewrite [ek]
    rfl
  · rewrite [dif_neg (by omega), dif_neg (by omega)]
    refine Eq.trans ?_ (sin_rest h1 h2).symm
    after_reads_at

end Cert.Proof.Proj

end
-- ==== Proof.Proj.Load.lean ====
/- The blocks the projection kernel loads at a point, and a product of its rows with a column of weights, over the arguments. -/
module

public import proofs.«01_k».proof.Proof.Proj.Pay
public import proofs.«01_k».proof.Proof.Proj.Host
public import proofs.«01_k».proof.Proof.Proj.Table
public import proofs.«01_k».proof.Proof.Gen.ProjIdeal.Value

@[expose] public section

set_option maxRecDepth 16384

noncomputable section

namespace Cert.Proof.Proj

open Cert.Proof.Ffn (lin)
open Cert.ProjIdeal Cert.ProjIdeal.Gen Idealize.ShloMosaic Idealize.ShloMosaic.TcCoe Idealize.ShloMosaic.Tactic Idealize.SL.Sem

variable (m : (ℓ : Loc nD τ sig) → Buf (Elt Ideal) ℓ) (c : Dev nD)

/-- A load of some columns of an array, of one row, and of the whole array. -/
theorem ld_cols {n0 n1 w1 : ℕ} {e : EltTy} (X : Vec Ideal (⟨2, ![n0, n1]⟩ : Shape) e) (b : ℕ)
    (inb : ∀ a, (![0, b] : Fin 2 → ℕ) a + (⟨2, ![n0, w1]⟩ : Shape).size a ≤ (⟨2, ![n0, n1]⟩ : Shape).size a) (p : Fin n0) (q : Fin w1) (hq : b + q.val < n1) :
    View.ld X (Rect.unit (s := (⟨2, ![n0, n1]⟩ : Shape)) ![0, b] (⟨2, ![n0, w1]⟩ : Shape).size inb) (ix2 p q) = X (ix2 p ⟨b + q.val, hq⟩) := by
  show X ((Rect.unit (s := (⟨2, ![n0, n1]⟩ : Shape)) ![0, b] (⟨2, ![n0, w1]⟩ : Shape).size inb).emb (ix2 p q)) = _
  congr 1
  funext a
  apply Fin.ext
  rw [Rect.emb_apply]
  match a with
  | ⟨0, _⟩ => show 0 + 1 * p.val = p.val; omega
  | ⟨1, _⟩ => show b + 1 * q.val = b + q.val; omega

theorem ld_row {n0 n1 : ℕ} {e : EltTy} (X : Vec Ideal (⟨2, ![n0, n1]⟩ : Shape) e) (j : Fin n0)
    (inb : ∀ a, (![j.val, 0] : Fin 2 → ℕ) a + (⟨2, ![1, n1]⟩ : Shape).size a ≤ (⟨2, ![n0, n1]⟩ : Shape).size a) (q : Fin n1) :
    View.ld X (Rect.unit (s := (⟨2, ![n0, n1]⟩ : Shape)) ![j.val, 0] (⟨2, ![1, n1]⟩ : Shape).size inb) (ix2 (0 : Fin 1) q) = X (ix2 j q) := by
  show X ((Rect.unit (s := (⟨2, ![n0, n1]⟩ : Shape)) ![j.val, 0] (⟨2, ![1, n1]⟩ : Shape).size inb).emb (ix2 (0 : Fin 1) q)) = _
  congr 1
  funext a
  apply Fin.ext
  rw [Rect.emb_apply]
  match a with
  | ⟨0, _⟩ => show j.val + 1 * 0 = j.val; omega
  | ⟨1, _⟩ => show 0 + 1 * q.val = q.val; omega

theorem ld_whole {n0 n1 : ℕ} {e : EltTy} (X : Vec Ideal (⟨2, ![n0, n1]⟩ : Shape) e)
    (inb : ∀ a, (![0, 0] : Fin 2 → ℕ) a + (⟨2, ![n0, n1]⟩ : Shape).size a ≤ (⟨2, ![n0, n1]⟩ : Shape).size a) (p : Fin n0) (q : Fin n1) :
    View.ld X (Rect.unit (s := (⟨2, ![n0, n1]⟩ : Shape)) ![0, 0] (⟨2, ![n0, n1]⟩ : Shape).size inb) (ix2 p q) = X (ix2 p q) := by
  show X ((Rect.unit (s := (⟨2, ![n0, n1]⟩ : Shape)) ![0, 0] (⟨2, ![n0, n1]⟩ : Shape).size inb).emb (ix2 p q)) = _
  congr 1
  funext a
  apply Fin.ext
  rw [Rect.emb_apply]
  match a with
  | ⟨0, _⟩ => show 0 + 1 * p.val = p.val; omega
  | ⟨1, _⟩ => show 0 + 1 * q.val = q.val; omega

/-- Which block each window takes at a point. -/
theorem idxs : ∀ t : Fin grid0.N,
    win0_0.index t = ![t.val, 0] ∧ win0_1.index t = ![0, 0] ∧ win0_2.index t = ![0, 0] ∧ win0_3.index t = ![0, 0]
      ∧ win0_4.index t = ![0, 0] ∧ win0_5.index t = ![0, 0] ∧ win0_6.index t = ![t.val % 26, 0] := by decide +kernel

theorem bound (t : Fin cfg0.N) : t.val < 52 := t.isLt

/-- The row of the whole array at a block's row. -/
abbrev row (t : Fin cfg0.N) (r : Fin 320) : Fin 16640 := ⟨320 * t.val + r.val, by have := bound t; omega⟩

theorem blk0 (t : Fin cfg0.N) (r : Fin 320) (d : Fin 1024) : (iblk m c 0 t (ix2 r d) : EReal) = V m c main_v199 (ix2 (row t r) d) := by
  have hi := (idxs t).1
  show V m c main_v199 (((cfg0.win 0).blk t).view.emb (ix2 r d)) = _
  congr 1
  funext a
  apply Fin.ext
  have h0 := congrFun hi 0
  have h1 := congrFun hi 1
  match a with
  | ⟨0, _⟩ => show win0_0.index t (0 : Fin 2) * 320 + 1 * r.val = 320 * t.val + r.val; rw [h0]; show t.val * 320 + 1 * r.val = _; omega
  | ⟨1, _⟩ => show win0_0.index t (1 : Fin 2) * 1024 + 1 * d.val = d.val; rw [h1]; show 0 * 1024 + 1 * d.val = _; omega

theorem blk6 (t : Fin cfg0.N) (r : Fin 320) (d : Fin 3584) :
    (iblk m c 6 t (ix2 r d) : EReal) = V m c main_v198 (ix2 ⟨(row t r).val % 8320, Nat.mod_lt _ (by omega)⟩ d) := by
  have hi := (idxs t).2.2.2.2.2.2
  have hb := bound t
  show V m c main_v198 (((cfg0.win 6).blk t).view.emb (ix2 r d)) = _
  congr 1
  funext a
  apply Fin.ext
  have h0 := congrFun hi 0
  have h1 := congrFun hi 1
  match a with
  | ⟨0, _⟩ => show win0_6.index t (0 : Fin 2) * 320 + 1 * r.val = (320 * t.val + r.val) % 8320; rw [h0]; show t.val % 26 * 320 + 1 * r.val = _; omega
  | ⟨1, _⟩ => show win0_6.index t (1 : Fin 2) * 3584 + 1 * d.val = d.val; rw [h1]; show 0 * 3584 + 1 * d.val = _; omega

theorem blk1 (t : Fin cfg0.N) (y : S1x1024.Idx) : iblk m c 1 t y = V m c main_v50 y := by
  have hi := (idxs t).2.1
  show V m c main_v50 (((cfg0.win 1).blk t).view.emb y) = _
  congr 1
  funext a
  apply Fin.ext
  have h0 := congrFun hi 0
  have h1 := congrFun hi 1
  match a with
  | ⟨0, _⟩ => show win0_1.index t (0 : Fin 2) * 1 + 1 * (y 0).val = (y 0).val; rw [h0]; show 0 * 1 + 1 * (y 0).val = _; omega
  | ⟨1, _⟩ => show win0_1.index t (1 : Fin 2) * 1024 + 1 * (y 1).val = (y 1).val; rw [h1]; show 0 * 1024 + 1 * (y 1).val = _; omega

theorem blk2 (t : Fin cfg0.N) (y : S1024x4608.Idx) : iblk m c 2 t y = V m c main_v27 y := by
  have hi := (idxs t).2.2.1
  show V m c main_v27 (((cfg0.win 2).blk t).view.emb y) = _
  congr 1
  funext a
  apply Fin.ext
  have h0 := congrFun hi 0
  have h1 := congrFun hi 1
  match a with
  | ⟨0, _⟩ => show win0_2.index t (0 : Fin 2) * 1024 + 1 * (y 0).val = (y 0).val; rw [h0]; show 0 * 1024 + 1 * (y 0).val = _; omega
  | ⟨1, _⟩ => show win0_2.index t (1 : Fin 2) * 4608 + 1 * (y 1).val = (y 1).val; rw [h1]; show 0 * 4608 + 1 * (y 1).val = _; omega

theorem blk3 (t : Fin cfg0.N) (y : S8x384.Idx) : iblk m c 3 t y = V m c main_v49 y := by
  have hi := (idxs t).2.2.2.1
  show V m c main_v49 (((cfg0.win 3).blk t).view.emb y) = _
  congr 1
  funext a
  apply Fin.ext
  have h0 := congrFun hi 0
  have h1 := congrFun hi 1
  match a with
  | ⟨0, _⟩ => show win0_3.index t (0 : Fin 2) * 8 + 1 * (y 0).val = (y 0).val; rw [h0]; show 0 * 8 + 1 * (y 0).val = _; omega
  | ⟨1, _⟩ => show win0_3.index t (1 : Fin 2) * 384 + 1 * (y 1).val = (y 1).val; rw [h1]; show 0 * 384 + 1 * (y 1).val = _; omega

theorem blk4 (t : Fin cfg0.N) (y : S384x384.Idx) : iblk m c 4 t y = V m c main_v58 y := by
  have hi := (idxs t).2.2.2.2.1
  show V m c main_v58 (((cfg0.win 4).blk t).view.emb y) = _
  congr 1
  funext a
  apply Fin.ext
  have h0 := congrFun hi 0
  have h1 := congrFun hi 1
  match a with
  | ⟨0, _⟩ => show win0_4.index t (0 : Fin 2) * 384 + 1 * (y 0).val = (y 0).val; rw [h0]; show 0 * 384 + 1 * (y 0).val = _; omega
  | ⟨1, _⟩ => show win0_4.index t (1 : Fin 2) * 384 + 1 * (y 1).val = (y 1).val; rw [h1]; show 0 * 384 + 1 * (y 1).val = _; omega

theorem blk5 (t : Fin cfg0.N) (y : S384x384.Idx) : iblk m c 5 t y = V m c main_v66 y := by
  have hi := (idxs t).2.2.2.2.2.1
  show V m c main_v66 (((cfg0.win 5).blk t).view.emb y) = _
  congr 1
  funext a
  apply Fin.ext
  have h0 := congrFun hi 0
  have h1 := congrFun hi 1
  match a with
  | ⟨0, _⟩ => show win0_5.index t (0 : Fin 2) * 384 + 1 * (y 0).val = (y 0).val; rw [h0]; show 0 * 384 + 1 * (y 0).val = _; omega
  | ⟨1, _⟩ => show win0_5.index t (1 : Fin 2) * 384 + 1 * (y 1).val = (y 1).val; rw [h1]; show 0 * 384 + 1 * (y 1).val = _; omega

/-- Column `f` of the product at row `R`. -/
abbrev col (R : Fin 16640) (f : ℕ) : EReal :=
  column (fun k => m ((c : Thread nD τ).loc main_arg0) (ix3 ⟨R.val / 8320, by omega⟩ ⟨R.val % 8320, by omega⟩ k))
    (fun k => m ((c : Thread nD τ).loc main_arg1) (ix1 k)) (fun k f => m ((c : Thread nD τ).loc main_arg2) (ix2 k f)) f

/-- The rows of the block, scaled. -/
abbrev rows (t : Fin cfg0.N) : Vec Ideal S320x1024 .bf16 := k0_pay5 (View.ld (iblk m c 0 t) r0_0) (View.ld (iblk m c 1 t) r0_1)

theorem row_of (x0 : Vec Ideal S320x1024 .f32) (x1 : Vec Ideal S1x1024 .f32) (r : Fin 320) (k : Fin 1024) :
    (k0_pay5 x0 x1 (ix2 r k) : EReal)
      = x0 (ix2 r k) * Ideal.rsqrt (Ideal.div (∑ x : Fin 1024, x0 (ix2 r x) * x0 (ix2 r x)) (Ideal.ofBits FTy.f32 1149239296#32) + Ideal.ofBits FTy.f32 897988541#32) * x1 (ix2 0 k) := by
  unfold_payloads
  pointwise []

theorem prod_at {n : ℕ} (t : Fin cfg0.N) (r : Fin 320) (w : Vec Ideal (⟨2, ![1024, n]⟩ : Shape) .bf16) (q : Fin n) (f : ℕ) (hf : f < 4040)
    (hw : ∀ x : Fin 1024, (w (ix2 x q) : EReal) = m ((c : Thread nD τ).loc main_arg2) (ix2 x ⟨f, hf⟩)) :
    prod (rows m c t) w r q = col m c (row t r) f := by
  have hx : ∀ k : Fin 1024, (View.ld (iblk m c 0 t) r0_0 (ix2 r k) : EReal)
      = m ((c : Thread nD τ).loc main_arg0) (ix3 ⟨(row t r).val / 8320, by omega⟩ ⟨(row t r).val % 8320, by omega⟩ k) :=
    fun k => (ld_whole (n0 := 320) (n1 := 1024) (iblk m c 0 t) _ r k).trans ((blk0 m c t r k).trans (x_at m c _ k))
  have hs : ∀ k : Fin 1024, (View.ld (iblk m c 1 t) r0_1 (ix2 0 k) : EReal) = m ((c : Thread nD τ).loc main_arg1) (ix1 k) :=
    fun k => (ld_whole (n0 := 1) (n1 := 1024) (iblk m c 1 t) _ 0 k).trans ((blk1 m c t _).trans (scale_at m c k))
  unfold prod col column lin rows
  refine Finset.sum_congr rfl fun x _ => ?_
  dsimp only
  rw [dif_pos hf, hw x, row_of]
  simp only [hx, hs]

end Cert.Proof.Proj

end
-- ==== Proof.Proj.Block.lean ====
/- What each block of the projection kernel's results holds, in the columns of Spec.lean over the kernel's arguments. -/
module

public import proofs.«01_k».proof.Proof.Proj.Load

@[expose] public section

set_option maxRecDepth 16384

noncomputable section

namespace Cert.Proof.Proj

open Cert.Proof.Ffn (lin)
open Cert.ProjIdeal Cert.ProjIdeal.Gen Idealize.ShloMosaic Idealize.ShloMosaic.TcCoe Idealize.ShloMosaic.Tactic Idealize.SL.Sem

variable (m : (ℓ : Loc nD τ sig) → Buf (Elt Ideal) ℓ) (c : Dev nD)

theorem rq_block (t : Fin cfg0.N) (r : Fin 320) (k : Fin 384) :
    (out0_7 (iblk m c 0 t) (iblk m c 1 t) (iblk m c 2 t) (iblk m c 3 t) (iblk m c 4 t) (iblk m c 5 t) (iblk m c 6 t) (ix2 r k) : EReal)
      = rot 64 32 3239271822#32 1107296256#32 ((row t r).val % 8320) (fun f => col m c (row t r) (0 + f)) k.val := by
  have hk := k.isLt
  unfold out0_7
  rw [View.canon_cons_unit_lit _ _ _ (by decide)]
  refine rq_of r ((row t r).val % 8320) (fun f => col m c (row t r) (0 + f)) _ _ _ _ _
    (fun q => prod_at m c t r _ q (0 + q.val) (by omega) (fun x => (ld_cols (n0 := 1024) (n1 := 4608) (w1 := 384) (iblk m c 2 t) 0 _ x q (by show 0 + q.val < 4608; omega)).trans ((blk2 m c t _).trans (w_rq m c x q)))) k ?_ ?_
  · exact ((ld_cols (n0 := 320) (n1 := 3584) (w1 := 384) (iblk m c 6 t) 0 _ r k (by show 0 + k.val < 3584; omega)).trans ((blk6 m c t r _).trans (cos_ret m c ⟨(row t r).val % 8320, Nat.mod_lt _ (by omega)⟩ k)))
  · exact ((ld_cols (n0 := 320) (n1 := 3584) (w1 := 384) (iblk m c 6 t) 384 _ r k (by show 384 + k.val < 3584; omega)).trans ((blk6 m c t r _).trans (sin_ret m c ⟨(row t r).val % 8320, Nat.mod_lt _ (by omega)⟩ k)))

theorem rk_block (t : Fin cfg0.N) (r : Fin 320) (k : Fin 384) :
    (out0_8 (iblk m c 0 t) (iblk m c 1 t) (iblk m c 2 t) (iblk m c 3 t) (iblk m c 4 t) (iblk m c 5 t) (iblk m c 6 t) (ix2 r k) : EReal)
      = rot 64 32 3239271822#32 1107296256#32 ((row t r).val % 8320) (fun f => col m c (row t r) (384 + f)) k.val * Ideal.ofBits FTy.f32 1040187392#32 := by
  have hk := k.isLt
  unfold out0_8
  rw [View.canon_cons_unit_lit _ _ _ (by decide)]
  refine rk_of (rows m c t) r ((row t r).val % 8320) (fun f => col m c (row t r) (384 + f)) _ _ _
    (fun q => prod_at m c t r _ q (384 + q.val) (by omega) (fun x => (ld_cols (n0 := 1024) (n1 := 4608) (w1 := 384) (iblk m c 2 t) 384 _ x q (by show 384 + q.val < 4608; omega)).trans ((blk2 m c t _).trans (w_rk m c x q)))) k ?_ ?_
  · exact ((ld_cols (n0 := 320) (n1 := 3584) (w1 := 384) (iblk m c 6 t) 0 _ r k (by show 0 + k.val < 3584; omega)).trans ((blk6 m c t r _).trans (cos_ret m c ⟨(row t r).val % 8320, Nat.mod_lt _ (by omega)⟩ k)))
  · exact ((ld_cols (n0 := 320) (n1 := 3584) (w1 := 384) (iblk m c 6 t) 384 _ r k (by show 384 + k.val < 3584; omega)).trans ((blk6 m c t r _).trans (sin_ret m c ⟨(row t r).val % 8320, Nat.mod_lt _ (by omega)⟩ k)))

theorem rv_block (t : Fin cfg0.N) (r : Fin 320) (k : Fin 384) :
    (out0_9 (iblk m c 0 t) (iblk m c 1 t) (iblk m c 2 t) (iblk m c 3 t) (iblk m c 4 t) (iblk m c 5 t) (iblk m c 6 t) (ix2 r k) : EReal)
      = col m c (row t r) (768 + k.val) := by
  have hk := k.isLt
  unfold out0_9
  rw [View.canon_cons_unit_lit _ _ _ (by decide)]
  refine (rv_of (rows m c t) r _ k).trans ?_
  exact prod_at m c t r _ k (768 + k.val) (by omega) (fun x => (ld_cols (n0 := 1024) (n1 := 4608) (w1 := 384) (iblk m c 2 t) 768 _ x k (by show 768 + k.val < 4608; omega)).trans ((blk2 m c t _).trans (w_rv m c x k)))

theorem rg_block (t : Fin cfg0.N) (r : Fin 320) (k : Fin 384) :
    (out0_10 (iblk m c 0 t) (iblk m c 1 t) (iblk m c 2 t) (iblk m c 3 t) (iblk m c 4 t) (iblk m c 5 t) (iblk m c 6 t) (ix2 r k) : EReal)
      = col m c (row t r) (1152 + k.val) := by
  have hk := k.isLt
  unfold out0_10
  rw [View.canon_cons_unit_lit _ _ _ (by decide)]
  refine (rg_of (rows m c t) r _ k).trans ?_
  exact prod_at m c t r _ k (1152 + k.val) (by omega) (fun x => (ld_cols (n0 := 1024) (n1 := 4608) (w1 := 384) (iblk m c 2 t) 1152 _ x k (by show 1152 + k.val < 4608; omega)).trans ((blk2 m c t _).trans (w_rg m c x k)))

theorem bq_block (t : Fin cfg0.N) (r : Fin 320) (k : Fin 320) (hu : ∀ R f, IsReal (col m c R f)) :
    (out0_11 (iblk m c 0 t) (iblk m c 1 t) (iblk m c 2 t) (iblk m c 3 t) (iblk m c 4 t) (iblk m c 5 t) (iblk m c 6 t) (ix2 r k) : EReal)
      = rot 64 8 3243373875#32 1090519040#32 ((row t r).val % 8320) (unit 64 1115684864#32 (fun f => col m c (row t r) (1536 + f)) (gain (m ((c : Thread nD τ).loc main_arg3)))) k.val := by
  have hk := k.isLt
  unfold out0_11
  rw [View.canon_cons_unit_lit _ _ _ (by decide)]
  refine bq_of (rows m c t) r ((row t r).val % 8320) (fun f => col m c (row t r) (1536 + f)) (gain (m ((c : Thread nD τ).loc main_arg3))) _ _ _ _ _ (fun f => hu _ _)
    (fun q hq => prod_at m c t r _ q (1536 + (⟨q.val, hq⟩ : Fin 320).val) (by omega) (fun x => (ld_cols (n0 := 1024) (n1 := 4608) (w1 := 384) (iblk m c 2 t) 1536 _ x q (by show 1536 + (⟨q.val, hq⟩ : Fin 320).val < 4608; omega)).trans ((blk2 m c t _).trans (w_bq m c x (⟨q.val, hq⟩ : Fin 320)))))
    (fun p q => (ld_whole (n0 := 384) (n1 := 384) (iblk m c 4 t) _ p q).trans ((blk4 m c t _).trans (b64_at m c p q)))
    (fun q hq => (ld_row (n0 := 8) (n1 := 384) (iblk m c 3 t) 0 _ q).trans ((blk3 m c t _).trans (gain_bq m c ⟨q.val, hq⟩)))
    k ?_ ?_
  · exact ((ld_cols (n0 := 320) (n1 := 3584) (w1 := 384) (iblk m c 6 t) 768 _ r ⟨k.val, by omega⟩ (by show 768 + k.val < 3584; omega)).trans ((blk6 m c t r _).trans (cos_dsa m c ⟨(row t r).val % 8320, Nat.mod_lt _ (by omega)⟩ k)))
  · exact ((ld_cols (n0 := 320) (n1 := 3584) (w1 := 384) (iblk m c 6 t) 1152 _ r ⟨k.val, by omega⟩ (by show 1152 + k.val < 3584; omega)).trans ((blk6 m c t r _).trans (sin_dsa m c ⟨(row t r).val % 8320, Nat.mod_lt _ (by omega)⟩ k)))

theorem bk_block (t : Fin cfg0.N) (r : Fin 320) (k : Fin 320) (hu : ∀ R f, IsReal (col m c R f)) :
    (out0_12 (iblk m c 0 t) (iblk m c 1 t) (iblk m c 2 t) (iblk m c 3 t) (iblk m c 4 t) (iblk m c 5 t) (iblk m c 6 t) (ix2 r k) : EReal)
      = rot 64 8 3243373875#32 1090519040#32 ((row t r).val % 8320) (unit 64 1115684864#32 (fun f => col m c (row t r) (1856 + f)) (gain (m ((c : Thread nD τ).loc main_arg4)))) k.val := by
  have hk := k.isLt
  unfold out0_12
  rw [View.canon_cons_unit_lit _ _ _ (by decide)]
  refine bk_of (rows m c t) r ((row t r).val % 8320) (fun f => col m c (row t r) (1856 + f)) (gain (m ((c : Thread nD τ).loc main_arg4))) _ _ _ _ _ (fun f => hu _ _)
    (fun q hq => prod_at m c t r _ q (1856 + (⟨q.val, hq⟩ : Fin 320).val) (by omega) (fun x => (ld_cols (n0 := 1024) (n1 := 4608) (w1 := 384) (iblk m c 2 t) 1920 _ x q (by show 1920 + (⟨q.val, hq⟩ : Fin 320).val < 4608; omega)).trans ((blk2 m c t _).trans (w_bk m c x (⟨q.val, hq⟩ : Fin 320)))))
    (fun p q => (ld_whole (n0 := 384) (n1 := 384) (iblk m c 4 t) _ p q).trans ((blk4 m c t _).trans (b64_at m c p q)))
    (fun q hq => (ld_row (n0 := 8) (n1 := 384) (iblk m c 3 t) 1 _ q).trans ((blk3 m c t _).trans (gain_bk m c ⟨q.val, hq⟩)))
    k ?_ ?_
  · exact ((ld_cols (n0 := 320) (n1 := 3584) (w1 := 384) (iblk m c 6 t) 768 _ r ⟨k.val, by omega⟩ (by show 768 + k.val < 3584; omega)).trans ((blk6 m c t r _).trans (cos_dsa m c ⟨(row t r).val % 8320, Nat.mod_lt _ (by omega)⟩ k)))
  · exact ((ld_cols (n0 := 320) (n1 := 3584) (w1 := 384) (iblk m c 6 t) 1152 _ r ⟨k.val, by omega⟩ (by show 1152 + k.val < 3584; omega)).trans ((blk6 m c t r _).trans (sin_dsa m c ⟨(row t r).val % 8320, Nat.mod_lt _ (by omega)⟩ k)))

theorem bv_block (t : Fin cfg0.N) (r : Fin 320) (k : Fin 320) :
    (out0_13 (iblk m c 0 t) (iblk m c 1 t) (iblk m c 2 t) (iblk m c 3 t) (iblk m c 4 t) (iblk m c 5 t) (iblk m c 6 t) (ix2 r k) : EReal)
      = col m c (row t r) (2176 + k.val) := by
  have hk := k.isLt
  unfold out0_13
  rw [View.canon_cons_unit_lit _ _ _ (by decide)]
  refine (bv_of (rows m c t) r _ k).trans ?_
  exact prod_at m c t r _ ⟨k.val, by omega⟩ (2176 + k.val) (by omega) (fun x => (ld_cols (n0 := 1024) (n1 := 4608) (w1 := 384) (iblk m c 2 t) 2304 _ x ⟨k.val, by omega⟩ (by show 2304 + k.val < 4608; omega)).trans ((blk2 m c t _).trans (w_bv m c x k)))

theorem iq_block (t : Fin cfg0.N) (r : Fin 320) (k : Fin 512) :
    (out0_14 (iblk m c 0 t) (iblk m c 1 t) (iblk m c 2 t) (iblk m c 3 t) (iblk m c 4 t) (iblk m c 5 t) (iblk m c 6 t) (ix2 r k) : EReal)
      = rot 64 8 3243373875#32 1090519040#32 ((row t r).val % 8320) (fun f => col m c (row t r) (2496 + f)) k.val := by
  have hk := k.isLt
  unfold out0_14
  rw [View.canon_cons_unit_lit _ _ _ (by decide)]
  refine iq_of (rows m c t) r ((row t r).val % 8320) (fun f => col m c (row t r) (2496 + f)) _ _ _
    (fun q => prod_at m c t r _ q (2496 + q.val) (by omega) (fun x => (ld_cols (n0 := 1024) (n1 := 4608) (w1 := 512) (iblk m c 2 t) 2688 _ x q (by show 2688 + q.val < 4608; omega)).trans ((blk2 m c t _).trans (w_iq m c x q)))) k ?_ ?_
  · exact ((ld_cols (n0 := 320) (n1 := 3584) (w1 := 512) (iblk m c 6 t) 1536 _ r k (by show 1536 + k.val < 3584; omega)).trans ((blk6 m c t r _).trans (cos_idx m c ⟨(row t r).val % 8320, Nat.mod_lt _ (by omega)⟩ k)))
  · exact ((ld_cols (n0 := 320) (n1 := 3584) (w1 := 512) (iblk m c 6 t) 2048 _ r k (by show 2048 + k.val < 3584; omega)).trans ((blk6 m c t r _).trans (sin_idx m c ⟨(row t r).val % 8320, Nat.mod_lt _ (by omega)⟩ k)))

theorem ik_block (t : Fin cfg0.N) (r : Fin 320) (k : Fin 64) :
    (out0_15 (iblk m c 0 t) (iblk m c 1 t) (iblk m c 2 t) (iblk m c 3 t) (iblk m c 4 t) (iblk m c 5 t) (iblk m c 6 t) (ix2 r k) : EReal)
      = rot 64 8 3243373875#32 1090519040#32 ((row t r).val % 8320) (fun f => col m c (row t r) (3008 + f)) k.val := by
  have hk := k.isLt
  unfold out0_15
  rw [View.canon_cons_unit_lit _ _ _ (by decide)]
  refine ik_of (rows m c t) r ((row t r).val % 8320) (fun f => col m c (row t r) (3008 + f)) _ _ _
    (fun q hq => prod_at m c t r _ q (3008 + (⟨q.val, hq⟩ : Fin 64).val) (by omega) (fun x => (ld_cols (n0 := 1024) (n1 := 4608) (w1 := 128) (iblk m c 2 t) 3200 _ x q (by show 3200 + (⟨q.val, hq⟩ : Fin 64).val < 4608; omega)).trans ((blk2 m c t _).trans (w_ik m c x (⟨q.val, hq⟩ : Fin 64))))) k ?_ ?_
  · exact ((ld_cols (n0 := 320) (n1 := 3584) (w1 := 128) (iblk m c 6 t) 2560 _ r ⟨k.val, by omega⟩ (by show 2560 + k.val < 3584; omega)).trans ((blk6 m c t r _).trans (cos_ik m c ⟨(row t r).val % 8320, Nat.mod_lt _ (by omega)⟩ k)))
  · exact ((ld_cols (n0 := 320) (n1 := 3584) (w1 := 128) (iblk m c 6 t) 2688 _ r ⟨k.val, by omega⟩ (by show 2688 + k.val < 3584; omega)).trans ((blk6 m c t r _).trans (sin_ik m c ⟨(row t r).val % 8320, Nat.mod_lt _ (by omega)⟩ k)))

theorem iw_block (t : Fin cfg0.N) (r : Fin 320) (k : Fin 8) :
    (out0_16 (iblk m c 0 t) (iblk m c 1 t) (iblk m c 2 t) (iblk m c 3 t) (iblk m c 4 t) (iblk m c 5 t) (iblk m c 6 t) (ix2 r k) : EReal)
      = col m c (row t r) (3072 + k.val) * Ideal.ofBits FTy.f32 1026884851#32 := by
  have hk := k.isLt
  unfold out0_16
  rw [View.canon_cons_unit_lit _ _ _ (by decide)]
  refine (iw_of (rows m c t) r _ k).trans (congrArg (· * Ideal.ofBits FTy.f32 1026884851#32) ?_)
  exact prod_at m c t r _ ⟨k.val, by omega⟩ (3072 + k.val) (by omega) (fun x => (ld_cols (n0 := 1024) (n1 := 4608) (w1 := 128) (iblk m c 2 t) 3328 _ x ⟨k.val, by omega⟩ (by show 3328 + k.val < 4608; omega)).trans ((blk2 m c t _).trans (w_iw m c x k)))

theorem cq_block (t : Fin cfg0.N) (r : Fin 320) (k : Fin 320) (hu : ∀ R f, IsReal (col m c R f)) :
    (out0_17 (iblk m c 0 t) (iblk m c 1 t) (iblk m c 2 t) (iblk m c 3 t) (iblk m c 4 t) (iblk m c 5 t) (iblk m c 6 t) (ix2 r k) : EReal)
      = rot 32 4 3243373875#32 1082130432#32 ((row t r).val % 8320) (unit 32 1107296256#32 (fun f => col m c (row t r) (3080 + f)) (gain (m ((c : Thread nD τ).loc main_arg5)))) k.val := by
  have hk := k.isLt
  unfold out0_17
  rw [View.canon_cons_unit_lit _ _ _ (by decide)]
  refine cq_of (rows m c t) r ((row t r).val % 8320) (fun f => col m c (row t r) (3080 + f)) (gain (m ((c : Thread nD τ).loc main_arg5))) _ _ _ _ _ (fun f => hu _ _)
    (fun q hq => prod_at m c t r _ q (3080 + (⟨q.val, hq⟩ : Fin 320).val) (by omega) (fun x => (ld_cols (n0 := 1024) (n1 := 4608) (w1 := 384) (iblk m c 2 t) 3456 _ x q (by show 3456 + (⟨q.val, hq⟩ : Fin 320).val < 4608; omega)).trans ((blk2 m c t _).trans (w_cq m c x (⟨q.val, hq⟩ : Fin 320)))))
    (fun p q => (ld_whole (n0 := 384) (n1 := 384) (iblk m c 5 t) _ p q).trans ((blk5 m c t _).trans (b32_at m c p q)))
    (fun q hq => (ld_row (n0 := 8) (n1 := 384) (iblk m c 3 t) 2 _ q).trans ((blk3 m c t _).trans (gain_cq m c ⟨q.val, hq⟩)))
    k ?_ ?_
  · exact ((ld_cols (n0 := 320) (n1 := 3584) (w1 := 384) (iblk m c 6 t) 2816 _ r ⟨k.val, by omega⟩ (by show 2816 + k.val < 3584; omega)).trans ((blk6 m c t r _).trans (cos_dif m c ⟨(row t r).val % 8320, Nat.mod_lt _ (by omega)⟩ k)))
  · exact ((ld_cols (n0 := 320) (n1 := 3584) (w1 := 384) (iblk m c 6 t) 3200 _ r ⟨k.val, by omega⟩ (by show 3200 + k.val < 3584; omega)).trans ((blk6 m c t r _).trans (sin_dif m c ⟨(row t r).val % 8320, Nat.mod_lt _ (by omega)⟩ k)))

theorem ck_block (t : Fin cfg0.N) (r : Fin 320) (k : Fin 320) (hu : ∀ R f, IsReal (col m c R f)) :
    (out0_18 (iblk m c 0 t) (iblk m c 1 t) (iblk m c 2 t) (iblk m c 3 t) (iblk m c 4 t) (iblk m c 5 t) (iblk m c 6 t) (ix2 r k) : EReal)
      = rot 32 4 3243373875#32 1082130432#32 ((row t r).val % 8320) (unit 32 1107296256#32 (fun f => col m c (row t r) (3400 + f)) (gain (m ((c : Thread nD τ).loc main_arg6)))) k.val := by
  have hk := k.isLt
  unfold out0_18
  rw [View.canon_cons_unit_lit _ _ _ (by decide)]
  refine ck_of (rows m c t) r ((row t r).val % 8320) (fun f => col m c (row t r) (3400 + f)) (gain (m ((c : Thread nD τ).loc main_arg6))) _ _ _ _ _ (fun f => hu _ _)
    (fun q hq => prod_at m c t r _ q (3400 + (⟨q.val, hq⟩ : Fin 320).val) (by omega) (fun x => (ld_cols (n0 := 1024) (n1 := 4608) (w1 := 384) (iblk m c 2 t) 3840 _ x q (by show 3840 + (⟨q.val, hq⟩ : Fin 320).val < 4608; omega)).trans ((blk2 m c t _).trans (w_ck m c x (⟨q.val, hq⟩ : Fin 320)))))
    (fun p q => (ld_whole (n0 := 384) (n1 := 384) (iblk m c 5 t) _ p q).trans ((blk5 m c t _).trans (b32_at m c p q)))
    (fun q hq => (ld_row (n0 := 8) (n1 := 384) (iblk m c 3 t) 3 _ q).trans ((blk3 m c t _).trans (gain_ck m c ⟨q.val, hq⟩)))
    k ?_ ?_
  · exact ((ld_cols (n0 := 320) (n1 := 3584) (w1 := 384) (iblk m c 6 t) 2816 _ r ⟨k.val, by omega⟩ (by show 2816 + k.val < 3584; omega)).trans ((blk6 m c t r _).trans (cos_dif m c ⟨(row t r).val % 8320, Nat.mod_lt _ (by omega)⟩ k)))
  · exact ((ld_cols (n0 := 320) (n1 := 3584) (w1 := 384) (iblk m c 6 t) 3200 _ r ⟨k.val, by omega⟩ (by show 3200 + k.val < 3584; omega)).trans ((blk6 m c t r _).trans (sin_dif m c ⟨(row t r).val % 8320, Nat.mod_lt _ (by omega)⟩ k)))

theorem cv_block (t : Fin cfg0.N) (r : Fin 320) (k : Fin 320) :
    (out0_19 (iblk m c 0 t) (iblk m c 1 t) (iblk m c 2 t) (iblk m c 3 t) (iblk m c 4 t) (iblk m c 5 t) (iblk m c 6 t) (ix2 r k) : EReal)
      = col m c (row t r) (3720 + k.val) := by
  have hk := k.isLt
  unfold out0_19
  rw [View.canon_cons_unit_lit _ _ _ (by decide)]
  refine (cv_of (rows m c t) r _ k).trans ?_
  exact prod_at m c t r _ ⟨k.val, by omega⟩ (3720 + k.val) (by omega) (fun x => (ld_cols (n0 := 1024) (n1 := 4608) (w1 := 384) (iblk m c 2 t) 4224 _ x ⟨k.val, by omega⟩ (by show 4224 + k.val < 4608; omega)).trans ((blk2 m c t _).trans (w_cv m c x k)))

end Cert.Proof.Proj

end
-- ==== Proof.Proj.Ref.lean ====
/- The projection reference's results read at a row and a column. -/
module

public import proofs.«01_k».proof.Proof.Proj.Spec
public import proofs.«01_k».proof.Proof.Gen.ProjRefIdeal.Read
public import Idealize.ShloMosaic.Lib.Pointwise
public import Idealize.ShloMosaic.Lib.Pipeline.ValueKit

@[expose] public section

set_option maxRecDepth 16384

noncomputable section
namespace Cert.Proof.Proj.Ref

open Cert.Proof.Proj Cert.Proof.Ffn Cert.ProjRefIdeal Cert.ProjRefIdeal.Gen Cert.ProjRefIdeal.Read Idealize.ShloMosaic Idealize.ShloMosaic.TcCoe Idealize.ShloMosaic.Tactic Idealize.SL.Sem

variable (x0 : Vec Ideal S2x8320x1024 .f32) (x1 : Vec Ideal S1024 .f32) (x2 : Vec Ideal S1024x4040 .f32) (x3 x4 : Vec Ideal S64 .f32) (x5 x6 : Vec Ideal S32 .f32)

/-- Column `c` of the product at a token. -/
abbrev U (n : Fin 2) (i : Fin 8320) (c : ℕ) : EReal := column (fun k => x0 (ix3 n i k)) (fun k => x1 (ix1 k)) (fun k f => x2 (ix2 k f)) c

/-- Row `R` of the results is a token of one of the two batch entries. -/
abbrev bat (R : Fin 16640) : Fin 2 := ⟨R.val / 8320, by omega⟩
abbrev tok (R : Fin 16640) : Fin 8320 := ⟨R.val % 8320, by omega⟩

theorem prod_read (n : Fin 2) (i : Fin 8320) (f : Fin 4040) : (val_main_v14 x0 x1 x2 (ix3 n i f) : EReal) = U x0 x1 x2 n i f.val := by
  rw [val_main_v14_apply]
  pointwise [val_main_v0, val_main_v1, val_main_v2, val_main_v3, val_main_v4, val_main_v5, val_main_v6, val_main_v7, val_main_v8, val_main_v9, val_main_v10, val_main_v11, val_main_v12, val_main_cst_0, val_main_cst_1, val_main_cst]
  unfold U column lin
  refine Finset.sum_congr rfl fun k _ => ?_
  have e1 : lidx_main_v14 (ix3 n i f) k = ix3 n i k := by
    funext a
    match a with
    | ⟨0, _⟩ => rfl
    | ⟨1, _⟩ => rfl
    | ⟨2, _⟩ => rfl
  have e2 : ridx_main_v14 (ix3 n i f) k = ix2 k f := by
    funext a
    match a with
    | ⟨0, _⟩ => rfl
    | ⟨1, _⟩ => rfl
  dsimp only
  rw [e1, e2, dif_pos f.isLt]

theorem rq_read (R : Fin 16640) (k : Fin 384) :
    (val_main_v330 x0 x1 x2 (ix2 R k) : EReal) = rot 64 32 3239271822#32 1107296256#32 (R.val % 8320) (U x0 x1 x2 (bat R) (tok R)) k.val := by
  rw [← Nat.div_add_mod' k.val 64, rot_head _ _ _ _ _ _ _ _ (Nat.mod_lt _ (by omega))]
  pointwise [val_main_v330, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v15, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read, dite_eq_ite, Nat.div_add_mod']
  by_cases h1 : k.val % 64 < 32
  · refine (dif_pos h1).trans (Eq.trans ?_ (if_pos h1).symm)
    rfl
  · have h2 : k.val % 64 - 32 < 32 := by omega
    refine (dif_neg h1).trans (Eq.trans ?_ (if_neg h1).symm)
    refine (dif_pos h2).trans (Eq.trans ?_ (if_pos h2).symm)
    rfl

theorem rk_read (R : Fin 16640) (k : Fin 384) :
    (val_main_v331 x0 x1 x2 (ix2 R k) : EReal) = rot 64 32 3239271822#32 1107296256#32 (R.val % 8320) (fun c => U x0 x1 x2 (bat R) (tok R) (384 + c)) k.val * Ideal.ofBits FTy.f32 1040187392#32 := by
  rw [← Nat.div_add_mod' k.val 64, rot_head _ _ _ _ _ _ _ _ (Nat.mod_lt _ (by omega))]
  pointwise [val_main_v331, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v16, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read, dite_eq_ite, Nat.div_add_mod']
  refine congrArg (· * _) ?_
  by_cases h1 : k.val % 64 < 32
  · refine (dif_pos h1).trans (Eq.trans ?_ (if_pos h1).symm)
    rfl
  · have h2 : k.val % 64 - 32 < 32 := by omega
    refine (dif_neg h1).trans (Eq.trans ?_ (if_neg h1).symm)
    refine (dif_pos h2).trans (Eq.trans ?_ (if_pos h2).symm)
    rfl

theorem rv_read (R : Fin 16640) (k : Fin 384) :
    (val_main_v332 x0 x1 x2 (ix2 R k) : EReal) = U x0 x1 x2 (bat R) (tok R) (768 + k.val) := by
  pointwise [val_main_v332, val_main_v90, val_main_v17, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read]

theorem rg_read (R : Fin 16640) (k : Fin 384) :
    (val_main_v333 x0 x1 x2 (ix2 R k) : EReal) = U x0 x1 x2 (bat R) (tok R) (1152 + k.val) := by
  pointwise [val_main_v333, val_main_v18, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read]

theorem bq_read (R : Fin 16640) (k : Fin 320) :
    (val_main_v334 x0 x1 x2 x3 (ix2 R k) : EReal) = rot 64 8 3243373875#32 1090519040#32 (R.val % 8320) (unit 64 1115684864#32 (fun c => U x0 x1 x2 (bat R) (tok R) (1536 + c)) (gain x3)) k.val := by
  rw [← Nat.div_add_mod' k.val 64, rot_unit_head _ _ _ _ _ _ _ _ _ _ (Nat.mod_lt _ (by omega)) (by omega)]
  pointwise [val_main_v334, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v19, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read, gain_at, dite_eq_ite, Nat.div_add_mod']
  rfl

theorem bk_read (R : Fin 16640) (k : Fin 320) :
    (val_main_v335 x0 x1 x2 x4 (ix2 R k) : EReal) = rot 64 8 3243373875#32 1090519040#32 (R.val % 8320) (unit 64 1115684864#32 (fun c => U x0 x1 x2 (bat R) (tok R) (1856 + c)) (gain x4)) k.val := by
  rw [← Nat.div_add_mod' k.val 64, rot_unit_head _ _ _ _ _ _ _ _ _ _ (Nat.mod_lt _ (by omega)) (by omega)]
  pointwise [val_main_v335, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v20, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read, gain_at, dite_eq_ite, Nat.div_add_mod']
  rfl

theorem bv_read (R : Fin 16640) (k : Fin 320) :
    (val_main_v336 x0 x1 x2 (ix2 R k) : EReal) = U x0 x1 x2 (bat R) (tok R) (2176 + k.val) := by
  pointwise [val_main_v336, val_main_v177, val_main_v21, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read]

theorem iq_read (R : Fin 16640) (k : Fin 512) :
    (val_main_v337 x0 x1 x2 (ix2 R k) : EReal) = rot 64 8 3243373875#32 1090519040#32 (R.val % 8320) (fun c => U x0 x1 x2 (bat R) (tok R) (2496 + c)) k.val := by
  rw [← Nat.div_add_mod' k.val 64, rot_head _ _ _ _ _ _ _ _ (Nat.mod_lt _ (by omega))]
  pointwise [val_main_v337, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v22, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read, dite_eq_ite, Nat.div_add_mod']
  rfl

theorem ik_read (R : Fin 16640) (k : Fin 64) :
    (val_main_v338 x0 x1 x2 (ix2 R k) : EReal) = rot 64 8 3243373875#32 1090519040#32 (R.val % 8320) (fun c => U x0 x1 x2 (bat R) (tok R) (3008 + c)) k.val := by
  rw [← Nat.div_add_mod' k.val 64, rot_head _ _ _ _ _ _ _ _ (Nat.mod_lt _ (by omega))]
  pointwise [val_main_v338, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v23, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read, dite_eq_ite, Nat.mod_eq_of_lt k.isLt, Nat.div_eq_of_lt k.isLt, Nat.zero_mul, Nat.zero_add]
  rfl

theorem iw_read (R : Fin 16640) (k : Fin 8) :
    (val_main_v339 x0 x1 x2 (ix2 R k) : EReal) = U x0 x1 x2 (bat R) (tok R) (3072 + k.val) * Ideal.ofBits FTy.f32 1026884851#32 := by
  pointwise [val_main_v339, val_main_v239, val_main_v240, val_main_v24, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read]

theorem cq_read (R : Fin 16640) (k : Fin 320) :
    (val_main_v340 x0 x1 x2 x5 (ix2 R k) : EReal) = rot 32 4 3243373875#32 1082130432#32 (R.val % 8320) (unit 32 1107296256#32 (fun c => U x0 x1 x2 (bat R) (tok R) (3080 + c)) (gain x5)) k.val := by
  rw [← Nat.div_add_mod' k.val 32, rot_unit_head _ _ _ _ _ _ _ _ _ _ (Nat.mod_lt _ (by omega)) (by omega)]
  pointwise [val_main_v340, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v25, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read, gain_at, dite_eq_ite, show k.val / 64 * 2 + k.val / 32 % 2 = k.val / 32 from by omega, Nat.div_add_mod']
  rfl

theorem ck_read (R : Fin 16640) (k : Fin 320) :
    (val_main_v341 x0 x1 x2 x6 (ix2 R k) : EReal) = rot 32 4 3243373875#32 1082130432#32 (R.val % 8320) (unit 32 1107296256#32 (fun c => U x0 x1 x2 (bat R) (tok R) (3400 + c)) (gain x6)) k.val := by
  rw [← Nat.div_add_mod' k.val 32, rot_unit_head _ _ _ _ _ _ _ _ _ _ (Nat.mod_lt _ (by omega)) (by omega)]
  pointwise [val_main_v341, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322, val_main_v323, val_main_v324, val_main_v325, val_main_v326, val_main_v327, val_main_v328, val_main_v26, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read, gain_at, dite_eq_ite, show k.val / 64 * 2 + k.val / 32 % 2 = k.val / 32 from by omega, Nat.div_add_mod']
  rfl

theorem cv_read (R : Fin 16640) (k : Fin 320) :
    (val_main_v342 x0 x1 x2 (ix2 R k) : EReal) = U x0 x1 x2 (bat R) (tok R) (3720 + k.val) := by
  pointwise [val_main_v342, val_main_v329, val_main_v27, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31]
  simp only [prod_read]

end Cert.Proof.Proj.Ref

end
-- ==== Proof.Proj.Final.lean ====
/- The projection kernel and its reference agree on finite inputs: each array the kernel leaves, read row by row, holds the
   columns the reference writes. -/
module

public import proofs.«01_k».proof.Proof.Proj.Block
public import proofs.«01_k».proof.Proof.Proj.Ref
public import proofs.«01_k».proof.Proof.Ret.Final
public import proofs.«01_k».proof.Pre_finite_proj
public import Idealize.ShloMosaic.Lib.ReduceAll

@[expose] public section

set_option maxRecDepth 16384

noncomputable section

namespace Cert.Proof.Proj

open Cert.ProjIdeal Cert.ProjIdeal.Gen Cert.ProjIdeal.Value Idealize.ShloMosaic Idealize.ShloMosaic.TcCoe Idealize.ShloMosaic.Tactic Idealize.SL.Sem

variable (m : (ℓ : Loc nD τ sig) → Buf (Elt Ideal) ℓ) (c : Dev nD)

/-- The precondition makes every token, gain and weight a real number. -/
theorem real_of_pre [Cert.Pre_finite_proj.Facts] (a0 : Vec Ideal (⟨3, ![2, 8320, 1024]⟩ : Shape) .f32) (a1 : Vec Ideal (⟨1, ![1024]⟩ : Shape) .f32)
    (a2 : Vec Ideal (⟨2, ![1024, 4040]⟩ : Shape) .f32) (a3 a4 : Vec Ideal (⟨1, ![64]⟩ : Shape) .f32) (a5 a6 : Vec Ideal (⟨1, ![32]⟩ : Shape) .f32)
    (h : Cert.Pre_finite_proj.fn (F := Ideal) a0 a1 a2 a3 a4 a5 a6 ix0 = 1#1) :
    (∀ i, IsReal (a0 i)) ∧ (∀ i, IsReal (a1 i)) ∧ (∀ i, IsReal (a2 i)) := by
  dsimp only [Cert.Pre_finite_proj.fn] at h
  obtain ⟨h01, h2⟩ := Cert.RetFinal.split1 h
  obtain ⟨h0, h1⟩ := Cert.RetFinal.split1 h01
  exact ⟨fun i => ⟨_, Cert.RetFinal.real_of_lt (Host.reduce_andi_all _ _ _ _ ix0 h0 i)⟩,
    fun i => ⟨_, Cert.RetFinal.real_of_lt (Host.reduce_andi_all _ _ _ _ ix0 h1 i)⟩,
    fun i => ⟨_, Cert.RetFinal.real_of_lt (Host.reduce_andi_all _ _ _ _ ix0 h2 i)⟩⟩

/-- Then every column of the product is one. -/
theorem col_real (h0 : ∀ i, IsReal (m ((c : Thread nD τ).loc main_arg0) i)) (h1 : ∀ i, IsReal (m ((c : Thread nD τ).loc main_arg1) i))
    (h2 : ∀ i, IsReal (m ((c : Thread nD τ).loc main_arg2) i)) (R : Fin 16640) (f : ℕ) : IsReal (col m c R f) :=
  column_real _ _ _ (fun _ => h0 _) (fun _ => h1 _) (fun _ _ => h2 _) f

/-- Every row of the arrays is some block's. -/
theorem rows_all (R : Fin 16640) : ∃ (t : Fin cfg0.N) (r : Fin 320), R = row t r := by
  have hR := R.isLt
  exact ⟨⟨R.val / 320, by show _ < 52; omega⟩, ⟨R.val % 320, by omega⟩, Fin.ext (by show R.val = 320 * (R.val / 320) + R.val % 320; omega)⟩

theorem outs : ∀ t : Fin grid0.N, win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] := by decide +kernel

theorem rq_arr (t : Fin cfg0.N) (r : Fin 320) (k : Fin 384) :
    ((dats m 0 c).arrAt 7 cfg0.N (ix2 (row t r) k) : EReal) = out0_7 (iblk m c 0 t) (iblk m c 1 t) (iblk m c 2 t) (iblk m c 3 t) (iblk m c 4 t) (iblk m c 5 t) (iblk m c 6 t) (ix2 r k) := by
  have h := congrFun (blocks7 m c t (flush0_7 t)) (ix2 r k)
  have hi := (outs t).1
  have he : ((cfg0.win 7).blk t).view.emb (ix2 r k) = ix2 (row t r) k := by
    funext a
    apply Fin.ext
    have h0 := congrFun hi 0
    have h1 := congrFun hi 1
    match a with
    | ⟨0, _⟩ => show win0_7.index t (0 : Fin 2) * 320 + 1 * r.val = 320 * t.val + r.val; rw [h0]; show t.val * 320 + 1 * r.val = _; omega
    | ⟨1, _⟩ => show win0_7.index t (1 : Fin 2) * 384 + 1 * k.val = k.val; rw [h1]; show 0 * 384 + 1 * k.val = _; omega
  rw [← he]
  exact h.trans (congrFun (after0_7 m c t) (ix2 r k))

theorem rq_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v330 (F := Ideal) x0 x1 x2 = (dats m 0 c).arrAt 7 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  refine (Ref.rq_read _ _ _ _ _).trans (Eq.symm ((rq_arr m c t r (j 1)).trans ((rq_block m c t r (j 1)).trans ?_)))
  simp only [Nat.zero_add]

theorem rk_arr (t : Fin cfg0.N) (r : Fin 320) (k : Fin 384) :
    ((dats m 0 c).arrAt 8 cfg0.N (ix2 (row t r) k) : EReal) = out0_8 (iblk m c 0 t) (iblk m c 1 t) (iblk m c 2 t) (iblk m c 3 t) (iblk m c 4 t) (iblk m c 5 t) (iblk m c 6 t) (ix2 r k) := by
  have h := congrFun (blocks8 m c t (flush0_8 t)) (ix2 r k)
  have hi := (outs t).2.1
  have he : ((cfg0.win 8).blk t).view.emb (ix2 r k) = ix2 (row t r) k := by
    funext a
    apply Fin.ext
    have h0 := congrFun hi 0
    have h1 := congrFun hi 1
    match a with
    | ⟨0, _⟩ => show win0_8.index t (0 : Fin 2) * 320 + 1 * r.val = 320 * t.val + r.val; rw [h0]; show t.val * 320 + 1 * r.val = _; omega
    | ⟨1, _⟩ => show win0_8.index t (1 : Fin 2) * 384 + 1 * k.val = k.val; rw [h1]; show 0 * 384 + 1 * k.val = _; omega
  rw [← he]
  exact h.trans (congrFun (after0_8 m c t) (ix2 r k))

theorem rk_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v331 (F := Ideal) x0 x1 x2 = (dats m 0 c).arrAt 8 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  exact (Ref.rk_read _ _ _ _ _).trans ((rk_arr m c t r (j 1)).trans (rk_block m c t r (j 1))).symm

theorem rv_arr (t : Fin cfg0.N) (r : Fin 320) (k : Fin 384) :
    ((dats m 0 c).arrAt 9 cfg0.N (ix2 (row t r) k) : EReal) = out0_9 (iblk m c 0 t) (iblk m c 1 t) (iblk m c 2 t) (iblk m c 3 t) (iblk m c 4 t) (iblk m c 5 t) (iblk m c 6 t) (ix2 r k) := by
  have h := congrFun (blocks9 m c t (flush0_9 t)) (ix2 r k)
  have hi := (outs t).2.2.1
  have he : ((cfg0.win 9).blk t).view.emb (ix2 r k) = ix2 (row t r) k := by
    funext a
    apply Fin.ext
    have h0 := congrFun hi 0
    have h1 := congrFun hi 1
    match a with
    | ⟨0, _⟩ => show win0_9.index t (0 : Fin 2) * 320 + 1 * r.val = 320 * t.val + r.val; rw [h0]; show t.val * 320 + 1 * r.val = _; omega
    | ⟨1, _⟩ => show win0_9.index t (1 : Fin 2) * 384 + 1 * k.val = k.val; rw [h1]; show 0 * 384 + 1 * k.val = _; omega
  rw [← he]
  exact h.trans (congrFun (after0_9 m c t) (ix2 r k))

theorem rv_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v332 (F := Ideal) x0 x1 x2 = (dats m 0 c).arrAt 9 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  exact (Ref.rv_read _ _ _ _ _).trans ((rv_arr m c t r (j 1)).trans (rv_block m c t r (j 1))).symm

theorem rg_arr (t : Fin cfg0.N) (r : Fin 320) (k : Fin 384) :
    ((dats m 0 c).arrAt 10 cfg0.N (ix2 (row t r) k) : EReal) = out0_10 (iblk m c 0 t) (iblk m c 1 t) (iblk m c 2 t) (iblk m c 3 t) (iblk m c 4 t) (iblk m c 5 t) (iblk m c 6 t) (ix2 r k) := by
  have h := congrFun (blocks10 m c t (flush0_10 t)) (ix2 r k)
  have hi := (outs t).2.2.2.1
  have he : ((cfg0.win 10).blk t).view.emb (ix2 r k) = ix2 (row t r) k := by
    funext a
    apply Fin.ext
    have h0 := congrFun hi 0
    have h1 := congrFun hi 1
    match a with
    | ⟨0, _⟩ => show win0_10.index t (0 : Fin 2) * 320 + 1 * r.val = 320 * t.val + r.val; rw [h0]; show t.val * 320 + 1 * r.val = _; omega
    | ⟨1, _⟩ => show win0_10.index t (1 : Fin 2) * 384 + 1 * k.val = k.val; rw [h1]; show 0 * 384 + 1 * k.val = _; omega
  rw [← he]
  exact h.trans (congrFun (after0_10 m c t) (ix2 r k))

theorem rg_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v333 (F := Ideal) x0 x1 x2 = (dats m 0 c).arrAt 10 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  exact (Ref.rg_read _ _ _ _ _).trans ((rg_arr m c t r (j 1)).trans (rg_block m c t r (j 1))).symm

theorem bq_arr (t : Fin cfg0.N) (r : Fin 320) (k : Fin 320) :
    ((dats m 0 c).arrAt 11 cfg0.N (ix2 (row t r) k) : EReal) = out0_11 (iblk m c 0 t) (iblk m c 1 t) (iblk m c 2 t) (iblk m c 3 t) (iblk m c 4 t) (iblk m c 5 t) (iblk m c 6 t) (ix2 r k) := by
  have h := congrFun (blocks11 m c t (flush0_11 t)) (ix2 r k)
  have hi := (outs t).2.2.2.2.1
  have he : ((cfg0.win 11).blk t).view.emb (ix2 r k) = ix2 (row t r) k := by
    funext a
    apply Fin.ext
    have h0 := congrFun hi 0
    have h1 := congrFun hi 1
    match a with
    | ⟨0, _⟩ => show win0_11.index t (0 : Fin 2) * 320 + 1 * r.val = 320 * t.val + r.val; rw [h0]; show t.val * 320 + 1 * r.val = _; omega
    | ⟨1, _⟩ => show win0_11.index t (1 : Fin 2) * 320 + 1 * k.val = k.val; rw [h1]; show 0 * 320 + 1 * k.val = _; omega
  rw [← he]
  exact h.trans (congrFun (after0_11 m c t) (ix2 r k))

theorem bq_eq (hu : ∀ R f, IsReal (col m c R f)) (x0 : Vec Ideal (⟨3, ![2, 8320, 1024]⟩ : Shape) .f32) (x1 : Vec Ideal (⟨1, ![1024]⟩ : Shape) .f32) (x2 : Vec Ideal (⟨2, ![1024, 4040]⟩ : Shape) .f32) (x3 : Vec Ideal (⟨1, ![64]⟩ : Shape) .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.ProjRefIdeal.Read.val_main_v334 (F := Ideal) x0 x1 x2 x3 = (dats m 0 c).arrAt 11 cfg0.N := by
  subst h0 h1 h2 h3
  funext j
  have hj : j = ix2 (j 0) (j 1) := by
    funext a
    match a with
    | ⟨0, _⟩ => rfl
    | ⟨1, _⟩ => rfl
  obtain ⟨t, r, hr⟩ := rows_all (j 0)
  rw [hj, hr]
  exact (Ref.bq_read _ _ _ _ _ _).trans ((bq_arr m c t r (j 1)).trans (bq_block m c t r (j 1) hu)).symm

theorem bk_arr (t : Fin cfg0.N) (r : Fin 320) (k : Fin 320) :
    ((dats m 0 c).arrAt 12 cfg0.N (ix2 (row t r) k) : EReal) = out0_12 (iblk m c 0 t) (iblk m c 1 t) (iblk m c 2 t) (iblk m c 3 t) (iblk m c 4 t) (iblk m c 5 t) (iblk m c 6 t) (ix2 r k) := by
  have h := congrFun (blocks12 m c t (flush0_12 t)) (ix2 r k)
  have hi := (outs t).2.2.2.2.2.1
  have he : ((cfg0.win 12).blk t).view.emb (ix2 r k) = ix2 (row t r) k := by
    funext a
    apply Fin.ext
    have h0 := congrFun hi 0
    have h1 := congrFun hi 1
    match a with
    | ⟨0, _⟩ => show win0_12.index t (0 : Fin 2) * 320 + 1 * r.val = 320 * t.val + r.val; rw [h0]; show t.val * 320 + 1 * r.val = _; omega
    | ⟨1, _⟩ => show win0_12.index t (1 : Fin 2) * 320 + 1 * k.val = k.val; rw [h1]; show 0 * 320 + 1 * k.val = _; omega
  rw [← he]
  exact h.trans (congrFun (after0_12 m c t) (ix2 r k))

theorem bk_eq (hu : ∀ R f, IsReal (col m c R f)) (x0 : Vec Ideal (⟨3, ![2, 8320, 1024]⟩ : Shape) .f32) (x1 : Vec Ideal (⟨1, ![1024]⟩ : Shape) .f32) (x2 : Vec Ideal (⟨2, ![1024, 4040]⟩ : Shape) .f32) (x4 : Vec Ideal (⟨1, ![64]⟩ : Shape) .f32)
    (h0 : x0 = m ((c : Thread nD τ).loc main_arg0)) (h1 : x1 = m ((c : Thread nD τ).loc main_arg1)) (h2 : x2 = m ((c : Thread nD τ).loc main_arg2)) (h4 : x4 = m ((c : Thread nD τ).loc main_arg4)) :
    Cert.ProjRefIdeal.Read.val_main_v335 (F := Ideal) x0 x1 x2 x4 = (dats m 0 c).arrAt 12 cfg0.N := by
  subst h0 h1 h2 h4
  funext j
  have hj : j = ix2 (j 0) (j 1) := by
    funext a
    match a with
    | ⟨0, _⟩ => rfl
    | ⟨1, _⟩ => rfl
  obtain ⟨t, r, hr⟩ := rows_all (j 0)
  rw [hj, hr]
  exact (Ref.bk_read _ _ _ _ _ _).trans ((bk_arr m c t r (j 1)).trans (bk_block m c t r (j 1) hu)).symm

theorem bv_arr (t : Fin cfg0.N) (r : Fin 320) (k : Fin 320) :
    ((dats m 0 c).arrAt 13 cfg0.N (ix2 (row t r) k) : EReal) = out0_13 (iblk m c 0 t) (iblk m c 1 t) (iblk m c 2 t) (iblk m c 3 t) (iblk m c 4 t) (iblk m c 5 t) (iblk m c 6 t) (ix2 r k) := by
  have h := congrFun (blocks13 m c t (flush0_13 t)) (ix2 r k)
  have hi := (outs t).2.2.2.2.2.2.1
  have he : ((cfg0.win 13).blk t).view.emb (ix2 r k) = ix2 (row t r) k := by
    funext a
    apply Fin.ext
    have h0 := congrFun hi 0
    have h1 := congrFun hi 1
    match a with
    | ⟨0, _⟩ => show win0_13.index t (0 : Fin 2) * 320 + 1 * r.val = 320 * t.val + r.val; rw [h0]; show t.val * 320 + 1 * r.val = _; omega
    | ⟨1, _⟩ => show win0_13.index t (1 : Fin 2) * 320 + 1 * k.val = k.val; rw [h1]; show 0 * 320 + 1 * k.val = _; omega
  rw [← he]
  exact h.trans (congrFun (after0_13 m c t) (ix2 r k))

theorem bv_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v336 (F := Ideal) x0 x1 x2 = (dats m 0 c).arrAt 13 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  exact (Ref.bv_read _ _ _ _ _).trans ((bv_arr m c t r (j 1)).trans (bv_block m c t r (j 1))).symm

theorem iq_arr (t : Fin cfg0.N) (r : Fin 320) (k : Fin 512) :
    ((dats m 0 c).arrAt 14 cfg0.N (ix2 (row t r) k) : EReal) = out0_14 (iblk m c 0 t) (iblk m c 1 t) (iblk m c 2 t) (iblk m c 3 t) (iblk m c 4 t) (iblk m c 5 t) (iblk m c 6 t) (ix2 r k) := by
  have h := congrFun (blocks14 m c t (flush0_14 t)) (ix2 r k)
  have hi := (outs t).2.2.2.2.2.2.2.1
  have he : ((cfg0.win 14).blk t).view.emb (ix2 r k) = ix2 (row t r) k := by
    funext a
    apply Fin.ext
    have h0 := congrFun hi 0
    have h1 := congrFun hi 1
    match a with
    | ⟨0, _⟩ => show win0_14.index t (0 : Fin 2) * 320 + 1 * r.val = 320 * t.val + r.val; rw [h0]; show t.val * 320 + 1 * r.val = _; omega
    | ⟨1, _⟩ => show win0_14.index t (1 : Fin 2) * 512 + 1 * k.val = k.val; rw [h1]; show 0 * 512 + 1 * k.val = _; omega
  rw [← he]
  exact h.trans (congrFun (after0_14 m c t) (ix2 r k))

theorem iq_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v337 (F := Ideal) x0 x1 x2 = (dats m 0 c).arrAt 14 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  exact (Ref.iq_read _ _ _ _ _).trans ((iq_arr m c t r (j 1)).trans (iq_block m c t r (j 1))).symm

theorem ik_arr (t : Fin cfg0.N) (r : Fin 320) (k : Fin 64) :
    ((dats m 0 c).arrAt 15 cfg0.N (ix2 (row t r) k) : EReal) = out0_15 (iblk m c 0 t) (iblk m c 1 t) (iblk m c 2 t) (iblk m c 3 t) (iblk m c 4 t) (iblk m c 5 t) (iblk m c 6 t) (ix2 r k) := by
  have h := congrFun (blocks15 m c t (flush0_15 t)) (ix2 r k)
  have hi := (outs t).2.2.2.2.2.2.2.2.1
  have he : ((cfg0.win 15).blk t).view.emb (ix2 r k) = ix2 (row t r) k := by
    funext a
    apply Fin.ext
    have h0 := congrFun hi 0
    have h1 := congrFun hi 1
    match a with
    | ⟨0, _⟩ => show win0_15.index t (0 : Fin 2) * 320 + 1 * r.val = 320 * t.val + r.val; rw [h0]; show t.val * 320 + 1 * r.val = _; omega
    | ⟨1, _⟩ => show win0_15.index t (1 : Fin 2) * 64 + 1 * k.val = k.val; rw [h1]; show 0 * 64 + 1 * k.val = _; omega
  rw [← he]
  exact h.trans (congrFun (after0_15 m c t) (ix2 r k))

theorem ik_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v338 (F := Ideal) x0 x1 x2 = (dats m 0 c).arrAt 15 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  exact (Ref.ik_read _ _ _ _ _).trans ((ik_arr m c t r (j 1)).trans (ik_block m c t r (j 1))).symm

theorem iw_arr (t : Fin cfg0.N) (r : Fin 320) (k : Fin 8) :
    ((dats m 0 c).arrAt 16 cfg0.N (ix2 (row t r) k) : EReal) = out0_16 (iblk m c 0 t) (iblk m c 1 t) (iblk m c 2 t) (iblk m c 3 t) (iblk m c 4 t) (iblk m c 5 t) (iblk m c 6 t) (ix2 r k) := by
  have h := congrFun (blocks16 m c t (flush0_16 t)) (ix2 r k)
  have hi := (outs t).2.2.2.2.2.2.2.2.2.1
  have he : ((cfg0.win 16).blk t).view.emb (ix2 r k) = ix2 (row t r) k := by
    funext a
    apply Fin.ext
    have h0 := congrFun hi 0
    have h1 := congrFun hi 1
    match a with
    | ⟨0, _⟩ => show win0_16.index t (0 : Fin 2) * 320 + 1 * r.val = 320 * t.val + r.val; rw [h0]; show t.val * 320 + 1 * r.val = _; omega
    | ⟨1, _⟩ => show win0_16.index t (1 : Fin 2) * 8 + 1 * k.val = k.val; rw [h1]; show 0 * 8 + 1 * k.val = _; omega
  rw [← he]
  exact h.trans (congrFun (after0_16 m c t) (ix2 r k))

theorem iw_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v339 (F := Ideal) x0 x1 x2 = (dats m 0 c).arrAt 16 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  exact (Ref.iw_read _ _ _ _ _).trans ((iw_arr m c t r (j 1)).trans (iw_block m c t r (j 1))).symm

theorem cq_arr (t : Fin cfg0.N) (r : Fin 320) (k : Fin 320) :
    ((dats m 0 c).arrAt 17 cfg0.N (ix2 (row t r) k) : EReal) = out0_17 (iblk m c 0 t) (iblk m c 1 t) (iblk m c 2 t) (iblk m c 3 t) (iblk m c 4 t) (iblk m c 5 t) (iblk m c 6 t) (ix2 r k) := by
  have h := congrFun (blocks17 m c t (flush0_17 t)) (ix2 r k)
  have hi := (outs t).2.2.2.2.2.2.2.2.2.2.1
  have he : ((cfg0.win 17).blk t).view.emb (ix2 r k) = ix2 (row t r) k := by
    funext a
    apply Fin.ext
    have h0 := congrFun hi 0
    have h1 := congrFun hi 1
    match a with
    | ⟨0, _⟩ => show win0_17.index t (0 : Fin 2) * 320 + 1 * r.val = 320 * t.val + r.val; rw [h0]; show t.val * 320 + 1 * r.val = _; omega
    | ⟨1, _⟩ => show win0_17.index t (1 : Fin 2) * 320 + 1 * k.val = k.val; rw [h1]; show 0 * 320 + 1 * k.val = _; omega
  rw [← he]
  exact h.trans (congrFun (after0_17 m c t) (ix2 r k))

theorem cq_eq (hu : ∀ R f, IsReal (col m c R f)) (x0 : Vec Ideal (⟨3, ![2, 8320, 1024]⟩ : Shape) .f32) (x1 : Vec Ideal (⟨1, ![1024]⟩ : Shape) .f32) (x2 : Vec Ideal (⟨2, ![1024, 4040]⟩ : Shape) .f32) (x5 : Vec Ideal (⟨1, ![32]⟩ : Shape) .f32)
    (h0 : x0 = m ((c : Thread nD τ).loc main_arg0)) (h1 : x1 = m ((c : Thread nD τ).loc main_arg1)) (h2 : x2 = m ((c : Thread nD τ).loc main_arg2)) (h5 : x5 = m ((c : Thread nD τ).loc main_arg5)) :
    Cert.ProjRefIdeal.Read.val_main_v340 (F := Ideal) x0 x1 x2 x5 = (dats m 0 c).arrAt 17 cfg0.N := by
  subst h0 h1 h2 h5
  funext j
  have hj : j = ix2 (j 0) (j 1) := by
    funext a
    match a with
    | ⟨0, _⟩ => rfl
    | ⟨1, _⟩ => rfl
  obtain ⟨t, r, hr⟩ := rows_all (j 0)
  rw [hj, hr]
  exact (Ref.cq_read _ _ _ _ _ _).trans ((cq_arr m c t r (j 1)).trans (cq_block m c t r (j 1) hu)).symm

theorem ck_arr (t : Fin cfg0.N) (r : Fin 320) (k : Fin 320) :
    ((dats m 0 c).arrAt 18 cfg0.N (ix2 (row t r) k) : EReal) = out0_18 (iblk m c 0 t) (iblk m c 1 t) (iblk m c 2 t) (iblk m c 3 t) (iblk m c 4 t) (iblk m c 5 t) (iblk m c 6 t) (ix2 r k) := by
  have h := congrFun (blocks18 m c t (flush0_18 t)) (ix2 r k)
  have hi := (outs t).2.2.2.2.2.2.2.2.2.2.2.1
  have he : ((cfg0.win 18).blk t).view.emb (ix2 r k) = ix2 (row t r) k := by
    funext a
    apply Fin.ext
    have h0 := congrFun hi 0
    have h1 := congrFun hi 1
    match a with
    | ⟨0, _⟩ => show win0_18.index t (0 : Fin 2) * 320 + 1 * r.val = 320 * t.val + r.val; rw [h0]; show t.val * 320 + 1 * r.val = _; omega
    | ⟨1, _⟩ => show win0_18.index t (1 : Fin 2) * 320 + 1 * k.val = k.val; rw [h1]; show 0 * 320 + 1 * k.val = _; omega
  rw [← he]
  exact h.trans (congrFun (after0_18 m c t) (ix2 r k))

theorem ck_eq (hu : ∀ R f, IsReal (col m c R f)) (x0 : Vec Ideal (⟨3, ![2, 8320, 1024]⟩ : Shape) .f32) (x1 : Vec Ideal (⟨1, ![1024]⟩ : Shape) .f32) (x2 : Vec Ideal (⟨2, ![1024, 4040]⟩ : Shape) .f32) (x6 : Vec Ideal (⟨1, ![32]⟩ : Shape) .f32)
    (h0 : x0 = m ((c : Thread nD τ).loc main_arg0)) (h1 : x1 = m ((c : Thread nD τ).loc main_arg1)) (h2 : x2 = m ((c : Thread nD τ).loc main_arg2)) (h6 : x6 = m ((c : Thread nD τ).loc main_arg6)) :
    Cert.ProjRefIdeal.Read.val_main_v341 (F := Ideal) x0 x1 x2 x6 = (dats m 0 c).arrAt 18 cfg0.N := by
  subst h0 h1 h2 h6
  funext j
  have hj : j = ix2 (j 0) (j 1) := by
    funext a
    match a with
    | ⟨0, _⟩ => rfl
    | ⟨1, _⟩ => rfl
  obtain ⟨t, r, hr⟩ := rows_all (j 0)
  rw [hj, hr]
  exact (Ref.ck_read _ _ _ _ _ _).trans ((ck_arr m c t r (j 1)).trans (ck_block m c t r (j 1) hu)).symm

theorem cv_arr (t : Fin cfg0.N) (r : Fin 320) (k : Fin 320) :
    ((dats m 0 c).arrAt 19 cfg0.N (ix2 (row t r) k) : EReal) = out0_19 (iblk m c 0 t) (iblk m c 1 t) (iblk m c 2 t) (iblk m c 3 t) (iblk m c 4 t) (iblk m c 5 t) (iblk m c 6 t) (ix2 r k) := by
  have h := congrFun (blocks19 m c t (flush0_19 t)) (ix2 r k)
  have hi := (outs t).2.2.2.2.2.2.2.2.2.2.2.2
  have he : ((cfg0.win 19).blk t).view.emb (ix2 r k) = ix2 (row t r) k := by
    funext a
    apply Fin.ext
    have h0 := congrFun hi 0
    have h1 := congrFun hi 1
    match a with
    | ⟨0, _⟩ => show win0_19.index t (0 : Fin 2) * 320 + 1 * r.val = 320 * t.val + r.val; rw [h0]; show t.val * 320 + 1 * r.val = _; omega
    | ⟨1, _⟩ => show win0_19.index t (1 : Fin 2) * 320 + 1 * k.val = k.val; rw [h1]; show 0 * 320 + 1 * k.val = _; omega
  rw [← he]
  exact h.trans (congrFun (after0_19 m c t) (ix2 r k))

theorem cv_eq (x0 : Vec Ideal (⟨3, ![2, 8320, 1024]⟩ : Shape) .f32) (x1 : Vec Ideal (⟨1, ![1024]⟩ : Shape) .f32) (x2 : Vec Ideal (⟨2, ![1024, 4040]⟩ : Shape) .f32)
    (h0 : x0 = m ((c : Thread nD τ).loc main_arg0)) (h1 : x1 = m ((c : Thread nD τ).loc main_arg1)) (h2 : x2 = m ((c : Thread nD τ).loc main_arg2)) :
    Cert.ProjRefIdeal.Read.val_main_v342 (F := Ideal) x0 x1 x2 = (dats m 0 c).arrAt 19 cfg0.N := by
  subst h0 h1 h2
  funext j
  have hj : j = ix2 (j 0) (j 1) := by
    funext a
    match a with
    | ⟨0, _⟩ => rfl
    | ⟨1, _⟩ => rfl
  obtain ⟨t, r, hr⟩ := rows_all (j 0)
  rw [hj, hr]
  exact (Ref.cv_read _ _ _ _ _).trans ((cv_arr m c t r (j 1)).trans (cv_block m c t r (j 1))).symm

end Cert.Proof.Proj

end
-- ==== Proof.lean ====
/- The proof of the claims: the frames, the equality of the chunked retention with the retention written on the whole
   sequence, that of the tiled feed-forward block with the block written on the whole sequence, and that of the tiled
   projection with the projection written on the whole sequence. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_proj
public import proofs.«01_k».proof.Proof.Gen.KernelIdeal.Value
public import proofs.«01_k».proof.Proof.Gen.ReferenceIdeal.Run
public import proofs.«01_k».proof.Proof.Gen.ReferenceIdeal.Read
public import proofs.«01_k».proof.Proof.Ret.Final
public import proofs.«01_k».proof.Proof.Ffn.Final
public import proofs.«01_k».proof.Proof.Proj.Final
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-- The reference of the retention runs and leaves its arguments as they were. -/
theorem frame_ret_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => ⟨(h c).2.2.1, (h c).2.2.2.1, (h c).2.2.2.2⟩, sem_eq_zero_of_no_sems (by decide) r.2⟩)
    (Cert.ReferenceIdeal.Value.run (F := Ideal) m ρ)

/-- The chunked retention and the retention over the whole sequence end with equal results. -/
theorem algebraic_ret : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Value.G8 m c, fun c => Cert.KernelIdeal.Value.G9 m c, Cert.KernelIdeal.Value.run (F := Ideal) m g, ?_⟩
  refine (θ_run Cert.ReferenceIdeal.defs _ _).mono (fun r h c => ?_) (Cert.ReferenceIdeal.Value.run (F := Ideal) m' g')
  obtain ⟨ho, hs, ha⟩ := h c
  obtain ⟨e0, e1, e2⟩ := hagree c
  obtain ⟨hQ, hK, hU⟩ := Cert.RetFinal.real_of_pre _ _ _ (fun i => congrFun (hpre c) i)
  refine ⟨?_, ?_, ha⟩
  · refine ho.trans ((Cert.ReferenceIdeal.Read.val_main_v130_eq (F := Ideal) _ _ _).trans ?_)
    rw [e0, e1, e2]
    exact Cert.RetFinal.out_eq m c hQ hK hU
  · refine hs.trans ((Cert.ReferenceIdeal.Read.val_main_v129_eq (F := Ideal) _ _).trans ?_)
    rw [e1, e2]
    exact Cert.RetFinal.state_eq m c hK hU

/-- The feed-forward kernel and its idealization are the same program. -/
theorem body_ffn : Cert.Ffn.defs₀ (F := Bits) = Cert.FfnIdeal.defs₀ (F := Bits) := by
  unfold Cert.Ffn.defs₀ Cert.FfnIdeal.defs₀
  refine congrArg Defs.onTc (funext fun l => funext fun a => ?_)
  match l, a with
  | ⟨0, _⟩, (t, s) => rfl

theorem defs_ffn : Cert.Ffn.defs (F := Bits) = Cert.FfnIdeal.defs (F := Bits) := congrArg (Pipeline.defs Cert.Ffn.pcfgs) body_ffn

/-- The feed-forward kernel runs and leaves its arguments as they were. -/
theorem frame_ffn (m : (ℓ : Loc Cert.Ffn.nD Cert.Ffn.τ Cert.Ffn.sig) → Buf (Elt Bits) ℓ) (ρ : Dev Cert.Ffn.nD → PrngReg) :
    θ_run (Cert.Ffn.defs (F := Bits)) (onTc (τ := Cert.Ffn.τ) (Cert.Ffn.main (F := Bits))) ⟨m, fun _ => 0, ρ⟩ (fun r =>
      (∀ c : Dev Cert.Ffn.nD,
        r.2.mem ((c.tc : Thread Cert.Ffn.nD Cert.Ffn.τ).loc Cert.Ffn.main_arg0) = m ((c.tc : Thread Cert.Ffn.nD Cert.Ffn.τ).loc Cert.Ffn.main_arg0)
        ∧ r.2.mem ((c.tc : Thread Cert.Ffn.nD Cert.Ffn.τ).loc Cert.Ffn.main_arg1) = m ((c.tc : Thread Cert.Ffn.nD Cert.Ffn.τ).loc Cert.Ffn.main_arg1)
        ∧ r.2.mem ((c.tc : Thread Cert.Ffn.nD Cert.Ffn.τ).loc Cert.Ffn.main_arg2) = m ((c.tc : Thread Cert.Ffn.nD Cert.Ffn.τ).loc Cert.Ffn.main_arg2)
        ∧ r.2.mem ((c.tc : Thread Cert.Ffn.nD Cert.Ffn.τ).loc Cert.Ffn.main_arg3) = m ((c.tc : Thread Cert.Ffn.nD Cert.Ffn.τ).loc Cert.Ffn.main_arg3)
        ∧ r.2.mem ((c.tc : Thread Cert.Ffn.nD Cert.Ffn.τ).loc Cert.Ffn.main_arg4) = m ((c.tc : Thread Cert.Ffn.nD Cert.Ffn.τ).loc Cert.Ffn.main_arg4)
        ∧ r.2.mem ((c.tc : Thread Cert.Ffn.nD Cert.Ffn.τ).loc Cert.Ffn.main_arg5) = m ((c.tc : Thread Cert.Ffn.nD Cert.Ffn.τ).loc Cert.Ffn.main_arg5)
        ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0) :=
  defs_ffn ▸ Cert.Proof.Ffn.frame (F := Bits) m ρ

/-- The reference of the feed-forward block runs and leaves its arguments as they were. -/
theorem frame_ffn_ref (m : (ℓ : Loc Cert.FfnRefIdeal.nD Cert.FfnRefIdeal.τ Cert.FfnRefIdeal.sig) → Buf (Elt Ideal) ℓ)
    (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ (fun r =>
      (∀ c : Dev Cert.FfnRefIdeal.nD,
        r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
        ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
        ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
        ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
        ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
        ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
        ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0) :=
  (θ_run Cert.FfnRefIdeal.defs _ _).mono (fun r h => ⟨fun c => (h c).2.2, sem_eq_zero_of_no_sems (by decide) r.2⟩)
    (Cert.FfnRefIdeal.Value.run (F := Ideal) m ρ)

/-- The tiled feed-forward block and the block over the whole sequence end with equal results. -/
theorem algebraic_ffn : Cert.algebraic_FfnIdeal_FfnRefIdeal (hFfnIdeal := Cert.FfnIdeal.Gen.facts) (hFfnRefIdeal := Cert.FfnRefIdeal.Gen.facts) := by
  intro m g m' g' _ hagree
  refine ⟨fun c => Cert.Proof.Ffn.resOut m c, fun c => Cert.Proof.Ffn.resState m c, Cert.Proof.Ffn.run_values m g, ?_⟩
  refine (θ_run Cert.FfnRefIdeal.defs _ _).mono (fun r h c => ?_) (Cert.FfnRefIdeal.Value.run (F := Ideal) m' g')
  obtain ⟨ho, hs, ha⟩ := h c
  obtain ⟨e0, e1, e2, e3, e4, e5, e6⟩ := hagree c
  refine ⟨?_, ?_, ha⟩
  · refine ho.trans ((Cert.FfnRefIdeal.Read.val_main_v92_eq (F := Ideal) m' c).trans ?_)
    rw [e0, e1, e2, e3, e4, e5, e6]
    exact Cert.Proof.Ffn.out_eq m c
  · refine hs.trans ((Cert.FfnRefIdeal.Read.val_main_v91_eq (F := Ideal) _ _ _).trans ?_)
    rw [e0, e1, e2]
    exact Cert.Proof.Ffn.state_eq m c

/-- The reference of the projection runs and leaves its arguments as they were. -/
theorem frame_proj_ref (m : (ℓ : Loc Cert.ProjRefIdeal.nD Cert.ProjRefIdeal.τ Cert.ProjRefIdeal.sig) → Buf (Elt Ideal) ℓ)
    (ρ : Dev Cert.ProjRefIdeal.nD → PrngReg) :
    θ_run (Cert.ProjRefIdeal.defs (F := Ideal)) (onTc (τ := Cert.ProjRefIdeal.τ) (Cert.ProjRefIdeal.main (F := Ideal))) ⟨m, fun _ => 0, ρ⟩ (fun r =>
      (∀ c : Dev Cert.ProjRefIdeal.nD,
        r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
        ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
        ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
        ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
        ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
        ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
        ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0) :=
  (θ_run Cert.ProjRefIdeal.defs _ _).mono (fun r h => ⟨fun c => (h c).2.2.2.2.2.2.2.2.2.2.2.2.2, sem_eq_zero_of_no_sems (by decide) r.2⟩)
    (Cert.ProjRefIdeal.Value.run (F := Ideal) m ρ)

set_option maxHeartbeats 4000000 in
/-- The tiled projection and the projection over the whole sequence end with equal results. -/
theorem algebraic_proj : Cert.algebraic_ProjIdeal_ProjRefIdeal_pre_finite_proj (hProjIdeal := Cert.ProjIdeal.Gen.facts)
    (hProjRefIdeal := Cert.ProjRefIdeal.Gen.facts) (hPre_finite_proj := Cert.Pre_finite_proj.Gen.facts) := by
  intro m g m' g' hpre hagree
  refine ⟨fun c => (Cert.ProjIdeal.Gen.dats m 0 c).arrAt 7 Cert.ProjIdeal.cfg0.N,
    fun c => (Cert.ProjIdeal.Gen.dats m 0 c).arrAt 8 Cert.ProjIdeal.cfg0.N,
    fun c => (Cert.ProjIdeal.Gen.dats m 0 c).arrAt 9 Cert.ProjIdeal.cfg0.N,
    fun c => (Cert.ProjIdeal.Gen.dats m 0 c).arrAt 10 Cert.ProjIdeal.cfg0.N,
    fun c => (Cert.ProjIdeal.Gen.dats m 0 c).arrAt 11 Cert.ProjIdeal.cfg0.N,
    fun c => (Cert.ProjIdeal.Gen.dats m 0 c).arrAt 12 Cert.ProjIdeal.cfg0.N,
    fun c => (Cert.ProjIdeal.Gen.dats m 0 c).arrAt 13 Cert.ProjIdeal.cfg0.N,
    fun c => (Cert.ProjIdeal.Gen.dats m 0 c).arrAt 14 Cert.ProjIdeal.cfg0.N,
    fun c => (Cert.ProjIdeal.Gen.dats m 0 c).arrAt 15 Cert.ProjIdeal.cfg0.N,
    fun c => (Cert.ProjIdeal.Gen.dats m 0 c).arrAt 16 Cert.ProjIdeal.cfg0.N,
    fun c => (Cert.ProjIdeal.Gen.dats m 0 c).arrAt 17 Cert.ProjIdeal.cfg0.N,
    fun c => (Cert.ProjIdeal.Gen.dats m 0 c).arrAt 18 Cert.ProjIdeal.cfg0.N,
    fun c => (Cert.ProjIdeal.Gen.dats m 0 c).arrAt 19 Cert.ProjIdeal.cfg0.N,
    (θ_run Cert.ProjIdeal.defs _ _).mono (fun r h c => ?_) (Cert.ProjIdeal.Value.run_blocks (F := Ideal) m g), ?_⟩
  · exact (h c).imp_right (And.imp_right (And.imp_right (And.imp_right (And.imp_right (And.imp_right (And.imp_right (And.imp_right
      (And.imp_right (And.imp_right (And.imp_right (And.imp_right (And.imp_right fun k => k.2.2))))))))))))
  · refine (θ_run Cert.ProjRefIdeal.defs _ _).mono (fun r h c => ?_) (Cert.ProjRefIdeal.Value.run (F := Ideal) m' g')
    obtain ⟨h0, h1, h2, h3, h4, h5, h6, h7, h8, h9, h10, h11, h12, ha⟩ := h c
    obtain ⟨e0, e1, e2, e3, e4, e5, e6⟩ := hagree c
    obtain ⟨r0, r1, r2⟩ := Cert.Proof.Proj.real_of_pre _ _ _ _ _ _ _ (congrFun (hpre c) ix0)
    have hu := Cert.Proof.Proj.col_real m c r0 r1 r2
    refine ⟨?_, ?_, ?_, ?_, ?_, ?_, ?_, ?_, ?_, ?_, ?_, ?_, ?_, ha⟩
    · exact h0.trans ((Cert.ProjRefIdeal.Read.val_main_v330_eq (F := Ideal) _).trans (Cert.Proof.Proj.rq_eq m c _ _ _ e0 e1 e2))
    · exact h1.trans ((Cert.ProjRefIdeal.Read.val_main_v331_eq (F := Ideal) _).trans (Cert.Proof.Proj.rk_eq m c _ _ _ e0 e1 e2))
    · exact h2.trans ((Cert.ProjRefIdeal.Read.val_main_v332_eq (F := Ideal) _).trans (Cert.Proof.Proj.rv_eq m c _ _ _ e0 e1 e2))
    · exact h3.trans ((Cert.ProjRefIdeal.Read.val_main_v333_eq (F := Ideal) _).trans (Cert.Proof.Proj.rg_eq m c _ _ _ e0 e1 e2))
    · exact h4.trans ((Cert.ProjRefIdeal.Read.val_main_v334_eq (F := Ideal) _).trans (Cert.Proof.Proj.bq_eq m c hu _ _ _ _ e0 e1 e2 e3))
    · exact h5.trans ((Cert.ProjRefIdeal.Read.val_main_v335_eq (F := Ideal) _).trans (Cert.Proof.Proj.bk_eq m c hu _ _ _ _ e0 e1 e2 e4))
    · exact h6.trans ((Cert.ProjRefIdeal.Read.val_main_v336_eq (F := Ideal) _).trans (Cert.Proof.Proj.bv_eq m c _ _ _ e0 e1 e2))
    · exact h7.trans ((Cert.ProjRefIdeal.Read.val_main_v337_eq (F := Ideal) _).trans (Cert.Proof.Proj.iq_eq m c _ _ _ e0 e1 e2))
    · exact h8.trans ((Cert.ProjRefIdeal.Read.val_main_v338_eq (F := Ideal) _).trans (Cert.Proof.Proj.ik_eq m c _ _ _ e0 e1 e2))
    · exact h9.trans ((Cert.ProjRefIdeal.Read.val_main_v339_eq (F := Ideal) _).trans (Cert.Proof.Proj.iw_eq m c _ _ _ e0 e1 e2))
    · exact h10.trans ((Cert.ProjRefIdeal.Read.val_main_v340_eq (F := Ideal) _).trans (Cert.Proof.Proj.cq_eq m c hu _ _ _ _ e0 e1 e2 e5))
    · exact h11.trans ((Cert.ProjRefIdeal.Read.val_main_v341_eq (F := Ideal) _).trans (Cert.Proof.Proj.ck_eq m c hu _ _ _ _ e0 e1 e2 e6))
    · exact h12.trans ((Cert.ProjRefIdeal.Read.val_main_v342_eq (F := Ideal) _).trans (Cert.Proof.Proj.cv_eq m c _ _ _ e0 e1 e2))

theorem claim : Cert.Claim := ⟨Cert.Kernel.Gen.facts, Cert.KernelIdeal.Gen.facts, Cert.ReferenceIdeal.Gen.facts, Cert.Ffn.Gen.facts, Cert.FfnIdeal.Gen.facts,
  Cert.FfnRefIdeal.Gen.facts, Cert.Proj.Gen.facts, Cert.ProjIdeal.Gen.facts, Cert.ProjRefIdeal.Gen.facts, Cert.Pre_finite.Gen.facts, Cert.Pre_finite_proj.Gen.facts,
  fun m ρ _ => Cert.Kernel.Gen.frame m ρ, fun m ρ _ => Cert.KernelIdeal.Gen.frame m ρ, fun m ρ _ => Cert.KernelIdeal.Gen.frame m ρ,
  fun m ρ _ => frame_ret_ref m ρ, fun m ρ _ => frame_ret_ref m ρ,
  fun m ρ _ => frame_ffn m ρ, fun m ρ _ => Cert.Proof.Ffn.frame m ρ, fun m ρ _ => frame_ffn_ref m ρ,
  fun m ρ _ => Cert.Proj.Gen.frame m ρ, fun m ρ _ => Cert.ProjIdeal.Gen.frame m ρ, fun m ρ _ => Cert.ProjIdeal.Gen.frame m ρ,
  fun m ρ _ => frame_proj_ref m ρ, fun m ρ _ => frame_proj_ref m ρ,
  trivial, algebraic_ret, trivial, algebraic_ffn, trivial, algebraic_proj⟩

end Cert.Proof

end
